-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_tables_in_range : Cert.Pre_tables_in_range.Facts] (m : (ℓ : Loc Cert.Kernel4.nD Cert.Kernel4.τ Cert.Kernel4.sig) → Buf (Elt Bits) ℓ) : Prop :=
  ∀ c : Dev Cert.Kernel4.nD,
    (Cert.Pre_tables_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))) = (fun _ => 1#1)

def Pre_Kernel4Ideal [hPre_tables_in_range : Cert.Pre_tables_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_tables_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal [hPre_tables_in_range : Cert.Pre_tables_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_tables_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] [hPre_tables_in_range : Cert.Pre_tables_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] [hPre_tables_in_range : Cert.Pre_tables_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] [hPre_tables_in_range : Cert.Pre_tables_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] [hPre_tables_in_range : Cert.Pre_tables_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_in_range : Cert.Pre_tables_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_tables_in_range := hPre_tables_in_range)
    ∧ quiescent_Kernel4Ideal (hKernel4Ideal := hKernel4Ideal) (hPre_tables_in_range := hPre_tables_in_range)
    ∧ quiescent_Reference4Ideal (hReference4Ideal := hReference4Ideal) (hPre_tables_in_range := hPre_tables_in_range)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_tables_in_range := hPre_tables_in_range)
-- ==== Pre_tables_in_range.lean ====
abbrev S16384x16x128 : Shape := ⟨3, ![16384, 16, 128]⟩
abbrev S36864 : Shape := ⟨1, ![36864]⟩
abbrev S72 : Shape := ⟨1, ![72]⟩
abbrev S1 : Shape := ⟨1, ![1]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S36864 : S_.BroadcastsInDim S36864 (![] : Fin 0 → Fin S36864.rank)
  reducesTo_S36864_S_d0 : S36864.ReducesTo [0] S_
  h_S_ : 0 < S_.numel
  bcast_S_S72 : S_.BroadcastsInDim S72 (![] : Fin 0 → Fin S72.rank)
  reducesTo_S72_S_d0 : S72.ReducesTo [0] S_

variable [Facts]

def fn {F : FTy → Type} [FloatOps F] (main_arg0 : FVec F S16384x16x128 .f32) (main_arg1 : IVec S36864 32) (main_arg2 : IVec S72 32) (main_arg3 : IVec S1 32) (main_arg4 : FVec F S8x2048x5632 .f32) (main_arg5 : FVec F S8x2048x5632 .f32) (main_arg6 : FVec F S8x5632x2048 .f32) : IVec S_ 1 :=
  let main_c : IVec S_ 32 := constantI S_ 32 0#32
  let main_v0 : IVec S36864 32 := broadcastInDim S36864 ![] bcast_S_S36864 main_c
  let main_v1 : IVec S36864 1 := cmpi .sge main_arg1 main_v0
  let main_c_0 : IVec S_ 32 := constantI S_ 32 16384#32
  let main_v2 : IVec S36864 32 := broadcastInDim S36864 ![] bcast_S_S36864 main_c_0
  let main_v3 : IVec S36864 1 := cmpi .slt main_arg1 main_v2
  let main_v4 : IVec S36864 1 := andi main_v1 main_v3
  let main_c_1 : IVec S_ 1 := constantI S_ 1 1#1
  let main_v5 : IVec S_ 1 := (fun x v => Host.reduce IntOp.andi x v reducesTo_S36864_S_d0 h_S_) main_v4 main_c_1
  let main_c_2 : IVec S_ 32 := constantI S_ 32 0#32
  let main_v6 : IVec S72 32 := broadcastInDim S72 ![] bcast_S_S72 main_c_2
  let main_v7 : IVec S72 1 := cmpi .sge main_arg2 main_v6
  let main_c_3 : IVec S_ 32 := constantI S_ 32 8#32
  let main_v8 : IVec S72 32 := broadcastInDim S72 ![] bcast_S_S72 main_c_3
  let main_v9 : IVec S72 1 := cmpi .slt main_arg2 main_v8
  let main_v10 : IVec S72 1 := andi main_v7 main_v9
  let main_c_4 : IVec S_ 1 := constantI S_ 1 1#1
  let main_v11 : IVec S_ 1 := (fun x v => Host.reduce IntOp.andi x v reducesTo_S72_S_d0 h_S_) main_v10 main_c_4
  let main_v12 : IVec S_ 1 := andi main_v5 main_v11
  main_v12
-- ==== Kernel.lean ====
abbrev S8x2048x2048 : Shape := ⟨3, ![8, 2048, 2048]⟩
abbrev S2048 : Shape := ⟨1, ![2048]⟩
abbrev S2048x5632 : Shape := ⟨2, ![2048, 5632]⟩
abbrev S5632x2048 : Shape := ⟨2, ![5632, 2048]⟩
abbrev S16384x2048 : Shape := ⟨2, ![16384, 2048]⟩
abbrev S1x2048 : Shape := ⟨2, ![1, 2048]⟩
abbrev S1024x2048 : Shape := ⟨2, ![1024, 2048]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 8
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S1x2048, .f32⟩
  | .hbm, ⟨7, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x2048, .f32⟩
  | .local _ .vmem, ⟨8, _⟩ => ⟨S256x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x2048x2048 : Shape := ⟨3, ![8, 2048, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x5632 : Shape := ⟨3, ![8, 2048, 5632]⟩
abbrev S16384x2048 : Shape := ⟨2, ![16384, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S8x2048x5632, .f32⟩
  | .hbm, ⟨22, _⟩ => ⟨S8x2048x5632, .f32⟩
  | .hbm, ⟨23, _⟩ => ⟨S8x2048x5632, .f32⟩
  | .hbm, ⟨24, _⟩ => ⟨S_, .f32⟩
  | .hbm, ⟨25, _⟩ => ⟨S8x2048x5632, .f32⟩
  | .hbm, ⟨26, _⟩ => ⟨S8x2048x5632, .f32⟩
  | .hbm, ⟨27, _⟩ => ⟨S_, .f32⟩
  | .hbm, ⟨28, _⟩ => ⟨S8x2048x5632, .f32⟩
  | .hbm, ⟨29, _⟩ => ⟨S8x2048x5632, .f32⟩
  | .hbm, ⟨30, _⟩ => ⟨S8x2048x5632, .f32⟩
  | .hbm, ⟨31, _⟩ => ⟨S8x2048x5632, .f32⟩
  | .hbm, ⟨32, _⟩ => ⟨S8x2048x5632, .f32⟩
  | .hbm, ⟨33, _⟩ => ⟨S8x2048x2048, .f32⟩
  | .hbm, ⟨34, _⟩ => ⟨S8x2048x2048, .f32⟩
  | .hbm, ⟨35, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel2.lean ====
abbrev S8x2048x2048 : Shape := ⟨3, ![8, 2048, 2048]⟩
abbrev S2048 : Shape := ⟨1, ![2048]⟩
abbrev S2048x11296 : Shape := ⟨2, ![2048, 11296]⟩
abbrev S11296 : Shape := ⟨1, ![11296]⟩
abbrev S2048x4096 : Shape := ⟨2, ![2048, 4096]⟩
abbrev S2048x7168 : Shape := ⟨2, ![2048, 7168]⟩
abbrev S2048x11264 : Shape := ⟨2, ![2048, 11264]⟩
abbrev S4096 : Shape := ⟨1, ![4096]⟩
abbrev S7168 : Shape := ⟨1, ![7168]⟩
abbrev S11264 : Shape := ⟨1, ![11264]⟩
abbrev S1x11264 : Shape := ⟨2, ![1, 11264]⟩
abbrev S16384x2048 : Shape := ⟨2, ![16384, 2048]⟩
abbrev S1x2048 : Shape := ⟨2, ![1, 2048]⟩
abbrev S2048x32 : Shape := ⟨2, ![2048, 32]⟩
abbrev S32 : Shape := ⟨1, ![32]⟩
abbrev S1x32 : Shape := ⟨2, ![1, 32]⟩
abbrev S16384x11264 : Shape := ⟨2, ![16384, 11264]⟩
abbrev S16384x32 : Shape := ⟨2, ![16384, 32]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1024x32 : Shape := ⟨2, ![1024, 32]⟩
abbrev S1024 : Shape := ⟨1, ![1024]⟩
abbrev S1024x1 : Shape := ⟨2, ![1024, 1]⟩

abbrev nBuf : Space → Nat
  | .hbm => 20
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x11296, .f32⟩
  | .hbm, ⟨3, _⟩ => ⟨S11296, .f32⟩
  | .hbm, ⟨4, _⟩ => ⟨S2048x4096, .f32⟩
  | .hbm, ⟨5, _⟩ => ⟨S2048x7168, .f32⟩
  | .hbm, ⟨6, _⟩ => ⟨S2048x11264, .f32⟩
  | .hbm, ⟨7, _⟩ => ⟨S2048x11264, .bf16⟩
  | .hbm, ⟨8, _⟩ => ⟨S4096, .f32⟩
  | .hbm, ⟨9, _⟩ => ⟨S7168, .f32⟩
  | .hbm, ⟨10, _⟩ => ⟨S11264, .f32⟩
  | .hbm, ⟨11, _⟩ => ⟨S1x11264, .f32⟩
  | .hbm, ⟨12, _⟩ => ⟨S16384x2048, .f32⟩
  | .hbm, ⟨13, _⟩ => ⟨S1x2048, .f32⟩
  | .hbm, ⟨14, _⟩ => ⟨S2048x32, .f32⟩
  | .hbm, ⟨15, _⟩ => ⟨S32, .f32⟩
  | .hbm, ⟨16, _⟩ => ⟨S1x32, .f32⟩
  | .hbm, ⟨17, _⟩ => ⟨S2048x32, .bf16⟩
  | .hbm, ⟨18, _⟩ => ⟨S16384x11264, .bf16⟩
  | .hbm, ⟨19, _⟩ => ⟨S16384x32, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x32, .bf16⟩
  | .local _ .vmem, ⟨4, _⟩ => ⟨S1x32, .f32⟩
  | .local _ .vmem, ⟨5, _⟩ => ⟨S2048x1024, .bf16⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x32, .f32⟩
  | .local _ .vmem, ⟨12, _⟩ => ⟨S1024x32, .f32⟩
  | .local _ .vmem, ⟨13, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S8x2048x2048 : Shape := ⟨3, ![8, 2048, 2048]⟩
abbrev S2048 : Shape := ⟨1, ![2048]⟩
abbrev S2048x11296 : Shape := ⟨2, ![2048, 11296]⟩
abbrev S11296 : Shape := ⟨1, ![11296]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x11296 : Shape := ⟨3, ![8, 2048, 11296]⟩
abbrev S1x1x11296 : Shape := ⟨3, ![1, 1, 11296]⟩
abbrev S16384x11296 : Shape := ⟨2, ![16384, 11296]⟩
abbrev S16384x4096 : Shape := ⟨2, ![16384, 4096]⟩
abbrev S16384x7168 : Shape := ⟨2, ![16384, 7168]⟩
abbrev S16384x11264 : Shape := ⟨2, ![16384, 11264]⟩
abbrev S16384x32 : Shape := ⟨2, ![16384, 32]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x11296, .f32⟩
  | .hbm, ⟨3, _⟩ => ⟨S11296, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S8x2048x11296, .f32⟩
  | .hbm, ⟨21, _⟩ => ⟨S1x1x11296, .f32⟩
  | .hbm, ⟨22, _⟩ => ⟨S8x2048x11296, .f32⟩
  | .hbm, ⟨23, _⟩ => ⟨S8x2048x11296, .f32⟩
  | .hbm, ⟨24, _⟩ => ⟨S16384x11296, .f32⟩
  | .hbm, ⟨25, _⟩ => ⟨S16384x4096, .f32⟩
  | .hbm, ⟨26, _⟩ => ⟨S16384x7168, .f32⟩
  | .hbm, ⟨27, _⟩ => ⟨S16384x11264, .f32⟩
  | .hbm, ⟨28, _⟩ => ⟨S16384x11264, .bf16⟩
  | .hbm, ⟨29, _⟩ => ⟨S16384x32, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x11264 : Shape := ⟨3, ![8, 2048, 11264]⟩
abbrev S8x2048x2048 : Shape := ⟨3, ![8, 2048, 2048]⟩
abbrev S1024x2048 : Shape := ⟨2, ![1024, 2048]⟩
abbrev S2048x2048 : Shape := ⟨2, ![2048, 2048]⟩
abbrev S16384x1024 : Shape := ⟨2, ![16384, 1024]⟩
abbrev S16384x11264 : Shape := ⟨2, ![16384, 11264]⟩
abbrev S16384x2048 : Shape := ⟨2, ![16384, 2048]⟩
abbrev S512x1024 : Shape := ⟨2, ![512, 1024]⟩
abbrev S512x2048 : Shape := ⟨2, ![512, 2048]⟩

abbrev nBuf : Space → Nat
  | .hbm => 15
  | .vmem => 15
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x11264, .bf16⟩
  | .hbm, ⟨3, _⟩ => ⟨S8x2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S16384x1024, .bf16⟩
  | .hbm, ⟨8, _⟩ => ⟨S16384x1024, .bf16⟩
  | .hbm, ⟨9, _⟩ => ⟨S16384x11264, .bf16⟩
  | .hbm, ⟨10, _⟩ => ⟨S16384x2048, .f32⟩
  | .hbm, ⟨11, _⟩ => ⟨S1024x2048, .bf16⟩
  | .hbm, ⟨12, _⟩ => ⟨S1024x2048, .bf16⟩
  | .hbm, ⟨13, _⟩ => ⟨S2048x2048, .bf16⟩
  | .hbm, ⟨14, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S512x2048, .f32⟩
  | .local _ .vmem, ⟨14, _⟩ => ⟨S512x2048, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8x2048x1024 : Shape := ⟨3, ![8, 2048, 1024]⟩
abbrev S8x2048x11264 : Shape := ⟨3, ![8, 2048, 11264]⟩
abbrev S8x2048x2048 : Shape := ⟨3, ![8, 2048, 2048]⟩
abbrev S1024x2048 : Shape := ⟨2, ![1024, 2048]⟩
abbrev S2048x2048 : Shape := ⟨2, ![2048, 2048]⟩
abbrev S8x2048x4096 : Shape := ⟨3, ![8, 2048, 4096]⟩
abbrev S_ : Shape := ⟨0, ![]⟩
abbrev S16384x2048 : Shape := ⟨2, ![16384, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x11264, .bf16⟩
  | .hbm, ⟨3, _⟩ => ⟨S8x2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S8x2048x11264, .f32⟩
  | .hbm, ⟨8, _⟩ => ⟨S8x2048x4096, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S_, .f32⟩
  | .hbm, ⟨15, _⟩ => ⟨S8x2048x4096, .f32⟩
  | .hbm, ⟨16, _⟩ => ⟨S8x2048x4096, .f32⟩
  | .hbm, ⟨17, _⟩ => ⟨S8x2048x2048, .f32⟩
  | .hbm, ⟨18, _⟩ => ⟨S8x2048x2048, .f32⟩
  | .hbm, ⟨19, _⟩ => ⟨S8x2048x1024, .f32⟩
  | .hbm, ⟨20, _⟩ => ⟨S8x2048x2048, .f32⟩
  | .hbm, ⟨21, _⟩ => ⟨S8x2048x2048, .f32⟩
  | .hbm, ⟨22, _⟩ => ⟨S8x2048x1024, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S16384x2048, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel4.lean ====
abbrev S16384x16x128 : Shape := ⟨3, ![16384, 16, 128]⟩
abbrev S36864 : Shape := ⟨1, ![36864]⟩
abbrev S72 : Shape := ⟨1, ![72]⟩
abbrev S1 : Shape := ⟨1, ![1]⟩
abbrev S8x2048x5632 : Shape := ⟨3, ![8, 2048, 5632]⟩
abbrev S8x5632x2048 : Shape := ⟨3, ![8, 5632, 2048]⟩
abbrev S36864x16x128 : Shape := ⟨3, ![36864, 16, 128]⟩
abbrev S1x2048x512 : Shape := ⟨3, ![1, 2048, 512]⟩
abbrev S1x512x2048 : Shape := ⟨3, ![1, 512, 2048]⟩
abbrev S512x16x128 : Shape := ⟨3, ![512, 16, 128]⟩
abbrev S2x512x24x128 : Shape := ⟨4, ![2, 512, 24, 128]⟩
abbrev S512x2048 : Shape := ⟨2, ![512, 2048]⟩
abbrev S2x512x2048 : Shape := ⟨3, ![2, 512, 2048]⟩
abbrev S2 : Shape := ⟨1, ![2]⟩
abbrev S_ : Shape := ⟨0, ![]⟩
abbrev S1x512x24x128 : Shape := ⟨4, ![1, 512, 24, 128]⟩
abbrev S512x24x128 : Shape := ⟨3, ![512, 24, 128]⟩
abbrev S1x16x128 : Shape := ⟨3, ![1, 16, 128]⟩
abbrev S16x128 : Shape := ⟨2, ![16, 128]⟩
abbrev S1x512x1x128 : Shape := ⟨4, ![1, 512, 1, 128]⟩
abbrev S512x128 : Shape := ⟨2, ![512, 128]⟩
abbrev S2048x512 : Shape := ⟨2, ![2048, 512]⟩
abbrev S512x512 : Shape := ⟨2, ![512, 512]⟩
abbrev S512x1x128 : Shape := ⟨3, ![512, 1, 128]⟩

abbrev nBuf : Space → Nat
  | .hbm => 8
  | .vmem => 12
  | .smem => 3
  | _ => 0

abbrev bufTy : (tb : Table) → Fin (tcTables nBuf tb) → BufTy
  | .hbm, ⟨0, _⟩ => ⟨S16384x16x128, .f32⟩
  | .hbm, ⟨1, _⟩ => ⟨S8x2048x5632, .f32⟩
  | .hbm, ⟨2, _⟩ => ⟨S8x2048x5632, .f32⟩
  | .hbm, ⟨3, _⟩ => ⟨S8x5632x2048, .f32⟩
  | .hbm, ⟨4, _⟩ => ⟨S8x2048x5632, .bf16⟩
  | .hbm, ⟨5, _⟩ => ⟨S8x2048x5632, .bf16⟩
  | .hbm, ⟨6, _⟩ => ⟨S8x5632x2048, .bf16⟩
  | .hbm, ⟨7, _⟩ => ⟨S36864x16x128, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x16x128, .f32⟩
  | .local _ .vmem, ⟨7, _⟩ => ⟨S512x16x128, .f32⟩
  | .local _ .vmem, ⟨8, _⟩ => ⟨S2x512x24x128, .f32⟩
  | .local _ .vmem, ⟨9, _⟩ => ⟨S512x2048, .f32⟩
  | .local _ .vmem, ⟨10, _⟩ => ⟨S2x512x2048, .bf16⟩
  | .local _ .vmem, ⟨11, _⟩ => ⟨S512x2048, .f32⟩
  | .local _ .smem, ⟨0, _⟩ => ⟨S72, .i32⟩
  | .local _ .smem, ⟨1, _⟩ => ⟨S1, .i32⟩
  | .local _ .smem, ⟨2, _⟩ => ⟨S36864, .i32⟩
  | _, _ => ⟨S16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg2 : Ref sig .tc := ⟨.smem, 0, rfl⟩
abbrev main_arg3 : Ref sig .tc := ⟨.smem, 1, rfl⟩
abbrev main_arg1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![72, 11], ![false, false]⟩

abbrev pre0 : Pipeline.Prefetch sig := ⟨3, ![main_arg2.idx, main_arg3.idx, main_arg1.idx], fun | 0 => main_arg2.names | 1 => main_arg3.names | 2 => main_arg1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v4 : BitVec 1 := Scalar.cmpi .eq arg0 c0_i32
  let arg1 : BitVec 32 := BitVec.ofNat 32 (i 1).val
  let c0_i32_0 : BitVec 32 := 0#32
  let v5 : BitVec 1 := Scalar.cmpi .eq arg1 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

@[reducible] def k0_t1_loop : Scf.Loop 32 :=
  let c0_i32_18 : BitVec 32 := 0#32
  let c512_i32_19 : BitVec 32 := 512#32
  let v43 : BitVec 32 := Scalar.addi c0_i32_18 c512_i32_19
  let c1_i32_20 : BitVec 32 := 1#32
  ⟨c0_i32_18, v43, c1_i32_20⟩
def k0_off2 (k0_t1 : Fin k0_t1_loop.trips) : Fin 1 → Nat :=
  let c0_i32_15 : BitVec 32 := 0#32
  let c71_i32 : BitVec 32 := 71#32
  let v41 : BitVec 32 := Scalar.minsi c0_i32_15 c71_i32
  let c512_i32 : BitVec 32 := 512#32
  let v42 : BitVec 32 := Scalar.muli v41 c512_i32
  let c0_i32_18 : BitVec 32 := 0#32
  let c1_i32_20 : BitVec 32 := 1#32
  let arg15 : BitVec 32 := Scf.iv c0_i32_18 c1_i32_20 k0_t1
  let v130 : BitVec 32 := Scalar.addi v42 arg15
  let v131 : Index := Scalar.indexCast v130
  ![v131.toNat]
def k0_off3 (k0_t1 : Fin k0_t1_loop.trips) : Fin 3 → Nat :=
  let c0_i32_18 : BitVec 32 := 0#32
  let c1_i32_20 : BitVec 32 := 1#32
  let arg15 : BitVec 32 := Scf.iv c0_i32_18 c1_i32_20 k0_t1
  let c0_i32_102 : BitVec 32 := 0#32
  let c0_i32_103 : BitVec 32 := 0#32
  ![arg15.toNat, 0, 0]
def k0_off4 (v132 : BitVec 32) : Fin 3 → Nat :=
  let c0_i32_104 : BitVec 32 := 0#32
  let c0_i32_105 : BitVec 32 := 0#32
  ![v132.toNat, 0, 0]

def k0_chk1 (i : grid0.Coords) (v132 : BitVec 32) : Prop :=
  (∀ (k0_h1 : k0_cond1 i = 1#1), ∀ a, (k0_off4 v132) a + S1x16x128.size a ≤ S16384x16x128.size a)
theorem k0_off4_inb : ∀ (i : grid0.Coords) (v132 : BitVec 32) (k0_hw1 : k0_chk1 i v132), ∀ (k0_h1 : k0_cond1 i = 1#1), ∀ a, (k0_off4 v132) a + S1x16x128.size a ≤ S16384x16x128.size a := fun i v132 k0_hw1 k0_h1 => k0_hw1 k0_h1

@[reducible] def k0_t2_loop : Scf.Loop 32 :=
  let c0_i32_24 : BitVec 32 := 0#32
  let c512_i32_25 : BitVec 32 := 512#32
  let v44 : BitVec 32 := Scalar.addi c0_i32_24 c512_i32_25
  let c1_i32_26 : BitVec 32 := 1#32
  ⟨c0_i32_24, v44, c1_i32_26⟩
def k0_off5 (k0_t2 : Fin k0_t2_loop.trips) : Fin 1 → Nat :=
  let c0_i32_15 : BitVec 32 := 0#32
  let c71_i32 : BitVec 32 := 71#32
  let v41 : BitVec 32 := Scalar.minsi c0_i32_15 c71_i32
  let c512_i32 : BitVec 32 := 512#32
  let v42 : BitVec 32 := Scalar.muli v41 c512_i32
  let c0_i32_24 : BitVec 32 := 0#32
  let c1_i32_26 : BitVec 32 := 1#32
  let arg15 : BitVec 32 := Scf.iv c0_i32_24 c1_i32_26 k0_t2
  let v130 : BitVec 32 := Scalar.addi v42 arg15
  let v131 : Index := Scalar.indexCast v130
  ![v131.toNat]
def k0_off6 (k0_t2 : Fin k0_t2_loop.trips) : Fin 3 → Nat :=
  let c0_i32_24 : BitVec 32 := 0#32
  let c1_i32_26 : BitVec 32 := 1#32
  let arg15 : BitVec 32 := Scf.iv c0_i32_24 c1_i32_26 k0_t2
  let c0_i32_102 : BitVec 32 := 0#32
  let c0_i32_103 : BitVec 32 := 0#32
  ![arg15.toNat, 0, 0]
def k0_off7 (v132 : BitVec 32) : Fin 3 → Nat :=
  let c0_i32_104 : BitVec 32 := 0#32
  let c0_i32_105 : BitVec 32 := 0#32
  ![v132.toNat, 0, 0]

def k0_chk2 (i : grid0.Coords) (v132 : BitVec 32) : Prop :=
  (∀ (k0_h1 : k0_cond1 i = 1#1), ∀ a, (k0_off7 v132) a + S1x16x128.size a ≤ S16384x16x128.size a)
theorem k0_off7_inb : ∀ (i : grid0.Coords) (v132 : BitVec 32) (k0_hw2 : k0_chk2 i v132), ∀ (k0_h1 : k0_cond1 i = 1#1), ∀ a, (k0_off7 v132) a + S1x16x128.size a ≤ S16384x16x128.size a := fun i v132 k0_hw2 k0_h1 => k0_hw2 k0_h1

@[reducible] def k0_t3_loop : Scf.Loop 32 :=
  let c0_i32_21 : BitVec 32 := 0#32
  let c512_i32_22 : BitVec 32 := 512#32
  let v54 : BitVec 32 := Scalar.addi c0_i32_21 c512_i32_22
  let c1_i32_23 : BitVec 32 := 1#32
  ⟨c0_i32_21, v54, c1_i32_23⟩
def k0_off8 (i : grid0.Coords) (k0_t3 : Fin k0_t3_loop.trips) : Fin 1 → Nat :=
  let arg0 : BitVec 32 := BitVec.ofNat 32 (i 0).val
  let c1_i32_15 : BitVec 32 := 1#32
  let v41 : BitVec 32 := Scalar.addi arg0 c1_i32_15
  let c71_i32 : BitVec 32 := 71#32
  let v52 : BitVec 32 := Scalar.minsi v41 c71_i32
  let c512_i32 : BitVec 32 := 512#32
  let v53 : BitVec 32 := Scalar.muli v52 c512_i32
  let c0_i32_21 : BitVec 32 := 0#32
  let c1_i32_23 : BitVec 32 := 1#32
  let arg15 : BitVec 32 := Scf.iv c0_i32_21 c1_i32_23 k0_t3
  let v55 : BitVec 32 := Scalar.addi v53 arg15
  let v56 : Index := Scalar.indexCast v55
  ![v56.toNat]
def k0_off9 (i : grid0.Coords) : Fin 1 → Nat :=
  let arg0 : BitVec 32 := BitVec.ofNat 32 (i 0).val
  let c1_i32_15 : BitVec 32 := 1#32
  let v41 : BitVec 32 := Scalar.addi arg0 c1_i32_15
  let c2_i32 : BitVec 32 := 2#32
  let c0_i32_16 : BitVec 32 := 0#32
  let v42 : BitVec 1 := Scalar.cmpi .eq c2_i32 c0_i32_16
  let c1_i32_17 : BitVec 32 := 1#32
  let v43 : BitVec 32 := Scalar.select v42 c1_i32_17 c2_i32
  let v44 : BitVec 32 := Scalar.remsi v41 v43
  let c0_i32_19 : BitVec 32 := 0#32
  let v46 : BitVec 1 := Scalar.cmpi .slt v44 c0_i32_19
  let c0_i32_20 : BitVec 32 := 0#32
  let v47 : BitVec 1 := Scalar.cmpi .slt v43 c0_i32_20
  let v48 : BitVec 1 := Scalar.xori v46 v47
  let c0_i32_18 : BitVec 32 := 0#32
  let v45 : BitVec 1 := Scalar.cmpi .ne v44 c0_i32_18
  let v49 : BitVec 1 := Scalar.andi v48 v45
  let v50 : BitVec 32 := Scalar.addi v44 v43
  let v51 : BitVec 32 := Scalar.select v49 v50 v44
  ![v51.toNat]
def k0_off10 (i : grid0.Coords) : Fin 4 → Nat :=
  let arg0 : BitVec 32 := BitVec.ofNat 32 (i 0).val
  let c1_i32_15 : BitVec 32 := 1#32
  let v41 : BitVec 32 := Scalar.addi arg0 c1_i32_15
  let c2_i32 : BitVec 32 := 2#32
  let c0_i32_16 : BitVec 32 := 0#32
  let v42 : BitVec 1 := Scalar.cmpi .eq c2_i32 c0_i32_16
  let c1_i32_17 : BitVec 32 := 1#32
  let v43 : BitVec 32 := Scalar.select v42 c1_i32_17 c2_i32
  let v44 : BitVec 32 := Scalar.remsi v41 v43
  let c0_i32_19 : BitVec 32 := 0#32
  let v46 : BitVec 1 := Scalar.cmpi .slt v44 c0_i32_19
  let c0_i32_20 : BitVec 32 := 0#32
  let v47 : BitVec 1 := Scalar.cmpi .slt v43 c0_i32_20
  let v48 : BitVec 1 := Scalar.xori v46 v47
  let c0_i32_18 : BitVec 32 := 0#32
  let v45 : BitVec 1 := Scalar.cmpi .ne v44 c0_i32_18
  let v49 : BitVec 1 := Scalar.andi v48 v45
  let v50 : BitVec 32 := Scalar.addi v44 v43
  let v51 : BitVec 32 := Scalar.select v49 v50 v44
  let c0_i32_25 : BitVec 32 := 0#32
  let c0_i32_26 : BitVec 32 := 0#32
  let c0_i32_27 : BitVec 32 := 0#32
  ![v51.toNat, 0, 0, 0]
def k0_off11 (k0_t3 : Fin k0_t3_loop.trips) : Fin 3 → Nat :=
  let c0_i32_21 : BitVec 32 := 0#32
  let c1_i32_23 : BitVec 32 := 1#32
  let arg15 : BitVec 32 := Scf.iv c0_i32_21 c1_i32_23 k0_t3
  let c0_i32_28 : BitVec 32 := 0#32
  let c0_i32_29 : BitVec 32 := 0#32
  ![arg15.toNat, 0, 0]
def k0_off12 (v57 : BitVec 32) : Fin 3 → Nat :=
  let c0_i32_30 : BitVec 32 := 0#32
  let c0_i32_31 : BitVec 32 := 0#32
  ![v57.toNat, 0, 0]
def k0_cond2 (i : grid0.Coords) (v0 : BitVec 32) : BitVec 1 :=
  let arg1 : BitVec 32 := BitVec.ofNat 32 (i 1).val
  let c0_i32_2 : BitVec 32 := 0#32
  let v9 : BitVec 1 := Scalar.cmpi .eq arg1 c0_i32_2
  let arg0 : BitVec 32 := BitVec.ofNat 32 (i 0).val
  let c1_i32 : BitVec 32 := 1#32
  let v2 : BitVec 32 := Scalar.addi arg0 c1_i32
  let v3 : BitVec 1 := Scalar.cmpi .slt v2 v0
  let v10 : BitVec 1 := Scalar.andi v9 v3
  let v11 : BitVec 32 := Scalar.extui v10
  let c0_i32_3 : BitVec 32 := 0#32
  let v12 : BitVec 1 := Scalar.cmpi .ne v11 c0_i32_3
  v12

def k0_chk3 (i : grid0.Coords) (v0 : BitVec 32) (v57 : BitVec 32) : Prop :=
  (∀ (k0_h2 : k0_cond2 i v0 = 1#1), ∀ a, (k0_off12 v57) a + S1x16x128.size a ≤ S16384x16x128.size a)
theorem k0_off12_inb : ∀ (i : grid0.Coords) (v0 : BitVec 32) (v57 : BitVec 32) (k0_hw3 : k0_chk3 i v0 v57), ∀ (k0_h2 : k0_cond2 i v0 = 1#1), ∀ a, (k0_off12 v57) a + S1x16x128.size a ≤ S16384x16x128.size a := fun i v0 v57 k0_hw3 k0_h2 => k0_hw3 k0_h2

def k0_off13 (i : grid0.Coords) : Fin 3 → Nat :=
  let arg0 : BitVec 32 := BitVec.ofNat 32 (i 0).val
  let c2_i32 : BitVec 32 := 2#32
  let c0_i32_15 : BitVec 32 := 0#32
  let v41 : BitVec 1 := Scalar.cmpi .eq c2_i32 c0_i32_15
  let c1_i32_16 : BitVec 32 := 1#32
  let v42 : BitVec 32 := Scalar.select v41 c1_i32_16 c2_i32
  let v43 : BitVec 32 := Scalar.remsi arg0 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let v51 : Index := Scalar.indexCast v50
  let c0_20 : Index := 0#32
  let c0_21 : Index := 0#32
  ![v51.toNat, 0, 0]
def k0_off14 (i : grid0.Coords) : Fin 3 → Nat :=
  let arg0 : BitVec 32 := BitVec.ofNat 32 (i 0).val
  let c2_i32 : BitVec 32 := 2#32
  let c0_i32_17 : BitVec 32 := 0#32
  let v42 : BitVec 1 := Scalar.cmpi .eq c2_i32 c0_i32_17
  let c1_i32_18 : BitVec 32 := 1#32
  let v43 : BitVec 32 := Scalar.select v42 c1_i32_18 c2_i32
  let v44 : BitVec 32 := Scalar.remsi arg0 v43
  let c0_i32_20 : BitVec 32 := 0#32
  let v46 : BitVec 1 := Scalar.cmpi .slt v44 c0_i32_20
  let c0_i32_21 : BitVec 32 := 0#32
  let v47 : BitVec 1 := Scalar.cmpi .slt v43 c0_i32_21
  let v48 : BitVec 1 := Scalar.xori v46 v47
  let c0_i32_19 : BitVec 32 := 0#32
  let v45 : BitVec 1 := Scalar.cmpi .ne v44 c0_i32_19
  let v49 : BitVec 1 := Scalar.andi v48 v45
  let v50 : BitVec 32 := Scalar.addi v44 v43
  let v51 : BitVec 32 := Scalar.select v49 v50 v44
  let v52 : Index := Scalar.indexCast v51
  let c0_22 : Index := 0#32
  let c0_23 : Index := 0#32
  ![v52.toNat, 0, 0]
@[reducible] def k0_t4_loop : Scf.Loop 32 :=
  let c0_i32_21 : BitVec 32 := 0#32
  let c512_i32_22 : BitVec 32 := 512#32
  let v54 : BitVec 32 := Scalar.addi c0_i32_21 c512_i32_22
  let c1_i32_23 : BitVec 32 := 1#32
  ⟨c0_i32_21, v54, c1_i32_23⟩
def k0_off15 (i : grid0.Coords) (k0_t4 : Fin k0_t4_loop.trips) : Fin 1 → Nat :=
  let arg0 : BitVec 32 := BitVec.ofNat 32 (i 0).val
  let c1_i32_15 : BitVec 32 := 1#32
  let v41 : BitVec 32 := Scalar.addi arg0 c1_i32_15
  let c71_i32 : BitVec 32 := 71#32
  let v52 : BitVec 32 := Scalar.minsi v41 c71_i32
  let c512_i32 : BitVec 32 := 512#32
  let v53 : BitVec 32 := Scalar.muli v52 c512_i32
  let c0_i32_21 : BitVec 32 := 0#32
  let c1_i32_23 : BitVec 32 := 1#32
  let arg15 : BitVec 32 := Scf.iv c0_i32_21 c1_i32_23 k0_t4
  let v199 : BitVec 32 := Scalar.addi v53 arg15
  let v200 : Index := Scalar.indexCast v199
  ![v200.toNat]
def k0_off16 (i : grid0.Coords) : Fin 1 → Nat :=
  let arg0 : BitVec 32 := BitVec.ofNat 32 (i 0).val
  let c1_i32_15 : BitVec 32 := 1#32
  let v41 : BitVec 32 := Scalar.addi arg0 c1_i32_15
  let c2_i32 : BitVec 32 := 2#32
  let c0_i32_16 : BitVec 32 := 0#32
  let v42 : BitVec 1 := Scalar.cmpi .eq c2_i32 c0_i32_16
  let c1_i32_17 : BitVec 32 := 1#32
  let v43 : BitVec 32 := Scalar.select v42 c1_i32_17 c2_i32
  let v44 : BitVec 32 := Scalar.remsi v41 v43
  let c0_i32_19 : BitVec 32 := 0#32
  let v46 : BitVec 1 := Scalar.cmpi .slt v44 c0_i32_19
  let c0_i32_20 : BitVec 32 := 0#32
  let v47 : BitVec 1 := Scalar.cmpi .slt v43 c0_i32_20
  let v48 : BitVec 1 := Scalar.xori v46 v47
  let c0_i32_18 : BitVec 32 := 0#32
  let v45 : BitVec 1 := Scalar.cmpi .ne v44 c0_i32_18
  let v49 : BitVec 1 := Scalar.andi v48 v45
  let v50 : BitVec 32 := Scalar.addi v44 v43
  let v51 : BitVec 32 := Scalar.select v49 v50 v44
  ![v51.toNat]
def k0_off17 (i : grid0.Coords) : Fin 4 → Nat :=
  let arg0 : BitVec 32 := BitVec.ofNat 32 (i 0).val
  let c1_i32_15 : BitVec 32 := 1#32
  let v41 : BitVec 32 := Scalar.addi arg0 c1_i32_15
  let c2_i32 : BitVec 32 := 2#32
  let c0_i32_16 : BitVec 32 := 0#32
  let v42 : BitVec 1 := Scalar.cmpi .eq c2_i32 c0_i32_16
  let c1_i32_17 : BitVec 32 := 1#32
  let v43 : BitVec 32 := Scalar.select v42 c1_i32_17 c2_i32
  let v44 : BitVec 32 := Scalar.remsi v41 v43
  let c0_i32_19 : BitVec 32 := 0#32
  let v46 : BitVec 1 := Scalar.cmpi .slt v44 c0_i32_19
  let c0_i32_20 : BitVec 32 := 0#32
  let v47 : BitVec 1 := Scalar.cmpi .slt v43 c0_i32_20
  let v48 : BitVec 1 := Scalar.xori v46 v47
  let c0_i32_18 : BitVec 32 := 0#32
  let v45 : BitVec 1 := Scalar.cmpi .ne v44 c0_i32_18
  let v49 : BitVec 1 := Scalar.andi v48 v45
  let v50 : BitVec 32 := Scalar.addi v44 v43
  let v51 : BitVec 32 := Scalar.select v49 v50 v44
  let c0_i32_109 : BitVec 32 := 0#32
  let c0_i32_110 : BitVec 32 := 0#32
  let c0_i32_111 : BitVec 32 := 0#32
  ![v51.toNat, 0, 0, 0]
def k0_off18 (k0_t4 : Fin k0_t4_loop.trips) : Fin 3 → Nat :=
  let c0_i32_21 : BitVec 32 := 0#32
  let c1_i32_23 : BitVec 32 := 1#32
  let arg15 : BitVec 32 := Scf.iv c0_i32_21 c1_i32_23 k0_t4
  let c0_i32_112 : BitVec 32 := 0#32
  let c0_i32_113 : BitVec 32 := 0#32
  ![arg15.toNat, 0, 0]
def k0_off19 (v201 : BitVec 32) : Fin 3 → Nat :=
  let c0_i32_114 : BitVec 32 := 0#32
  let c0_i32_115 : BitVec 32 := 0#32
  ![v201.toNat, 0, 0]
def k0_cond5 (i : grid0.Coords) (v0 : BitVec 32) : BitVec 1 :=
  let arg0 : BitVec 32 := BitVec.ofNat 32 (i 0).val
  let v1 : BitVec 1 := Scalar.cmpi .slt arg0 v0
  let c1_i32 : BitVec 32 := 1#32
  let v2 : BitVec 32 := Scalar.addi arg0 c1_i32
  let v3 : BitVec 1 := Scalar.cmpi .slt v2 v0
  let v27 : BitVec 1 := Scalar.andi v1 v3
  let arg1 : BitVec 32 := BitVec.ofNat 32 (i 1).val
  let c5_i32_8 : BitVec 32 := 5#32
  let v28 : BitVec 1 := Scalar.cmpi .eq arg1 c5_i32_8
  let v29 : BitVec 1 := Scalar.andi v27 v28
  let v30 : BitVec 32 := Scalar.extui v29
  let c0_i32_9 : BitVec 32 := 0#32
  let v31 : BitVec 1 := Scalar.cmpi .ne v30 c0_i32_9
  v31

def k0_chk4 (i : grid0.Coords) (v0 : BitVec 32) (v201 : BitVec 32) : Prop :=
  (∀ (k0_h5 : k0_cond5 i v0 = 1#1), ∀ a, (k0_off19 v201) a + S1x16x128.size a ≤ S16384x16x128.size a)
theorem k0_off19_inb : ∀ (i : grid0.Coords) (v0 : BitVec 32) (v201 : BitVec 32) (k0_hw4 : k0_chk4 i v0 v201), ∀ (k0_h5 : k0_cond5 i v0 = 1#1), ∀ a, (k0_off19 v201) a + S1x16x128.size a ≤ S16384x16x128.size a := fun i v0 v201 k0_hw4 k0_h5 => k0_hw4 k0_h5

def k0_off20 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v66 : Index := Scalar.indexCast v65
  let c0_32 : Index := 0#32
  let c0_33 : Index := 0#32
  let c0_34 : Index := 0#32
  ![v66.toNat, 0, 0, 0]
def k0_off21 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v72 : Index := Scalar.indexCast v65
  let c0_37 : Index := 0#32
  let c1 : Index := 1#32
  let c0_38 : Index := 0#32
  ![v72.toNat, 0, 1, 0]
def k0_off22 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v78 : Index := Scalar.indexCast v65
  let c0_40 : Index := 0#32
  let c2 : Index := 2#32
  let c0_41 : Index := 0#32
  ![v78.toNat, 0, 2, 0]
def k0_off23 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v84 : Index := Scalar.indexCast v65
  let c0_43 : Index := 0#32
  let c3 : Index := 3#32
  let c0_44 : Index := 0#32
  ![v84.toNat, 0, 3, 0]
def k0_off24 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v90 : Index := Scalar.indexCast v65
  let c0_46 : Index := 0#32
  let c4 : Index := 4#32
  let c0_47 : Index := 0#32
  ![v90.toNat, 0, 4, 0]
def k0_off25 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v96 : Index := Scalar.indexCast v65
  let c0_49 : Index := 0#32
  let c5 : Index := 5#32
  let c0_50 : Index := 0#32
  ![v96.toNat, 0, 5, 0]
def k0_off26 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v102 : Index := Scalar.indexCast v65
  let c0_52 : Index := 0#32
  let c6 : Index := 6#32
  let c0_53 : Index := 0#32
  ![v102.toNat, 0, 6, 0]
def k0_off27 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v108 : Index := Scalar.indexCast v65
  let c0_55 : Index := 0#32
  let c7 : Index := 7#32
  let c0_56 : Index := 0#32
  ![v108.toNat, 0, 7, 0]
def k0_off28 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v114 : Index := Scalar.indexCast v65
  let c0_58 : Index := 0#32
  let c8 : Index := 8#32
  let c0_59 : Index := 0#32
  ![v114.toNat, 0, 8, 0]
def k0_off29 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v120 : Index := Scalar.indexCast v65
  let c0_61 : Index := 0#32
  let c9 : Index := 9#32
  let c0_62 : Index := 0#32
  ![v120.toNat, 0, 9, 0]
def k0_off30 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v126 : Index := Scalar.indexCast v65
  let c0_64 : Index := 0#32
  let c10 : Index := 10#32
  let c0_65 : Index := 0#32
  ![v126.toNat, 0, 10, 0]
def k0_off31 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v132 : Index := Scalar.indexCast v65
  let c0_67 : Index := 0#32
  let c11 : Index := 11#32
  let c0_68 : Index := 0#32
  ![v132.toNat, 0, 11, 0]
def k0_off32 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v138 : Index := Scalar.indexCast v65
  let c0_70 : Index := 0#32
  let c12 : Index := 12#32
  let c0_71 : Index := 0#32
  ![v138.toNat, 0, 12, 0]
def k0_off33 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v144 : Index := Scalar.indexCast v65
  let c0_73 : Index := 0#32
  let c13 : Index := 13#32
  let c0_74 : Index := 0#32
  ![v144.toNat, 0, 13, 0]
def k0_off34 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v150 : Index := Scalar.indexCast v65
  let c0_76 : Index := 0#32
  let c14 : Index := 14#32
  let c0_77 : Index := 0#32
  ![v150.toNat, 0, 14, 0]
def k0_off35 (i : grid0.Coords) : Fin 4 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v156 : Index := Scalar.indexCast v65
  let c0_79 : Index := 0#32
  let c15 : Index := 15#32
  let c0_80 : Index := 0#32
  ![v156.toNat, 0, 15, 0]
def k0_off36 (i : grid0.Coords) : Fin 3 → Nat :=
  let arg0 : BitVec 32 := BitVec.ofNat 32 (i 0).val
  let c1_i32_25 : BitVec 32 := 1#32
  let v55 : BitVec 32 := Scalar.addi arg0 c1_i32_25
  let c2_i32_26 : BitVec 32 := 2#32
  let c0_i32_27 : BitVec 32 := 0#32
  let v56 : BitVec 1 := Scalar.cmpi .eq c2_i32_26 c0_i32_27
  let c1_i32_28 : BitVec 32 := 1#32
  let v57 : BitVec 32 := Scalar.select v56 c1_i32_28 c2_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let v164 : Index := Scalar.indexCast v65
  let c0_84 : Index := 0#32
  let c0_85 : Index := 0#32
  ![v164.toNat, 0, 0]
def k0_off37 (i : grid0.Coords) : Fin 3 → Nat :=
  let arg0 : BitVec 32 := BitVec.ofNat 32 (i 0).val
  let c2_i32_88 : BitVec 32 := 2#32
  let c0_i32_89 : BitVec 32 := 0#32
  let v169 : BitVec 1 := Scalar.cmpi .eq c2_i32_88 c0_i32_89
  let c1_i32_90 : BitVec 32 := 1#32
  let v170 : BitVec 32 := Scalar.select v169 c1_i32_90 c2_i32_88
  let v171 : BitVec 32 := Scalar.remsi arg0 v170
  let c0_i32_92 : BitVec 32 := 0#32
  let v173 : BitVec 1 := Scalar.cmpi .slt v171 c0_i32_92
  let c0_i32_93 : BitVec 32 := 0#32
  let v174 : BitVec 1 := Scalar.cmpi .slt v170 c0_i32_93
  let v175 : BitVec 1 := Scalar.xori v173 v174
  let c0_i32_91 : BitVec 32 := 0#32
  let v172 : BitVec 1 := Scalar.cmpi .ne v171 c0_i32_91
  let v176 : BitVec 1 := Scalar.andi v175 v172
  let v177 : BitVec 32 := Scalar.addi v171 v170
  let v178 : BitVec 32 := Scalar.select v176 v177 v171
  let v179 : Index := Scalar.indexCast v178
  let c0_94 : Index := 0#32
  let c0_95 : Index := 0#32
  ![v179.toNat, 0, 0]
def k0_off38 (i : grid0.Coords) : Fin 3 → Nat :=
  let arg0 : BitVec 32 := BitVec.ofNat 32 (i 0).val
  let c2_i32 : BitVec 32 := 2#32
  let c0_i32_17 : BitVec 32 := 0#32
  let v42 : BitVec 1 := Scalar.cmpi .eq c2_i32 c0_i32_17
  let c1_i32_18 : BitVec 32 := 1#32
  let v43 : BitVec 32 := Scalar.select v42 c1_i32_18 c2_i32
  let v44 : BitVec 32 := Scalar.remsi arg0 v43
  let c0_i32_20 : BitVec 32 := 0#32
  let v46 : BitVec 1 := Scalar.cmpi .slt v44 c0_i32_20
  let c0_i32_21 : BitVec 32 := 0#32
  let v47 : BitVec 1 := Scalar.cmpi .slt v43 c0_i32_21
  let v48 : BitVec 1 := Scalar.xori v46 v47
  let c0_i32_19 : BitVec 32 := 0#32
  let v45 : BitVec 1 := Scalar.cmpi .ne v44 c0_i32_19
  let v49 : BitVec 1 := Scalar.andi v48 v45
  let v50 : BitVec 32 := Scalar.addi v44 v43
  let v51 : BitVec 32 := Scalar.select v49 v50 v44
  let v52 : Index := Scalar.indexCast v51
  let c0_22 : Index := 0#32
  let c0_23 : Index := 0#32
  ![v52.toNat, 0, 0]
def k0_cond6 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c10_i32_10 : BitVec 32 := 10#32
  let v32 : BitVec 1 := Scalar.cmpi .eq arg1 c10_i32_10
  let v33 : BitVec 1 := Scalar.andi v1 v32
  let v34 : BitVec 32 := Scalar.extui v33
  let c0_i32_11 : BitVec 32 := 0#32
  let v35 : BitVec 1 := Scalar.cmpi .ne v34 c0_i32_11
  v35

def k0_cond7 (i : grid0.Coords) (v0 : BitVec 32) : BitVec 1 :=
  let arg0 : BitVec 32 := BitVec.ofNat 32 (i 0).val
  let v1 : BitVec 1 := Scalar.cmpi .slt arg0 v0
  let true_12 : BitVec 1 := 1#1
  let v36 : BitVec 1 := Scalar.xori v1 true_12
  let arg1 : BitVec 32 := BitVec.ofNat 32 (i 1).val
  let c10_i32_13 : BitVec 32 := 10#32
  let v37 : BitVec 1 := Scalar.cmpi .eq arg1 c10_i32_13
  let v38 : BitVec 1 := Scalar.andi v36 v37
  let v39 : BitVec 32 := Scalar.extui v38
  let c0_i32_14 : BitVec 32 := 0#32
  let v40 : BitVec 1 := Scalar.cmpi .ne v39 c0_i32_14
  v40

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference4Ideal.lean ====
abbrev S16384x16x128 : Shape := ⟨3, ![16384, 16, 128]⟩
abbrev S36864 : Shape := ⟨1, ![36864]⟩
abbrev S72 : Shape := ⟨1, ![72]⟩
abbrev S1 : Shape := ⟨1, ![1]⟩
abbrev S8x2048x5632 : Shape := ⟨3, ![8, 2048, 5632]⟩
abbrev S8x5632x2048 : Shape := ⟨3, ![8, 5632, 2048]⟩
abbrev S16384x2048 : Shape := ⟨2, ![16384, 2048]⟩
abbrev S_ : Shape := ⟨0, ![]⟩
abbrev S36864x1 : Shape := ⟨2, ![36864, 1]⟩
abbrev S36864x2048 : Shape := ⟨2, ![36864, 2048]⟩
abbrev S72x512x2048 : Shape := ⟨3, ![72, 512, 2048]⟩
abbrev S72x1 : Shape := ⟨2, ![72, 1]⟩
abbrev S72x3 : Shape := ⟨2, ![72, 3]⟩
abbrev S72x1x2048x5632 : Shape := ⟨4, ![72, 1, 2048, 5632]⟩
abbrev S72x2048x5632 : Shape := ⟨3, ![72, 2048, 5632]⟩
abbrev S72x1x5632x2048 : Shape := ⟨4, ![72, 1, 5632, 2048]⟩
abbrev S72x5632x2048 : Shape := ⟨3, ![72, 5632, 2048]⟩
abbrev S72x512x5632 : Shape := ⟨3, ![72, 512, 5632]⟩
abbrev S72x1x1 : Shape := ⟨3, ![72, 1, 1]⟩
abbrev S36864x16x128 : Shape := ⟨3, ![36864, 16, 128]⟩

abbrev nBuf : Space → Nat
  | .hbm => 128
  | .vmem => 0
  | .smem => 0
  | _ => 0

abbrev bufTy : (tb : Table) → Fin (tcTables nBuf tb) → BufTy
  | .hbm, ⟨0, _⟩ => ⟨S16384x16x128, .f32⟩
  | .hbm, ⟨1, _⟩ => ⟨S36864, .i32⟩
  | .hbm, ⟨2, _⟩ => ⟨S72, .i32⟩
  | .hbm, ⟨3, _⟩ => ⟨S1, .i32⟩
  | .hbm, ⟨4, _⟩ => ⟨S8x2048x5632, .f32⟩
  | .hbm, ⟨5, _⟩ => ⟨S8x2048x5632, .f32⟩
  | .hbm, ⟨6, _⟩ => ⟨S8x5632x2048, .f32⟩
  | .hbm, ⟨7, _⟩ => ⟨S16384x2048, .f32⟩
  | .hbm, ⟨8, _⟩ => ⟨S_, .i32⟩
  | .hbm, ⟨9, _⟩ => ⟨S36864, .i32⟩
  | .hbm, ⟨10, _⟩ => ⟨S36864, .i1⟩
  | .hbm, ⟨11, _⟩ => ⟨S_, .i32⟩
  | .hbm, ⟨12, _⟩ => ⟨S36864, .i32⟩
  | .hbm, ⟨13, _⟩ => ⟨S36864, .i32⟩
  | .hbm, ⟨14, _⟩ => ⟨S36864, .i32⟩
  | .hbm, ⟨15, _⟩ => ⟨S36864x1, .i32⟩
  | .hbm, ⟨16, _⟩ => ⟨S36864x2048, .f32⟩
  | .hbm, ⟨17, _⟩ => ⟨S72x512x2048, .f32⟩
  | .hbm, ⟨18, _⟩ => ⟨S_, .i32⟩
  | .hbm, ⟨19, _⟩ => ⟨S72, .i32⟩
  | .hbm, ⟨20, _⟩ => ⟨S72, .i1⟩
  | .hbm, ⟨21, _⟩ => ⟨S_, .i32⟩
  | .hbm, ⟨22, _⟩ => ⟨S72, .i32⟩
  | .hbm, ⟨23, _⟩ => ⟨S72, .i32⟩
  | .hbm, ⟨24, _⟩ => ⟨S72, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S72x1, .i32⟩
  | .hbm, ⟨42, _⟩ => ⟨S72x1, .i32⟩
  | .hbm, ⟨43, _⟩ => ⟨S72x1, .i32⟩
  | .hbm, ⟨44, _⟩ => ⟨S72x3, .i32⟩
  | .hbm, ⟨45, _⟩ => ⟨S72x1x2048x5632, .f32⟩
  | .hbm, ⟨46, _⟩ => ⟨S72x2048x5632, .f32⟩
  | .hbm, ⟨47, _⟩ => ⟨S_, .i32⟩
  | .hbm, ⟨48, _⟩ => ⟨S72, .i32⟩
  | .hbm, ⟨49, _⟩ => ⟨S72, .i1⟩
  | .hbm, ⟨50, _⟩ => ⟨S_, .i32⟩
  | .hbm, ⟨51, _⟩ => ⟨S72, .i32⟩
  | .hbm, ⟨52, _⟩ => ⟨S72, .i32⟩
  | .hbm, ⟨53, _⟩ => ⟨S72, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S72x1, .i32⟩
  | .hbm, ⟨71, _⟩ => ⟨S72x1, .i32⟩
  | .hbm, ⟨72, _⟩ => ⟨S72x1, .i32⟩
  | .hbm, ⟨73, _⟩ => ⟨S72x3, .i32⟩
  | .hbm, ⟨74, _⟩ => ⟨S72x1x2048x5632, .f32⟩
  | .hbm, ⟨75, _⟩ => ⟨S72x2048x5632, .f32⟩
  | .hbm, ⟨76, _⟩ => ⟨S_, .i32⟩
  | .hbm, ⟨77, _⟩ => ⟨S72, .i32⟩
  | .hbm, ⟨78, _⟩ => ⟨S72, .i1⟩
  | .hbm, ⟨79, _⟩ => ⟨S_, .i32⟩
  | .hbm, ⟨80, _⟩ => ⟨S72, .i32⟩
  | .hbm, ⟨81, _⟩ => ⟨S72, .i32⟩
  | .hbm, ⟨82, _⟩ => ⟨S72, .i32⟩
  | .hbm, ⟨83, _⟩ => ⟨S_, .i32⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i1⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S72x1, .i32⟩
  | .hbm, ⟨100, _⟩ => ⟨S72x1, .i32⟩
  | .hbm, ⟨101, _⟩ => ⟨S72x1, .i32⟩
  | .hbm, ⟨102, _⟩ => ⟨S72x3, .i32⟩
  | .hbm, ⟨103, _⟩ => ⟨S72x1x5632x2048, .f32⟩
  | .hbm, ⟨104, _⟩ => ⟨S72x5632x2048, .f32⟩
  | .hbm, ⟨105, _⟩ => ⟨S72x512x5632, .f32⟩
  | .hbm, ⟨106, _⟩ => ⟨S72x512x5632, .f32⟩
  | .hbm, ⟨107, _⟩ => ⟨S72x512x5632, .f32⟩
  | .hbm, ⟨108, _⟩ => ⟨S_, .f32⟩
  | .hbm, ⟨109, _⟩ => ⟨S72x512x5632, .f32⟩
  | .hbm, ⟨110, _⟩ => ⟨S72x512x5632, .f32⟩
  | .hbm, ⟨111, _⟩ => ⟨S_, .f32⟩
  | .hbm, ⟨112, _⟩ => ⟨S72x512x5632, .f32⟩
  | .hbm, ⟨113, _⟩ => ⟨S72x512x5632, .f32⟩
  | .hbm, ⟨114, _⟩ => ⟨S72x512x5632, .f32⟩
  | .hbm, ⟨115, _⟩ => ⟨S72x512x5632, .f32⟩
  | .hbm, ⟨116, _⟩ => ⟨S72x512x5632, .f32⟩
  | .hbm, ⟨117, _⟩ => ⟨S72x512x2048, .f32⟩
  | .hbm, ⟨118, _⟩ => ⟨S72, .i32⟩
  | .hbm, ⟨119, _⟩ => ⟨S72, .i32⟩
  | .hbm, ⟨120, _⟩ => ⟨S72, .i1⟩
  | .hbm, ⟨121, _⟩ => ⟨S72x1x1, .i1⟩
  | .hbm, ⟨122, _⟩ => ⟨S_, .i32⟩
  | .hbm, ⟨123, _⟩ => ⟨S_, .f32⟩
  | .hbm, ⟨124, _⟩ => ⟨S72x512x2048, .i1⟩
  | .hbm, ⟨125, _⟩ => ⟨S72x512x2048, .f32⟩
  | .hbm, ⟨126, _⟩ => ⟨S72x512x2048, .f32⟩
  | .hbm, ⟨127, _⟩ => ⟨S36864x16x128, .f32⟩
  | _, _ => ⟨S16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_c_4 : Ref sig .tc := ⟨.hbm, 26, rfl⟩
abbrev main_v14 : Ref sig .tc := ⟨.hbm, 27, rfl⟩
abbrev main_c_5 : Ref sig .tc := ⟨.hbm, 28, rfl⟩
abbrev main_c_6 : Ref sig .tc := ⟨.hbm, 29, rfl⟩
abbrev main_v15 : Ref sig .tc := ⟨.hbm, 30, rfl⟩
abbrev main_c_7 : Ref sig .tc := ⟨.hbm, 31, rfl⟩
abbrev main_v16 : Ref sig .tc := ⟨.hbm, 32, rfl⟩
abbrev main_c_8 : Ref sig .tc := ⟨.hbm, 33, rfl⟩
abbrev main_c_9 : Ref sig .tc := ⟨.hbm, 34, rfl⟩
abbrev main_v17 : Ref sig .tc := ⟨.hbm, 35, rfl⟩
abbrev main_c_10 : Ref sig .tc := ⟨.hbm, 36, rfl⟩
abbrev main_c_11 : Ref sig .tc := ⟨.hbm, 37, rfl⟩
abbrev main_v18 : Ref sig .tc := ⟨.hbm, 38, rfl⟩
abbrev main_c_12 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_13 : Ref sig .tc := ⟨.hbm, 47, rfl⟩
abbrev main_v26 : Ref sig .tc := ⟨.hbm, 48, rfl⟩
abbrev main_v27 : Ref sig .tc := ⟨.hbm, 49, rfl⟩
abbrev main_c_14 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_15 : Ref sig .tc := ⟨.hbm, 54, rfl⟩
abbrev main_c_16 : Ref sig .tc := ⟨.hbm, 55, rfl⟩
abbrev main_v31 : Ref sig .tc := ⟨.hbm, 56, rfl⟩
abbrev main_c_17 : Ref sig .tc := ⟨.hbm, 57, rfl⟩
abbrev main_c_18 : Ref sig .tc := ⟨.hbm, 58, rfl⟩
abbrev main_v32 : Ref sig .tc := ⟨.hbm, 59, rfl⟩
abbrev main_c_19 : Ref sig .tc := ⟨.hbm, 60, rfl⟩
abbrev main_v33 : Ref sig .tc := ⟨.hbm, 61, rfl⟩
abbrev main_c_20 : Ref sig .tc := ⟨.hbm, 62, rfl⟩
abbrev main_c_21 : Ref sig .tc := ⟨.hbm, 63, rfl⟩
abbrev main_v34 : Ref sig .tc := ⟨.hbm, 64, rfl⟩
abbrev main_c_22 : Ref sig .tc := ⟨.hbm, 65, rfl⟩
abbrev main_c_23 : Ref sig .tc := ⟨.hbm, 66, rfl⟩
abbrev main_v35 : Ref sig .tc := ⟨.hbm, 67, rfl⟩
abbrev main_c_24 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_25 : Ref sig .tc := ⟨.hbm, 76, rfl⟩
abbrev main_v43 : Ref sig .tc := ⟨.hbm, 77, rfl⟩
abbrev main_v44 : Ref sig .tc := ⟨.hbm, 78, rfl⟩
abbrev main_c_26 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_27 : Ref sig .tc := ⟨.hbm, 83, rfl⟩
abbrev main_c_28 : Ref sig .tc := ⟨.hbm, 84, rfl⟩
abbrev main_v48 : Ref sig .tc := ⟨.hbm, 85, rfl⟩
abbrev main_c_29 : Ref sig .tc := ⟨.hbm, 86, rfl⟩
abbrev main_c_30 : Ref sig .tc := ⟨.hbm, 87, rfl⟩
abbrev main_v49 : Ref sig .tc := ⟨.hbm, 88, rfl⟩
abbrev main_c_31 : Ref sig .tc := ⟨.hbm, 89, rfl⟩
abbrev main_v50 : Ref sig .tc := ⟨.hbm, 90, rfl⟩
abbrev main_c_32 : Ref sig .tc := ⟨.hbm, 91, rfl⟩
abbrev main_c_33 : Ref sig .tc := ⟨.hbm, 92, rfl⟩
abbrev main_v51 : Ref sig .tc := ⟨.hbm, 93, rfl⟩
abbrev main_c_34 : Ref sig .tc := ⟨.hbm, 94, rfl⟩
abbrev main_c_35 : Ref sig .tc := ⟨.hbm, 95, rfl⟩
abbrev main_v52 : Ref sig .tc := ⟨.hbm, 96, rfl⟩
abbrev main_c_36 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_call0_v0 : Ref sig .tc := ⟨.hbm, 106, rfl⟩
abbrev main_call0_v1 : Ref sig .tc := ⟨.hbm, 107, rfl⟩
abbrev main_call0_cst : Ref sig .tc := ⟨.hbm, 108, rfl⟩
abbrev main_call0_v2 : Ref sig .tc := ⟨.hbm, 109, rfl⟩
abbrev main_call0_v3 : Ref sig .tc := ⟨.hbm, 110, rfl⟩
abbrev main_call0_cst_0 : Ref sig .tc := ⟨.hbm, 111, rfl⟩
abbrev main_call0_v4 : Ref sig .tc := ⟨.hbm, 112, rfl⟩
abbrev main_call0_v5 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_c_37 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v69 : Ref sig .tc := ⟨.hbm, 126, rfl⟩
abbrev main_v70 : Ref sig .tc := ⟨.hbm, 127, rfl⟩

abbrev nD : Nat := 1
abbrev τ : Topo := Topo.v7x

variable {F : FTy → Type} [FloatOps F]
-- ==== Proof.DenseValue.lean ====
/-
  The dense feed-forward call: what the kernel leaves in its result array, read at an index of the array, and that the
  reference leaves the same. A row block of 1024 tokens is normalized once, at the block's first point, and kept in
  scratch; the block of the result starts as the residual and receives one 256-wide tile of the inner width at each of the
  block's 22 points. So after the last of them it holds the residual plus a sum of 22 sums of 256, which is the
  reference's sum over 5632.
-/
module

public import proofs.«01_k».proof.Defs
public import proofs.«01_k».proof.Proof.Gen.KernelIdeal.Value
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-! ## What one point computes -/

/-- The reciprocal root mean square of 2048 numbers. -/
def invRms (x : Fin 2048 → EReal) : EReal :=
  Ideal.rsqrt (Ideal.div (∑ k, x k * x k) (Ideal.ofBits .f32 0x45000000#32) + Ideal.ofBits .f32 0x358637BD#32)

/-- The gated unit's activation: `a · logistic(a) · b`. -/
def gated (a b : EReal) : EReal := a * Ideal.logistic a * b

theorem pay1_at (v : Vec Ideal S1024x2048 .f32) (r : Fin 1024) (l : Fin 2048) : k0_pay1 v (ix2 r l) = v (ix2 r l) := by
  pointwise [k0_pay1]

theorem pay2_at (v : Vec Ideal S1024x2048 .f32) (g : Vec Ideal S1x2048 .f32) (r : Fin 1024) (l : Fin 2048) :
    k0_pay2 v g (ix2 r l) = v (ix2 r l) * invRms (fun k => v (ix2 r k)) * g (ix2 (0 : Fin 1) l) := by
  unfold invRms
  pointwise [k0_pay2, k0_pay1]

theorem pay3_at (h : Vec Ideal S1024x2048 .bf16) (wg wu : Vec Ideal S2048x256 .f32) (o : Vec Ideal S1024x2048 .f32)
    (wd : Vec Ideal S256x2048 .f32) (r : Fin 1024) (l : Fin 2048) :
    k0_pay3 h wg wu o wd (ix2 r l) = o (ix2 r l) + ∑ k : Fin 256,
      gated (∑ x : Fin 2048, h (ix2 r x) * wg (ix2 x k)) (∑ x : Fin 2048, h (ix2 r x) * wu (ix2 x k)) * wd (ix2 k l) := by
  unfold gated
  pointwise [k0_pay3]

/-- The first point of a row block leaves, in scratch, the block's rows normalized … -/
theorem sout_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x256 .f32) (h4 : a4.IsWhole)
    (a5 : Memref sig .tc .vmem S2048x256 .f32) (h5 : a5.IsWhole) (a6 : Memref sig .tc .vmem S256x2048 .f32) (h6 : a6.IsWhole)
    (a7 : Memref sig .tc .vmem S1024x2048 .f32) (h7 : a7.IsWhole) (a8 : Memref sig .tc .vmem S1024x2048 .bf16) (h8 : a8.IsWhole) (hc : cond0_0 i)
    (x0 : Vec Ideal S1024x2048 .f32) (x1 : Vec Ideal S1x2048 .f32) (x2 x3 : Vec Ideal S2048x256 .f32) (x4 : Vec Ideal S256x2048 .f32) :
    sout0_A_0 c i a2 h2 a3 h3 a4 h4 a5 h5 a6 h6 a7 h7 a8 h8 hc x0 x1 x2 x3 x4 = k0_pay2 x0 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h2.read_unread, h3.read_unread, h4.read_unread, h5.read_unread, h6.read_unread, h7.read_unread,
    h8.read_unread, View.ld_unit_zero (S := S1024x2048) hz, View.ld_unit_zero (S := S1x2048) hz, View.ld_unit_zero (S := S2048x256) hz,
    View.ld_unit_zero (S := S256x2048) hz]

/-- … and, in the result's staging buffer, the residual plus the first tile. -/
theorem out_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x256 .f32) (h4 : a4.IsWhole)
    (a5 : Memref sig .tc .vmem S2048x256 .f32) (h5 : a5.IsWhole) (a6 : Memref sig .tc .vmem S256x2048 .f32) (h6 : a6.IsWhole)
    (a7 : Memref sig .tc .vmem S1024x2048 .f32) (h7 : a7.IsWhole) (a8 : Memref sig .tc .vmem S1024x2048 .bf16) (h8 : a8.IsWhole) (hc : cond0_0 i)
    (x0 : Vec Ideal S1024x2048 .f32) (x1 : Vec Ideal S1x2048 .f32) (x2 x3 : Vec Ideal S2048x256 .f32) (x4 : Vec Ideal S256x2048 .f32) :
    out0_A_5 c i a2 h2 a3 h3 a4 h4 a5 h5 a6 h6 a7 h7 a8 h8 hc x0 x1 x2 x3 x4 = k0_pay3 (k0_pay2 x0 x1) x2 x3 (k0_pay1 x0) x4 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_cons_unit_zero (S := S1024x2048) hz]
  simp only [View.readCov_unit_zero (S := S1024x2048) _ hz]
  simp only [View.readAt_eq_ld, h2.read_unread, h3.read_unread, h4.read_unread, h5.read_unread, h6.read_unread, h7.read_unread,
    h8.read_unread, View.ld_unit_zero (S := S1024x2048) hz, View.ld_unit_zero (S := S1x2048) hz, View.ld_unit_zero (S := S2048x256) hz,
    View.ld_unit_zero (S := S256x2048) hz]

/-- Every further point adds its tile. -/
theorem out_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x256 .f32) (h4 : a4.IsWhole)
    (a5 : Memref sig .tc .vmem S2048x256 .f32) (h5 : a5.IsWhole) (a6 : Memref sig .tc .vmem S256x2048 .f32) (h6 : a6.IsWhole)
    (a7 : Memref sig .tc .vmem S1024x2048 .f32) (h7 : a7.IsWhole) (a8 : Memref sig .tc .vmem S1024x2048 .bf16) (h8 : a8.IsWhole) (hc : ¬cond0_0 i)
    (x0 : Vec Ideal S1024x2048 .f32) (x1 : Vec Ideal S1x2048 .f32) (x2 x3 : Vec Ideal S2048x256 .f32) (x4 : Vec Ideal S256x2048 .f32) (xo : Vec Ideal S1024x2048 .f32) (xs : Vec Ideal S1024x2048 .bf16) :
    out0_B_5 c i a2 h2 a3 h3 a4 h4 a5 h5 a6 h6 a7 h7 a8 h8 hc x0 x1 x2 x3 x4 xo xs = k0_pay3 xs x2 x3 xo x4 := by
  unfold out0_B_5
  rw [View.read_writes_eq_canon _ _ _ (cover0_B_5 c i a2 h2 a3 h3 a4 h4 a5 h5 a6 h6 a7 h7 a8 h8 hc x0 x1 x2 x3 x4 xo xs)]
  unfold kernelRun0_B
  dsimp only
  sl_unfold_words
  rw [View.canon_unit_zero hz]
  simp only [View.readAt_eq_ld, h2.read_unread, h3.read_unread, h4.read_unread, h5.read_unread, h6.read_unread, h7.read_unread,
    h8.read_unread, View.ld_unit_zero (S := S1024x2048) hz, View.ld_unit_zero (S := S1x2048) hz, View.ld_unit_zero (S := S2048x256) hz,
    View.ld_unit_zero (S := S256x2048) hz]

/-! ## The blocks a point reads -/

/-- Each window's block index at a point of the 16 × 22 grid. -/
theorem index_all : ∀ t : Fin cfg0.N,
    (win0_0.index t 0 = t.val / 22 ∧ win0_0.index t 1 = 0) ∧ (win0_1.index t 0 = 0 ∧ win0_1.index t 1 = 0)
    ∧ (win0_2.index t 0 = 0 ∧ win0_2.index t 1 = t.val % 22) ∧ (win0_3.index t 0 = 0 ∧ win0_3.index t 1 = t.val % 22)
    ∧ (win0_4.index t 0 = t.val % 22 ∧ win0_4.index t 1 = 0) :=
  (by decide +kernel : ∀ t : Fin grid0.N, _)

/-- Row `r` of row block `b` (any row when `b` is out of range). -/
def row (b : ℕ) (r : Fin 1024) : Fin 16384 := ⟨(1024 * b + r.val) % 16384, Nat.mod_lt _ (by decide)⟩

/-- Column `k` of tile `s` of the inner width. -/
def col (s : ℕ) (k : Fin 256) : Fin 5632 := ⟨(s * 256 + k.val) % 5632, Nat.mod_lt _ (by decide)⟩

theorem blk0 (c : Dev nD) (t : Fin cfg0.N) (r : Fin 1024) (k : Fin 2048) :
    iblk m c 0 t (ix2 r k) = V m c main_v0 (ix2 (row (t.val / 22) r) k) := by
  have hi := index_all t
  have ht : t.val < 352 := lt_of_lt_of_eq t.isLt N_0
  have hr := r.isLt
  have hk := k.isLt
  unfold iblk
  rw [View.read_apply]
  show V m c main_v0 _ = _
  congr 1
  funext a
  apply Fin.ext
  match a with
  | ⟨0, _⟩ => show win0_0.index t 0 * 1024 + 1 * r.val = (1024 * (t.val / 22) + r.val) % 16384; omega
  | ⟨1, _⟩ => show win0_0.index t 1 * 2048 + 1 * k.val = k.val; omega

theorem blk1 (c : Dev nD) (t : Fin cfg0.N) (r : Fin 1) (k : Fin 2048) :
    iblk m c 1 t (ix2 r k) = V m c main_v1 (ix2 (0 : Fin 1) k) := by
  have hi := index_all t
  have ht : t.val < 352 := lt_of_lt_of_eq t.isLt N_0
  have hr := r.isLt
  have hk := k.isLt
  unfold iblk
  rw [View.read_apply]
  show V m c main_v1 _ = _
  congr 1
  funext a
  apply Fin.ext
  match a with
  | ⟨0, _⟩ => show win0_1.index t 0 * 1 + 1 * r.val = 0; omega
  | ⟨1, _⟩ => show win0_1.index t 1 * 2048 + 1 * k.val = k.val; omega

theorem blk2 (c : Dev nD) (t : Fin cfg0.N) (r : Fin 2048) (k : Fin 256) :
    iblk m c 2 t (ix2 r k) = V m c main_arg2 (ix2 r (col (t.val % 22) k)) := by
  have hi := index_all t
  have ht : t.val < 352 := lt_of_lt_of_eq t.isLt N_0
  have hr := r.isLt
  have hk := k.isLt
  unfold iblk
  rw [View.read_apply]
  show V m c main_arg2 _ = _
  congr 1
  funext a
  apply Fin.ext
  match a with
  | ⟨0, _⟩ => show win0_2.index t 0 * 2048 + 1 * r.val = r.val; omega
  | ⟨1, _⟩ => show win0_2.index t 1 * 256 + 1 * k.val = (t.val % 22 * 256 + k.val) % 5632; omega

theorem blk3 (c : Dev nD) (t : Fin cfg0.N) (r : Fin 2048) (k : Fin 256) :
    iblk m c 3 t (ix2 r k) = V m c main_arg3 (ix2 r (col (t.val % 22) k)) := by
  have hi := index_all t
  have ht : t.val < 352 := lt_of_lt_of_eq t.isLt N_0
  have hr := r.isLt
  have hk := k.isLt
  unfold iblk
  rw [View.read_apply]
  show V m c main_arg3 _ = _
  congr 1
  funext a
  apply Fin.ext
  match a with
  | ⟨0, _⟩ => show win0_3.index t 0 * 2048 + 1 * r.val = r.val; omega
  | ⟨1, _⟩ => show win0_3.index t 1 * 256 + 1 * k.val = (t.val % 22 * 256 + k.val) % 5632; omega

theorem blk4 (c : Dev nD) (t : Fin cfg0.N) (r : Fin 256) (k : Fin 2048) :
    iblk m c 4 t (ix2 r k) = V m c main_arg4 (ix2 (col (t.val % 22) r) k) := by
  have hi := index_all t
  have ht : t.val < 352 := lt_of_lt_of_eq t.isLt N_0
  have hr := r.isLt
  have hk := k.isLt
  unfold iblk
  rw [View.read_apply]
  show V m c main_arg4 _ = _
  congr 1
  funext a
  apply Fin.ext
  match a with
  | ⟨0, _⟩ => show win0_4.index t 0 * 256 + 1 * r.val = (t.val % 22 * 256 + r.val) % 5632; omega
  | ⟨1, _⟩ => show win0_4.index t 1 * 2048 + 1 * k.val = k.val; omega

/-! ## The sum over the points of a row block -/

section Sum

variable (x : S16384x2048.Idx → EReal) (g : S1x2048.Idx → EReal) (wg wu : S2048x5632.Idx → EReal) (wd : S5632x2048.Idx → EReal)

/-- The normalized row `R` at column `k`. -/
def normed (R : Fin 16384) (k : Fin 2048) : EReal := x (ix2 R k) * invRms (fun j => x (ix2 R j)) * g (ix2 (0 : Fin 1) k)

/-- The activation of row `R` at inner column `f`. -/
def act (R : Fin 16384) (f : Fin 5632) : EReal :=
  gated (∑ k : Fin 2048, normed x g R k * wg (ix2 k f)) (∑ k : Fin 2048, normed x g R k * wu (ix2 k f))

/-- What tile `s` adds at row `R`, column `l`. -/
def tile (R : Fin 16384) (l : Fin 2048) (s : ℕ) : EReal := ∑ k : Fin 256, act x g wg wu R (col s k) * wd (ix2 (col s k) l)

/-- The residual plus the first `n` tiles, at row `R`, column `l`. -/
def upto (R : Fin 16384) (l : Fin 2048) (n : ℕ) : EReal := x (ix2 R l) + ∑ s ∈ Finset.range n, tile x g wg wu wd R l s

/-- The result at row `R`, column `l`. -/
def ffn (R : Fin 16384) (l : Fin 2048) : EReal := x (ix2 R l) + ∑ f : Fin 5632, act x g wg wu R f * wd (ix2 f l)

theorem tiles_sum (R : Fin 16384) (l : Fin 2048) :
    upto x g wg wu wd R l 22 = ffn x g wg wu wd R l := by
  unfold upto ffn
  congr 1
  rw [Fin.sum_univ_tiles 22 256 (by decide), ← Fin.sum_univ_eq_sum_range (fun s => tile x g wg wu wd R l s) 22]
  refine Finset.sum_congr rfl fun s _ => ?_
  unfold tile
  refine Finset.sum_congr rfl fun k _ => ?_
  have e : col s.val k = ⟨s.val * 256 + k.val, by omega⟩ := Fin.ext (Nat.mod_eq_of_lt (by omega))
  rw [e]

end Sum

theorem add_of_eq (a b c : EReal) (h : b = c) : a + b = a + c := by rw [h]

/-- What the staging buffer and the scratch hold after point `n`. -/
theorem outs_at (c : Dev nD) : ∀ (n : ℕ) (h : n < cfg0.N) (r : Fin 1024) (l : Fin 2048),
    (outsAt0 m c n h).1 (ix2 r l) = upto (V m c main_v0) (V m c main_v1) (V m c main_arg2) (V m c main_arg3) (V m c main_arg4) (row (n / 22) r) l (n % 22 + 1)
    ∧ (outsAt0 m c n h).2 (ix2 r l) = normed (V m c main_v0) (V m c main_v1) (row (n / 22) r) l := by
  have hA : ∀ (t : Fin cfg0.N) (h0 : t.val % 22 = 0) (r : Fin 1024) (l : Fin 2048),
      (outsAt0 m c t.val t.isLt).1 (ix2 r l) = upto (V m c main_v0) (V m c main_v1) (V m c main_arg2) (V m c main_arg3) (V m c main_arg4) (row (t.val / 22) r) l (t.val % 22 + 1)
      ∧ (outsAt0 m c t.val t.isLt).2 (ix2 r l) = normed (V m c main_v0) (V m c main_v1) (row (t.val / 22) r) l := by
    intro t h0 r l
    rw [outsAt0_A m c t h0]
    dsimp only
    rw [out_A, sout_A, pay3_at, pay1_at]
    simp only [pay2_at, blk0, blk1, blk2, blk3, blk4]
    unfold upto
    rw [h0, Finset.sum_range_one]
    exact ⟨rfl, rfl⟩
  have hB : ∀ (t : Fin cfg0.N) (h0 : ¬ t.val % 22 = 0)
      (ih : ∀ (r : Fin 1024) (l : Fin 2048),
      (outsAt0 m c (t.val - 1) (Nat.lt_of_le_of_lt (Nat.sub_le _ _) t.isLt)).1 (ix2 r l) = upto (V m c main_v0) (V m c main_v1) (V m c main_arg2) (V m c main_arg3) (V m c main_arg4) (row ((t.val - 1) / 22) r) l ((t.val - 1) % 22 + 1)
      ∧ (outsAt0 m c (t.val - 1) (Nat.lt_of_le_of_lt (Nat.sub_le _ _) t.isLt)).2 (ix2 r l) = normed (V m c main_v0) (V m c main_v1) (row ((t.val - 1) / 22) r) l)
      (r : Fin 1024) (l : Fin 2048),
      (outsAt0 m c t.val t.isLt).1 (ix2 r l) = upto (V m c main_v0) (V m c main_v1) (V m c main_arg2) (V m c main_arg3) (V m c main_arg4) (row (t.val / 22) r) l (t.val % 22 + 1)
      ∧ (outsAt0 m c t.val t.isLt).2 (ix2 r l) = normed (V m c main_v0) (V m c main_v1) (row (t.val / 22) r) l := by
    intro t h0 ih r l
    have e1 : (t.val - 1) / 22 = t.val / 22 := by omega
    have e2 : (t.val - 1) % 22 + 1 = t.val % 22 := by omega
    rw [e1, e2] at ih
    rw [outsAt0_B m c t h0]
    dsimp only
    rw [out_B, pay3_at, (ih r l).1]
    unfold upto
    rw [Finset.sum_range_succ, ← add_assoc]
    unfold sout0_B_0
    refine ⟨?_, (ih r l).2⟩
    have ih2 := fun r l => (ih r l).2
    refine add_of_eq _ _ _ ?_
    unfold tile act
    refine Finset.sum_congr rfl fun k _ => ?_
    simp only [ih2, blk2, blk3, blk4]
  intro n
  induction n with
  | zero => intro h; exact hA ⟨0, h⟩ rfl
  | succ n ih =>
    intro h
    by_cases h0 : (n + 1) % 22 = 0
    · exact hA ⟨n + 1, h⟩ h0
    · exact hB ⟨n + 1, h⟩ h0 (ih (Nat.lt_of_succ_lt h))

/-- The result array at row `R`, column `l`. -/
theorem result_at (c : Dev nD) (R : Fin 16384) (l : Fin 2048) :
    G5 m c (ix2 R l) = ffn (V m c main_v0) (V m c main_v1) (V m c main_arg2) (V m c main_arg3) (V m c main_arg4) R l := by
  have hN : cfg0.N = 352 := N_0
  have hR := R.isLt
  have hl := l.isLt
  have hp : pt5Of (ix2 R l) = 22 * (R.val / 1024) + 21 := by
    show 22 * (1 * (R.val / 1024 - 0) + 1 * (l.val / 2048 - 0)) + 21 = _
    omega
  have hlt : 22 * (R.val / 1024) + 21 < cfg0.N := by omega
  have hloc : loc5Of (ix2 R l) = ix2 (⟨R.val % 1024, by omega⟩ : Fin 1024) l := by
    funext a
    apply Fin.ext
    match a with
    | ⟨0, _⟩ => rfl
    | ⟨1, _⟩ => show l.val % 2048 = l.val; omega
  unfold G5
  rw [dif_pos (by rw [hp]; exact hlt), fold0_congr m c _ _ _ (by omega) hp, ← outsAt0_sweep m c _ hlt, hloc, (outs_at m c _ hlt _ _).1]
  have e1 : (22 * (R.val / 1024) + 21) / 22 = R.val / 1024 := by omega
  have e2 : (22 * (R.val / 1024) + 21) % 22 + 1 = 22 := by omega
  have e3 : row (R.val / 1024) (⟨R.val % 1024, by omega⟩ : Fin 1024) = R :=
    Fin.ext (show (1024 * (R.val / 1024) + R.val % 1024) % 16384 = R.val by omega)
  rw [e1, e2, e3, tiles_sum]

/-! ## The reference's -/

theorem V0 (c : Dev nD) : V m c main_v0 = shapeCast S16384x2048 (m ((c : Thread nD τ).loc main_arg0)) Facts₀.shapeCasts_S8x2048x2048_S16384x2048 := by
  show StableHlo.after hostOps0 _ (Proc.devRef .tc main_v0) = _
  after_results <;> rfl
theorem V1 (c : Dev nD) : V m c main_v1 = broadcastInDim S1x2048 ![1] Facts₀.bcast_S2048_S1x2048_1 (m ((c : Thread nD τ).loc main_arg1)) := by
  show StableHlo.after hostOps0 _ (Proc.devRef .tc main_v1) = _
  after_results <;> rfl

/-- The reference's composed term is the kernel's result, of the same arguments. -/
theorem ref_eq (x : FVec Ideal Cert.ReferenceIdeal.S8x2048x2048 .f32) (g : FVec Ideal Cert.ReferenceIdeal.S2048 .f32)
    (wg wu : FVec Ideal Cert.ReferenceIdeal.S2048x5632 .f32) (wd : FVec Ideal Cert.ReferenceIdeal.S5632x2048 .f32)
    (r : Fin 16384) (l : Fin 2048) :
    (shapeCast Cert.ReferenceIdeal.S16384x2048 (addf x (Host.dotGeneral Cert.ReferenceIdeal.dot_S8x2048x5632_S5632x2048_S8x2048x2048_2_0_01_1_n_n none (mulf (mulf (Host.dotGeneral Cert.ReferenceIdeal.dot_S8x2048x2048_S2048x5632_S8x2048x5632_2_0_01_1_n_n none (mulf (mulf x (broadcastInDim Cert.ReferenceIdeal.S8x2048x2048 ![0, 1, 2] Cert.ReferenceIdeal.Gen.bcast_S8x2048x1_S8x2048x2048_0_1_2 (Host.rsqrt (addf (Host.divf (broadcastInDim Cert.ReferenceIdeal.S8x2048x1 ![0, 1] Cert.ReferenceIdeal.Gen.bcast_S8x2048_S8x2048x1_0_1 (Host.reduceAdd (mulf x x) (constant Cert.ReferenceIdeal.S_ .f32 0x00000000#32) Cert.ReferenceIdeal.Gen.reducesTo_S8x2048x2048_S8x2048_d2 Cert.ReferenceIdeal.Gen.h_S_)) (broadcastInDim Cert.ReferenceIdeal.S8x2048x1 ![] Cert.ReferenceIdeal.Gen.bcast_S_S8x2048x1 (constant Cert.ReferenceIdeal.S_ .f32 0x45000000#32))) (broadcastInDim Cert.ReferenceIdeal.S8x2048x1 ![] Cert.ReferenceIdeal.Gen.bcast_S_S8x2048x1 (constant Cert.ReferenceIdeal.S_ .f32 0x358637BD#32)))))) (broadcastInDim Cert.ReferenceIdeal.S8x2048x2048 ![0, 1, 2] Cert.ReferenceIdeal.Gen.bcast_S1x1x2048_S8x2048x2048_0_1_2 (broadcastInDim Cert.ReferenceIdeal.S1x1x2048 ![2] Cert.ReferenceIdeal.Gen.bcast_S2048_S1x1x2048_2 g))) wg) (Host.divf (broadcastInDim Cert.ReferenceIdeal.S8x2048x5632 ![] Cert.ReferenceIdeal.Gen.bcast_S_S8x2048x5632 (constant Cert.ReferenceIdeal.S_ .f32 0x3F800000#32)) (addf (broadcastInDim Cert.ReferenceIdeal.S8x2048x5632 ![] Cert.ReferenceIdeal.Gen.bcast_S_S8x2048x5632 (constant Cert.ReferenceIdeal.S_ .f32 0x3F800000#32)) (Host.exp (Host.negf (Host.dotGeneral Cert.ReferenceIdeal.dot_S8x2048x2048_S2048x5632_S8x2048x5632_2_0_01_1_n_n none (mulf (mulf x (broadcastInDim Cert.ReferenceIdeal.S8x2048x2048 ![0, 1, 2] Cert.ReferenceIdeal.Gen.bcast_S8x2048x1_S8x2048x2048_0_1_2 (Host.rsqrt (addf (Host.divf (broadcastInDim Cert.ReferenceIdeal.S8x2048x1 ![0, 1] Cert.ReferenceIdeal.Gen.bcast_S8x2048_S8x2048x1_0_1 (Host.reduceAdd (mulf x x) (constant Cert.ReferenceIdeal.S_ .f32 0x00000000#32) Cert.ReferenceIdeal.Gen.reducesTo_S8x2048x2048_S8x2048_d2 Cert.ReferenceIdeal.Gen.h_S_)) (broadcastInDim Cert.ReferenceIdeal.S8x2048x1 ![] Cert.ReferenceIdeal.Gen.bcast_S_S8x2048x1 (constant Cert.ReferenceIdeal.S_ .f32 0x45000000#32))) (broadcastInDim Cert.ReferenceIdeal.S8x2048x1 ![] Cert.ReferenceIdeal.Gen.bcast_S_S8x2048x1 (constant Cert.ReferenceIdeal.S_ .f32 0x358637BD#32)))))) (broadcastInDim Cert.ReferenceIdeal.S8x2048x2048 ![0, 1, 2] Cert.ReferenceIdeal.Gen.bcast_S1x1x2048_S8x2048x2048_0_1_2 (broadcastInDim Cert.ReferenceIdeal.S1x1x2048 ![2] Cert.ReferenceIdeal.Gen.bcast_S2048_S1x1x2048_2 g))) wg)))))) (Host.dotGeneral Cert.ReferenceIdeal.dot_S8x2048x2048_S2048x5632_S8x2048x5632_2_0_01_1_n_n none (mulf (mulf x (broadcastInDim Cert.ReferenceIdeal.S8x2048x2048 ![0, 1, 2] Cert.ReferenceIdeal.Gen.bcast_S8x2048x1_S8x2048x2048_0_1_2 (Host.rsqrt (addf (Host.divf (broadcastInDim Cert.ReferenceIdeal.S8x2048x1 ![0, 1] Cert.ReferenceIdeal.Gen.bcast_S8x2048_S8x2048x1_0_1 (Host.reduceAdd (mulf x x) (constant Cert.ReferenceIdeal.S_ .f32 0x00000000#32) Cert.ReferenceIdeal.Gen.reducesTo_S8x2048x2048_S8x2048_d2 Cert.ReferenceIdeal.Gen.h_S_)) (broadcastInDim Cert.ReferenceIdeal.S8x2048x1 ![] Cert.ReferenceIdeal.Gen.bcast_S_S8x2048x1 (constant Cert.ReferenceIdeal.S_ .f32 0x45000000#32))) (broadcastInDim Cert.ReferenceIdeal.S8x2048x1 ![] Cert.ReferenceIdeal.Gen.bcast_S_S8x2048x1 (constant Cert.ReferenceIdeal.S_ .f32 0x358637BD#32)))))) (broadcastInDim Cert.ReferenceIdeal.S8x2048x2048 ![0, 1, 2] Cert.ReferenceIdeal.Gen.bcast_S1x1x2048_S8x2048x2048_0_1_2 (broadcastInDim Cert.ReferenceIdeal.S1x1x2048 ![2] Cert.ReferenceIdeal.Gen.bcast_S2048_S1x1x2048_2 g))) wu)) wd)) Cert.ReferenceIdeal.Gen.shapeCasts_S8x2048x2048_S16384x2048 : FVec Ideal Cert.ReferenceIdeal.S16384x2048 .f32) (ix2 r l)
    = ffn (shapeCast S16384x2048 x Facts₀.shapeCasts_S8x2048x2048_S16384x2048)
        (broadcastInDim S1x2048 ![1] Facts₀.bcast_S2048_S1x2048_1 g) wg wu wd r l := by
  unfold ffn act gated normed invRms
  pointwise
  rfl

theorem dense_algebraic : algebraic_KernelIdeal_ReferenceIdeal (hKernelIdeal := Cert.KernelIdeal.Gen.facts)
    (hReferenceIdeal := Cert.ReferenceIdeal.Gen.facts) := by
  intro m ρ m' ρ' _ hm
  refine ⟨G5 m, run m ρ, ?_⟩
  refine (θ_run _ _ _).mono (fun _ h c => ⟨(h c).1.trans ?_, (h c).2⟩) (Cert.ReferenceIdeal.Value.run m' ρ')
  obtain ⟨h0, h1, h2, h3, h4⟩ := hm c
  rw [h0, h1, h2, h3, h4]
  funext i
  obtain ⟨r, l, rfl⟩ : ∃ (r : Fin 16384) (l : Fin 2048), i = ix2 r l := ⟨i 0, i 1, by funext a; match a with | ⟨0, _⟩ => rfl | ⟨1, _⟩ => rfl⟩
  refine (ref_eq _ _ _ _ _ r l).trans ?_
  rw [result_at, V0, V1, V_main_arg2, V_main_arg3, V_main_arg4]

end Cert.KernelIdeal.Value
-- ==== Proof.InProjRun.lean ====
/-
  The input projection call: a hand-written proof that its body runs at every point of the grid, with what each buffer
  holds named. A row block of 1024 tokens is normalized once, at the block's first point, and kept in scratch; that point
  also computes the block of the gate columns. Every point computes one 1024-wide column block of the projection. The
  gate block's staging buffer is left alone at the ten points that follow and is written back at the last of them, so
  what it holds has to be carried through them.
-/
module

public import proofs.«01_k».proof.Proof.Gen.Kernel2Ideal.Frame
public import proofs.«01_k».proof.Proof.Gen.Kernel2Ideal.Launch
public import proofs.«01_k».proof.Proof.Gen.Kernel2Ideal.Points
public import proofs.«01_k».proof.Proof.Gen.Kernel2Ideal.Skeleton
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import Idealize.ShloMosaic.Lib.Quiescent
public import Idealize.ShloMosaic.Lib.Claim

@[expose] public section

set_option maxRecDepth 16384

noncomputable section

namespace Cert.Kernel2Ideal.Value

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## The branch condition -/

/-- The body's branch is taken at the first of the eleven points of a row block. -/
theorem branch_iff : ∀ t : Fin cfg0.N, k0_cond1 (grid0.coords t) = 1#1 ↔ t.val % 11 = 0 :=
  (fun t => by
    have ht : t.val < 176 := Nat.lt_of_lt_of_eq t.isLt N_0
    have e1 : (grid0.coords t 1).val = t.val / 1 % 11 := Pipeline.Grid.coords_val t 1 (by decide) rfl
    unfold k0_cond1
    simp only [e1]
    word_cmp
   : ∀ t : Fin grid0.N, k0_cond1 (grid0.coords t) = 1#1 ↔ t.val % 11 = 0)

/-! ## The body at a block's first point and at a later one -/

/-- The scratch, as the body is handed it. -/
abbrev scr : Memref sig .tc .vmem S1024x2048 .bf16 := Memref.whole cc0_scratch0

set_option maxHeartbeats 1000000 in
/-- At a block's first point: the pieces the run leaves in the column block, the gate block and the scratch, with the run. -/
noncomputable def runA (c : Dev nD) (i : grid0.Coords) (a2 : Memref sig .tc .vmem S1024x2048 .f32) (h2 : a2.IsWhole) (a3 : Memref sig .tc .vmem S1x2048 .f32) (h3 : a3.IsWhole) (a4 : Memref sig .tc .vmem S2048x32 .bf16) (h4 : a4.IsWhole) (a5 : Memref sig .tc .vmem S1x32 .f32) (h5 : a5.IsWhole) (a6 : Memref sig .tc .vmem S2048x1024 .bf16) (h6 : a6.IsWhole) (a7 : Memref sig .tc .vmem S1x1024 .f32) (h7 : a7.IsWhole) (a8 : Memref sig .tc .vmem S1024x1024 .bf16) (h8 : a8.IsWhole) (a9 : Memref sig .tc .vmem S1024x32 .f32) (h9 : a9.IsWhole) (a10 : Memref sig .tc .vmem S1024x2048 .bf16) (h10 : a10.IsWhole) (hc : k0_cond1 i = 1#1)
    (x0 : Vec F S1024x2048 .f32) (x1 : Vec F S1x2048 .f32) (x2 : Vec F S2048x32 .bf16) (x3 : Vec F S1x32 .f32) (x4 : Vec F S2048x1024 .bf16) (x5 : Vec F S1x1024 .f32) :
    Σ' (L6 : List (View.Piece (Elt F) S1024x1024 .bf16)) (L7 : List (View.Piece (Elt F) S1024x32 .f32)), { L8 : List (View.Piece (Elt F) S1024x2048 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f L6) ∗ (∃ f, a9.view.loc (c : Thread nD τ) ↦[a9.view.set]{fullShare} a9.view.writes (Elt F) f L7) ∗ (∃ f, a10.view.loc (c : Thread nD τ) ↦[a10.view.set]{fullShare} a10.view.writes (Elt F) f L8)) -∗ K ⟨⟩))
          ⊢ wp frame (wpE (defs₀ (F := F)) Variants.none c none) E (cc0_in_proj i a2 h2 a3 h3 a4 h4 a5 h5 a6 h6 a7 h7 a8 h8 a9 h9 a10 h10) K } := by
  refine ⟨?_, ?_, ?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    isplitl [H7]; · iexists _; iexact H7
    iexists _; iexact H8

set_option maxHeartbeats 1000000 in
/-- At a later point: the pieces the run leaves in the column block, with the run, which leaves the gate block and the
    scratch as it found them. -/
noncomputable def runB (c : Dev nD) (i : grid0.Coords) (a2 : Memref sig .tc .vmem S1024x2048 .f32) (h2 : a2.IsWhole) (a3 : Memref sig .tc .vmem S1x2048 .f32) (h3 : a3.IsWhole) (a4 : Memref sig .tc .vmem S2048x32 .bf16) (h4 : a4.IsWhole) (a5 : Memref sig .tc .vmem S1x32 .f32) (h5 : a5.IsWhole) (a6 : Memref sig .tc .vmem S2048x1024 .bf16) (h6 : a6.IsWhole) (a7 : Memref sig .tc .vmem S1x1024 .f32) (h7 : a7.IsWhole) (a8 : Memref sig .tc .vmem S1024x1024 .bf16) (h8 : a8.IsWhole) (a9 : Memref sig .tc .vmem S1024x32 .f32) (h9 : a9.IsWhole) (a10 : Memref sig .tc .vmem S1024x2048 .bf16) (h10 : a10.IsWhole) (hc : ¬k0_cond1 i = 1#1)
    (x0 : Vec F S1024x2048 .f32) (x1 : Vec F S1x2048 .f32) (x2 : Vec F S2048x32 .bf16) (x3 : Vec F S1x32 .f32) (x4 : Vec F S2048x1024 .bf16) (x5 : Vec F S1x1024 .f32) (x7 : Vec F S1024x32 .f32) (xh : Vec F S1024x2048 .bf16) :
    { L6 : List (View.Piece (Elt F) S1024x1024 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ owns (c : Thread nD τ) a9 fullShare x7 ∗ owns (c : Thread nD τ) a10 fullShare xh
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f L6) ∗ owns (c : Thread nD τ) a9 fullShare x7 ∗ owns (c : Thread nD τ) a10 fullShare xh) -∗ K ⟨⟩))
          ⊢ wp frame (wpE (defs₀ (F := F)) Variants.none c none) E (cc0_in_proj i a2 h2 a3 h3 a4 h4 a5 h5 a6 h6 a7 h7 a8 h8 a9 h9 a10 h10) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h9.eq_unread hf7; obtain rfl := h10.eq_unread hf8
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    isplitl [H7]
    · iexists _; isplitr; · ipureintro; exact h9.read_unread _
      iexact H7
    iexists _; isplitr; · ipureintro; exact h10.read_unread _
    iexact H8

/-- The column block after a first point. -/
theorem read6_A (c : Dev nD) (i : grid0.Coords) (a2 : Memref sig .tc .vmem S1024x2048 .f32) (h2 : a2.IsWhole) (a3 : Memref sig .tc .vmem S1x2048 .f32) (h3 : a3.IsWhole) (a4 : Memref sig .tc .vmem S2048x32 .bf16) (h4 : a4.IsWhole) (a5 : Memref sig .tc .vmem S1x32 .f32) (h5 : a5.IsWhole) (a6 : Memref sig .tc .vmem S2048x1024 .bf16) (h6 : a6.IsWhole) (a7 : Memref sig .tc .vmem S1x1024 .f32) (h7 : a7.IsWhole) (a8 : Memref sig .tc .vmem S1024x1024 .bf16) (h8 : a8.IsWhole) (a9 : Memref sig .tc .vmem S1024x32 .f32) (h9 : a9.IsWhole) (a10 : Memref sig .tc .vmem S1024x2048 .bf16) (h10 : a10.IsWhole) (hc : k0_cond1 i = 1#1)
    (x0 : Vec F S1024x2048 .f32) (x1 : Vec F S1x2048 .f32) (x2 : Vec F S2048x32 .bf16) (x3 : Vec F S1x32 .f32) (x4 : Vec F S2048x1024 .bf16) (x5 : Vec F S1x1024 .f32) (f : a8.view.ty.Contents (Elt F)) :
    a8.view.read (Elt F) (a8.view.writes (Elt F) f (runA c i a2 h2 a3 h3 a4 h4 a5 h5 a6 h6 a7 h7 a8 h8 a9 h9 a10 h10 hc x0 x1 x2 x3 x4 x5).1) = k0_pay3 (k0_pay1 x0 x1) x4 x5 := by
  rw [View.read_writes_eq_canon _ _ _ (fun y => View.cover_of_tiledL (runA c i a2 h2 a3 h3 a4 h4 a5 h5 a6 h6 a7 h7 a8 h8 a9 h9 a10 h10 hc x0 x1 x2 x3 x4 x5).1 S1024x1024.size (by sl_kernel_rfl) y)]
  unfold runA
  dsimp only
  sl_unfold_words
  rw [View.canon_unit_zero hz]
  try simp only [View.readCov_unit_zero (S := S1024x2048) _ hz]
  simp only [View.readAt_eq_ld, h2.read_unread, h3.read_unread, h4.read_unread, h5.read_unread, h6.read_unread, h7.read_unread, h8.read_unread, h9.read_unread, h10.read_unread, View.ld_unit_zero (S := S1024x2048) hz, View.ld_unit_zero (S := S1x2048) hz, View.ld_unit_zero (S := S2048x32) hz, View.ld_unit_zero (S := S1x32) hz, View.ld_unit_zero (S := S2048x1024) hz, View.ld_unit_zero (S := S1x1024) hz, View.ld_unit_zero (S := S1024x1024) hz, View.ld_unit_zero (S := S1024x32) hz]

/-- The gate block after a first point. -/
theorem read7_A (c : Dev nD) (i : grid0.Coords) (a2 : Memref sig .tc .vmem S1024x2048 .f32) (h2 : a2.IsWhole) (a3 : Memref sig .tc .vmem S1x2048 .f32) (h3 : a3.IsWhole) (a4 : Memref sig .tc .vmem S2048x32 .bf16) (h4 : a4.IsWhole) (a5 : Memref sig .tc .vmem S1x32 .f32) (h5 : a5.IsWhole) (a6 : Memref sig .tc .vmem S2048x1024 .bf16) (h6 : a6.IsWhole) (a7 : Memref sig .tc .vmem S1x1024 .f32) (h7 : a7.IsWhole) (a8 : Memref sig .tc .vmem S1024x1024 .bf16) (h8 : a8.IsWhole) (a9 : Memref sig .tc .vmem S1024x32 .f32) (h9 : a9.IsWhole) (a10 : Memref sig .tc .vmem S1024x2048 .bf16) (h10 : a10.IsWhole) (hc : k0_cond1 i = 1#1)
    (x0 : Vec F S1024x2048 .f32) (x1 : Vec F S1x2048 .f32) (x2 : Vec F S2048x32 .bf16) (x3 : Vec F S1x32 .f32) (x4 : Vec F S2048x1024 .bf16) (x5 : Vec F S1x1024 .f32) (f : a9.view.ty.Contents (Elt F)) :
    a9.view.read (Elt F) (a9.view.writes (Elt F) f (runA c i a2 h2 a3 h3 a4 h4 a5 h5 a6 h6 a7 h7 a8 h8 a9 h9 a10 h10 hc x0 x1 x2 x3 x4 x5).2.1) = k0_pay2 (k0_pay1 x0 x1) x2 x3 := by
  rw [View.read_writes_eq_canon _ _ _ (fun y => View.cover_of_tiledL (runA c i a2 h2 a3 h3 a4 h4 a5 h5 a6 h6 a7 h7 a8 h8 a9 h9 a10 h10 hc x0 x1 x2 x3 x4 x5).2.1 S1024x32.size (by sl_kernel_rfl) y)]
  unfold runA
  dsimp only
  sl_unfold_words
  rw [View.canon_unit_zero hz]
  try simp only [View.readCov_unit_zero (S := S1024x2048) _ hz]
  simp only [View.readAt_eq_ld, h2.read_unread, h3.read_unread, h4.read_unread, h5.read_unread, h6.read_unread, h7.read_unread, h8.read_unread, h9.read_unread, h10.read_unread, View.ld_unit_zero (S := S1024x2048) hz, View.ld_unit_zero (S := S1x2048) hz, View.ld_unit_zero (S := S2048x32) hz, View.ld_unit_zero (S := S1x32) hz, View.ld_unit_zero (S := S2048x1024) hz, View.ld_unit_zero (S := S1x1024) hz, View.ld_unit_zero (S := S1024x1024) hz, View.ld_unit_zero (S := S1024x32) hz]

/-- The scratch after a first point. -/
theorem read8_A (c : Dev nD) (i : grid0.Coords) (a2 : Memref sig .tc .vmem S1024x2048 .f32) (h2 : a2.IsWhole) (a3 : Memref sig .tc .vmem S1x2048 .f32) (h3 : a3.IsWhole) (a4 : Memref sig .tc .vmem S2048x32 .bf16) (h4 : a4.IsWhole) (a5 : Memref sig .tc .vmem S1x32 .f32) (h5 : a5.IsWhole) (a6 : Memref sig .tc .vmem S2048x1024 .bf16) (h6 : a6.IsWhole) (a7 : Memref sig .tc .vmem S1x1024 .f32) (h7 : a7.IsWhole) (a8 : Memref sig .tc .vmem S1024x1024 .bf16) (h8 : a8.IsWhole) (a9 : Memref sig .tc .vmem S1024x32 .f32) (h9 : a9.IsWhole) (a10 : Memref sig .tc .vmem S1024x2048 .bf16) (h10 : a10.IsWhole) (hc : k0_cond1 i = 1#1)
    (x0 : Vec F S1024x2048 .f32) (x1 : Vec F S1x2048 .f32) (x2 : Vec F S2048x32 .bf16) (x3 : Vec F S1x32 .f32) (x4 : Vec F S2048x1024 .bf16) (x5 : Vec F S1x1024 .f32) (f : a10.view.ty.Contents (Elt F)) :
    a10.view.read (Elt F) (a10.view.writes (Elt F) f (runA c i a2 h2 a3 h3 a4 h4 a5 h5 a6 h6 a7 h7 a8 h8 a9 h9 a10 h10 hc x0 x1 x2 x3 x4 x5).2.2.1) = k0_pay1 x0 x1 := by
  rw [View.read_writes_eq_canon _ _ _ (fun y => View.cover_of_tiledL (runA c i a2 h2 a3 h3 a4 h4 a5 h5 a6 h6 a7 h7 a8 h8 a9 h9 a10 h10 hc x0 x1 x2 x3 x4 x5).2.2.1 S1024x2048.size (by sl_kernel_rfl) y)]
  unfold runA
  dsimp only
  sl_unfold_words
  rw [View.canon_unit_zero hz]
  try simp only [View.readCov_unit_zero (S := S1024x2048) _ hz]
  simp only [View.readAt_eq_ld, h2.read_unread, h3.read_unread, h4.read_unread, h5.read_unread, h6.read_unread, h7.read_unread, h8.read_unread, h9.read_unread, h10.read_unread, View.ld_unit_zero (S := S1024x2048) hz, View.ld_unit_zero (S := S1x2048) hz, View.ld_unit_zero (S := S2048x32) hz, View.ld_unit_zero (S := S1x32) hz, View.ld_unit_zero (S := S2048x1024) hz, View.ld_unit_zero (S := S1x1024) hz, View.ld_unit_zero (S := S1024x1024) hz, View.ld_unit_zero (S := S1024x32) hz]

/-- The column block after a later point. -/
theorem read6_B (c : Dev nD) (i : grid0.Coords) (a2 : Memref sig .tc .vmem S1024x2048 .f32) (h2 : a2.IsWhole) (a3 : Memref sig .tc .vmem S1x2048 .f32) (h3 : a3.IsWhole) (a4 : Memref sig .tc .vmem S2048x32 .bf16) (h4 : a4.IsWhole) (a5 : Memref sig .tc .vmem S1x32 .f32) (h5 : a5.IsWhole) (a6 : Memref sig .tc .vmem S2048x1024 .bf16) (h6 : a6.IsWhole) (a7 : Memref sig .tc .vmem S1x1024 .f32) (h7 : a7.IsWhole) (a8 : Memref sig .tc .vmem S1024x1024 .bf16) (h8 : a8.IsWhole) (a9 : Memref sig .tc .vmem S1024x32 .f32) (h9 : a9.IsWhole) (a10 : Memref sig .tc .vmem S1024x2048 .bf16) (h10 : a10.IsWhole) (hc : ¬k0_cond1 i = 1#1)
    (x0 : Vec F S1024x2048 .f32) (x1 : Vec F S1x2048 .f32) (x2 : Vec F S2048x32 .bf16) (x3 : Vec F S1x32 .f32) (x4 : Vec F S2048x1024 .bf16) (x5 : Vec F S1x1024 .f32) (x7 : Vec F S1024x32 .f32) (xh : Vec F S1024x2048 .bf16) (f : a8.view.ty.Contents (Elt F)) :
    a8.view.read (Elt F) (a8.view.writes (Elt F) f (runB c i a2 h2 a3 h3 a4 h4 a5 h5 a6 h6 a7 h7 a8 h8 a9 h9 a10 h10 hc x0 x1 x2 x3 x4 x5 x7 xh).1) = k0_pay3 xh x4 x5 := by
  rw [View.read_writes_eq_canon _ _ _ (fun y => View.cover_of_tiledL (runB c i a2 h2 a3 h3 a4 h4 a5 h5 a6 h6 a7 h7 a8 h8 a9 h9 a10 h10 hc x0 x1 x2 x3 x4 x5 x7 xh).1 S1024x1024.size (by sl_kernel_rfl) y)]
  unfold runB
  dsimp only
  sl_unfold_words
  rw [View.canon_unit_zero hz]
  try simp only [View.readCov_unit_zero (S := S1024x2048) _ hz]
  simp only [View.readAt_eq_ld, h2.read_unread, h3.read_unread, h4.read_unread, h5.read_unread, h6.read_unread, h7.read_unread, h8.read_unread, h9.read_unread, h10.read_unread, View.ld_unit_zero (S := S1024x2048) hz, View.ld_unit_zero (S := S1x2048) hz, View.ld_unit_zero (S := S2048x32) hz, View.ld_unit_zero (S := S1x32) hz, View.ld_unit_zero (S := S2048x1024) hz, View.ld_unit_zero (S := S1x1024) hz, View.ld_unit_zero (S := S1024x1024) hz, View.ld_unit_zero (S := S1024x32) hz]

/-! ## What the buffers hold after each point -/

variable (m : (ℓ : Loc nD τ sig) → Buf (Elt F) ℓ) (ρ : Dev nD → PrngReg)

/-- The normalized rows of the row block of point `t`. -/
def rows (c : Dev nD) (t : Fin cfg0.N) : Vec F S1024x2048 .bf16 := k0_pay1 (iblk m c 0 t) (iblk m c 1 t)
/-- The column block computed at point `t`. -/
def cols (c : Dev nD) (t : Fin cfg0.N) : Vec F S1024x1024 .bf16 := k0_pay3 (rows m c t) (iblk m c 4 t) (iblk m c 5 t)
/-- The gate block of the row block of point `t`. -/
def gates (c : Dev nD) (t : Fin cfg0.N) : Vec F S1024x32 .f32 := k0_pay2 (rows m c t) (iblk m c 2 t) (iblk m c 3 t)

/-- A row block's points read the same blocks through windows 0–3. -/
theorem index_all : ∀ t : Fin cfg0.N,
    (win0_0.index t 0 = t.val / 11 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = t.val % 11) ∧ (win0_5.index t 0 = 0 ∧ win0_5.index t 1 = t.val % 11)
    ∧ (win0_6.index t 0 = t.val / 11 ∧ win0_6.index t 1 = t.val % 11) ∧ (win0_7.index t 0 = t.val / 11 ∧ win0_7.index t 1 = 0) :=
  (by decide +kernel : ∀ t : Fin grid0.N, _)

theorem iblk0_eq (c : Dev nD) (t t' : Fin cfg0.N) (h : t.val / 11 = t'.val / 11) (y : S1024x2048.Idx) :
    iblk m c 0 t y = iblk m c 0 t' y := by
  have hi := index_all t
  have hi' := index_all t'
  unfold iblk
  rw [View.read_apply, View.read_apply]
  show V m c main_v8 _ = V m c main_v8 _
  congr 1
  funext a
  apply Fin.ext
  match a with
  | ⟨0, _⟩ => show win0_0.index t 0 * 1024 + 1 * (y 0).val = win0_0.index t' 0 * 1024 + 1 * (y 0).val; omega
  | ⟨1, _⟩ => show win0_0.index t 1 * 2048 + 1 * (y 1).val = win0_0.index t' 1 * 2048 + 1 * (y 1).val; omega

theorem iblk1_eq (c : Dev nD) (t t' : Fin cfg0.N) (h : t.val / 11 = t'.val / 11) (y : S1x2048.Idx) :
    iblk m c 1 t y = iblk m c 1 t' y := by
  have hi := index_all t
  have hi' := index_all t'
  unfold iblk
  rw [View.read_apply, View.read_apply]
  show V m c main_v9 _ = V m c main_v9 _
  congr 1

theorem iblk2_eq (c : Dev nD) (t t' : Fin cfg0.N) (h : t.val / 11 = t'.val / 11) (y : S2048x32.Idx) :
    iblk m c 2 t y = iblk m c 2 t' y := by
  have hi := index_all t
  have hi' := index_all t'
  unfold iblk
  rw [View.read_apply, View.read_apply]
  show V m c main_v13 _ = V m c main_v13 _
  congr 1

theorem iblk3_eq (c : Dev nD) (t t' : Fin cfg0.N) (h : t.val / 11 = t'.val / 11) (y : S1x32.Idx) :
    iblk m c 3 t y = iblk m c 3 t' y := by
  have hi := index_all t
  have hi' := index_all t'
  unfold iblk
  rw [View.read_apply, View.read_apply]
  show V m c main_v12 _ = V m c main_v12 _
  congr 1

theorem rows_eq (c : Dev nD) (t t' : Fin cfg0.N) (h : t.val / 11 = t'.val / 11) : rows m c t = rows m c t' := by
  unfold rows
  exact congrArg₂ (fun (a : Vec F S1024x2048 .f32) (b : Vec F S1x2048 .f32) => k0_pay1 a b) (funext (iblk0_eq m c t t' h)) (funext (iblk1_eq m c t t' h))

theorem gates_eq (c : Dev nD) (t t' : Fin cfg0.N) (h : t.val / 11 = t'.val / 11) : gates m c t = gates m c t' := by
  unfold gates
  rw [rows_eq m c t t' h]
  exact congrArg₂ (fun (a : Vec F S2048x32 .bf16) (b : Vec F S1x32 .f32) => k0_pay2 (rows m c t') a b) (funext (iblk2_eq m c t t' h)) (funext (iblk3_eq m c t t' h))

/-- Before the first point the scratch holds anything; afterwards the rows of the point before. -/
def PhiS (c : Dev nD) : (n : ℕ) → n ≤ cfg0.N → sProp 𝕄
  | 0, _ => Pipeline.ΦA spec0 c
  | n + 1, hn => iprop(iprop(owns (c : Thread nD τ) scr fullShare (rows m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scr fullShare (rows m c ⟨n, hn⟩)) ∗ (∃ r, prngReg c r)) := rfl
theorem PhiS_pos (c : Dev nD) (n : ℕ) (h : n ≤ cfg0.N) (hz : n ≠ 0) :
    PhiS m c n h = iprop(iprop(owns (c : Thread nD τ) scr fullShare (rows m c ⟨n - 1, by omega⟩)) ∗ (∃ r, prngReg c r)) := by
  cases n with
  | zero => exact absurd rfl hz
  | succ n => rfl

theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; rfl

/-- The proof data: the arrays as the region finds them, each input's buffer at its block, the two outputs' at what
    the point leaves, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => cols m c t
    | ⟨7, _⟩ => gates m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = cols m c t := by dsimp only [dats]
theorem after7 (c : Dev nD) (t : Fin cfg0.N) : (dats m 0 c).after 7 t = gates m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The gate block through the points that leave it alone -/

theorem idle7 (t : Fin cfg0.N) : cfg0.idle 7 (grid0.coords t) = !decide (t.val % 11 = 0) := by
  show (!(k0_cond1 (grid0.coords t) == 1#1)) = _
  congr 1
  rw [Bool.eq_iff_iff, beq_iff_eq, decide_eq_true_iff]
  exact branch_iff t

theorem flush7 (t : Fin cfg0.N) : (cfg0.win 7).flush t = decide (t.val % 11 = 10) := by
  rw [Bool.eq_iff_iff, decide_eq_true_iff]
  exact flush0_7 t

/-- The gate block's buffer holds nothing of the block at the block's first point only. -/
theorem fresh7 : ∀ n, n ≤ cfg0.N → cfg0.fresh 7 n = decide (n % 11 = 0) :=
  cfg0.fresh_tab 7 (fun n => decide (n % 11 = 0)) rfl fun t => by
    rw [flush7, show cfg0.idle 7 (cfg0.grid.coords t) = _ from idle7 t]
    by_cases h : t.val % 11 = 10
    · have h' : (t.val + 1) % 11 = 0 := by omega
      simp [h, h']
    · have h' : ¬(t.val + 1) % 11 = 0 := by omega
      by_cases h0 : t.val % 11 = 0 <;> simp [h, h', h0]

theorem before7 (c : Dev nD) (t : Fin cfg0.N) (h0 : ¬t.val % 11 = 0) (d) : (dats m 0 c).before 7 t d = gates m c t := by
  rw [(dats m 0 c).before_out_traj 7 rfl (fun _ _ => rfl) (fun t ht hi hf => ?_) t.val t rfl d, fresh7 t.val (Nat.le_of_lt t.isLt),
    if_neg (by simpa using h0), after7]
  · exact gates_eq m c _ _ (show (t.val - 1) / 11 = t.val / 11 by omega)
  · rw [after7, after7]
    have hf' : ¬t.val % 11 = 0 := by
      rw [fresh7 t.val (Nat.le_of_lt t.isLt)] at hf
      simpa using hf
    exact gates_eq m c _ _ (show t.val / 11 = (t.val - 1) / 11 by omega)

/-! ## The body obligation -/

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x32 .bf16 := win0_2.stage (cfg0.slots t 2)
abbrev ms3 (t : Fin cfg0.N) : Memref sig .tc .vmem S1x32 .f32 := win0_3.stage (cfg0.slots t 3)
abbrev ms4 (t : Fin cfg0.N) : Memref sig .tc .vmem S2048x1024 .bf16 := win0_4.stage (cfg0.slots t 4)
abbrev ms5 (t : Fin cfg0.N) : Memref sig .tc .vmem S1x1024 .f32 := win0_5.stage (cfg0.slots t 5)
abbrev ms6 (t : Fin cfg0.N) : Memref sig .tc .vmem S1024x1024 .bf16 := win0_6.stage (cfg0.slots t 6)
abbrev ms7 (t : Fin cfg0.N) : Memref sig .tc .vmem S1024x32 .f32 := win0_7.stage (cfg0.slots t 7)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)))

/-- What the body leaves at a point: everything at its contents, whether or not the point writes the gate block. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6, after7]
  rw [show (dats m 0 c).Φ t.succ = PhiS m c (t.val + 1) t.isLt from rfl, PhiS_succ]
  have hN : t.val < 176 := lt_of_lt_of_eq t.isLt (show cfg0.N = 176 from N_0)
  by_cases h0 : t.val % 11 = 0
  · have hpre : (dats m 0 c).Φ t.castSucc ⊢ (iprop(iprop((∃ d, owns (c : Thread nD τ) scr fullShare d)) ∗ (∃ r, prngReg c r)) : sProp 𝕄) := by
      rw [PhiS_castSucc m c t]
      by_cases hz : t.val = 0
      · rw [PhiS_zero m c _ _ hz, PhiA_eq]
      · rw [PhiS_pos m c _ _ hz]
        iintro ⟨HS, Hg⟩
        isplitl [HS]; · iexists _; iexact HS
        iexact Hg
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HP := hpre $$ HP
    icases HP with ⟨HS, Hg⟩
    iapply ((runA c (grid0.coords t) _ _ _ _ _ _ _ _ _ _ _ _ _ _ _ _ _ _ ((branch_iff t).mpr h0) (iblk m c 0 t) (iblk m c 1 t) (iblk m c 2 t) (iblk m c 3 t) (iblk m c 4 t) (iblk m c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, ⟨%e8, HS⟩⟩
    isplitl [HS Hg]
    · isplitl [HS]
      · unfold owns; iexists _; isplitr
        swap; · iexact HS
        ipureintro; exact read8_A c _ _ _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact read6_A c _ _ _ _ _ _ _ _ _ _ _ _ _ _ _ _ _ _ _ _ _ _ _ _ _ _ _
    unfold owns; iexists _; isplitr
    swap; · iexact H7
    ipureintro; exact read7_A c _ _ _ _ _ _ _ _ _ _ _ _ _ _ _ _ _ _ _ _ _ _ _ _ _ _ _
  · have hz : t.val ≠ 0 := by omega
    rw [PhiS_castSucc m c t, PhiS_pos m c _ _ hz, rows_eq m c ⟨t.val - 1, by omega⟩ t (show (t.val - 1) / 11 = t.val / 11 by omega)]
    simp only [before7 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) _ _ _ _ _ _ _ _ _ _ _ _ _ _ _ _ _ _ (fun h => h0 ((branch_iff t).mp h)) (iblk m c 0 t) (iblk m c 1 t) (iblk m c 2 t) (iblk m c 3 t) (iblk m c 4 t) (iblk m c 5 t) (gates m c t) (rows m c t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS]; · iexact HS
    iintro ⟨H0, H1, H2, H3, H4, H5, ⟨%e6, H6⟩, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact read6_B c _ _ _ _ _ _ _ _ _ _ _ _ _ _ _ _ _ _ _ _ _ _ _ _ _ _ _ _ _
    iexact H7

theorem defs₀_row (t : Fin cfg0.N) :
    defs₀ (F := F) .tc cfg0.body (cfg0.bodyArgs t (cfg0.slots t)) = bodyAt0 t := by
  unfold defs₀; rw [Defs.onTc_tc]

/-- The gate block as the obligation asks for it at a point that may leave it alone. -/
theorem gate_leave (c : Dev nD) (t : Fin cfg0.N) :
    (owns (c : Thread nD τ) (ms7 t) fullShare ((dats m 0 c).after 7 t) : sProp 𝕄) ⊢
      (match cfg0.idle 7 (cfg0.grid.coords t) with
        | true =>
          match (cfg0.win 7).flush t with
          | false => iprop(∃ d, owns (c : Thread nD τ) ((cfg0.win 7).stage (cfg0.slots t 7)) fullShare ((dats m 0 c).before 7 t d))
          | true => owns (c : Thread nD τ) ((cfg0.win 7).stage (cfg0.slots t 7)) fullShare ((dats m 0 c).after 7 t)
        | false => owns (c : Thread nD τ) ((cfg0.win 7).stage (cfg0.slots t 7)) fullShare ((dats m 0 c).after 7 t)) := by
  rw [show cfg0.idle 7 (cfg0.grid.coords t) = _ from idle7 t]
  by_cases h0 : t.val % 11 = 0
  · simp only [h0, decide_true, Bool.not_true]; exact .rfl
  · simp only [h0, decide_false, Bool.not_false]
    cases (cfg0.win 7).flush t
    · dsimp only
      simp only [before7 m c t h0, after7]
      iintro H
      iexists (fun _ => Classical.arbitrary _)
      iexact H
    · exact .rfl

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  exact sep_mono .rfl (sep_mono .rfl (sep_mono .rfl (sep_mono .rfl (sep_mono .rfl (sep_mono .rfl (sep_mono .rfl (sep_mono .rfl (sep_mono .rfl (gate_leave m c t)))))))))

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 176 := N_0; omega), PhiA_eq]
  iintro ⟨HS, Hg⟩
  isplitl [HS]
  · iexists _; iexact HS
  iexact Hg

/-! ## The run -/

set_option backward.isDefEq.respectTransparency.types false in
/-- Every execution ends with each array at what the points wrote and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel2Ideal.Value

end
-- ==== Proof.InProjValue.lean ====
/-
  The input projection call: what the kernel leaves in its two result arrays, read at an index of each, and that the
  reference leaves the same. The first result is the projection with its last 4096 columns brought to the front and the
  32 gate columns left out; the second is the 32 gate columns. Both are of the tokens normalized by their root mean square.
-/
module

public import proofs.«01_k».proof.Defs
public import proofs.«01_k».proof.Proof.InProjRun
public import proofs.«01_k».proof.Proof.Gen.Kernel2
public import proofs.«01_k».proof.Proof.Gen.Reference2Ideal.Run
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

theorem frame_ideal : Cert.quiescent_Kernel2Ideal (hKernel2Ideal := Cert.Kernel2Ideal.Gen.facts) := fun m ρ _ => frame_run m ρ

local instance : Cert.Kernel2.Facts := Cert.Kernel2.Gen.facts

/-- The kernel at the machine's floats and its idealization have the same bodies … -/
theorem bodies_same : Cert.Kernel2.defs₀ (F := Bits) = Cert.Kernel2Ideal.defs₀ (F := Bits) := by
  unfold Cert.Kernel2.defs₀ Cert.Kernel2Ideal.defs₀
  refine congrArg Defs.onTc (funext fun ℓ => funext fun a => ?_)
  obtain rfl : ℓ = (0 : Fin 1) := Subsingleton.elim _ _
  obtain ⟨t, s⟩ := a
  rfl
/-- … and so the same definitions. -/
theorem defs_same : Cert.Kernel2.defs (F := Bits) = Cert.Kernel2Ideal.defs (F := Bits) := by
  unfold Cert.Kernel2.defs Cert.Kernel2Ideal.defs
  rw [bodies_same]
  rfl

theorem frame_kernel : Cert.quiescent_Kernel2 (hKernel2 := Cert.Kernel2.Gen.facts) := fun m ρ _ =>
  (congrArg (fun D => θ_run D (onTc (τ := τ) (main (F := Bits))) ⟨m, fun _ => 0, ρ⟩ _) defs_same).mpr (frame_run (F := Bits) m ρ)

variable (m : (ℓ : Loc nD τ sig) → Buf (Elt Ideal) ℓ) (ρ : Dev nD → PrngReg)

/-! ## What one point computes -/

/-- The reciprocal root mean square of 2048 numbers. -/
def invRms (x : Fin 2048 → EReal) : EReal :=
  Ideal.rsqrt (Ideal.div (∑ k, x k * x k) (Ideal.ofBits .f32 0x45000000#32) + Ideal.ofBits .f32 0x358637BD#32)

theorem pay1_at (v : Vec Ideal S1024x2048 .f32) (g : Vec Ideal S1x2048 .f32) (r : Fin 1024) (l : Fin 2048) :
    k0_pay1 v g (ix2 r l) = v (ix2 r l) * invRms (fun k => v (ix2 r k)) * g (ix2 (0 : Fin 1) l) := by
  unfold invRms
  pointwise [k0_pay1]

theorem pay2_at (h : Vec Ideal S1024x2048 .bf16) (w : Vec Ideal S2048x32 .bf16) (b : Vec Ideal S1x32 .f32) (r : Fin 1024) (l : Fin 32) :
    k0_pay2 h w b (ix2 r l) = (∑ x : Fin 2048, h (ix2 r x) * w (ix2 x l)) + b (ix2 (0 : Fin 1) l) := by
  pointwise [k0_pay2]

theorem pay3_at (h : Vec Ideal S1024x2048 .bf16) (w : Vec Ideal S2048x1024 .bf16) (b : Vec Ideal S1x1024 .f32) (r : Fin 1024) (l : Fin 1024) :
    k0_pay3 h w b (ix2 r l) = (∑ x : Fin 2048, h (ix2 r x) * w (ix2 x l)) + b (ix2 (0 : Fin 1) l) := by
  pointwise [k0_pay3]

/-- The array row that row `r` of the row block of point `t` is. -/
def row (t : Fin cfg0.N) (r : Fin 1024) : Fin 16384 :=
  ⟨1024 * (t.val / 11) + r.val, by have := t.isLt; have hN : cfg0.N = 176 := N_0; have := r.isLt; omega⟩
/-- The array column that column `l` of the column block of point `t` is. -/
def col (t : Fin cfg0.N) (l : Fin 1024) : Fin 11264 :=
  ⟨1024 * (t.val % 11) + l.val, by have := l.isLt; omega⟩

theorem blk0 (c : Dev nD) (t : Fin cfg0.N) (r : Fin 1024) (k : Fin 2048) :
    (iblk m c 0 t : Vec Ideal S1024x2048 .f32) (ix2 r k) = V m c main_v8 (ix2 (row t r) (k)) := by
  have hi := index_all t
  unfold iblk
  rw [View.read_apply]
  show V m c main_v8 _ = _
  congr 1
  funext a
  apply Fin.ext
  match a with
  | ⟨0, _⟩ => show win0_0.index t 0 * 1024 + 1 * r.val = 1024 * (t.val / 11) + r.val; omega
  | ⟨1, _⟩ => show win0_0.index t 1 * 2048 + 1 * k.val = k.val; omega

theorem blk1 (c : Dev nD) (t : Fin cfg0.N) (r : Fin 1) (k : Fin 2048) :
    (iblk m c 1 t : Vec Ideal S1x2048 .f32) (ix2 r k) = V m c main_v9 (ix2 (r) (k)) := by
  have hi := index_all t
  unfold iblk
  rw [View.read_apply]
  show V m c main_v9 _ = _
  congr 1
  funext a
  apply Fin.ext
  match a with
  | ⟨0, _⟩ => show win0_1.index t 0 * 1 + 1 * r.val = r.val; omega
  | ⟨1, _⟩ => show win0_1.index t 1 * 2048 + 1 * k.val = k.val; omega

theorem blk2 (c : Dev nD) (t : Fin cfg0.N) (r : Fin 2048) (k : Fin 32) :
    (iblk m c 2 t : Vec Ideal S2048x32 .bf16) (ix2 r k) = V m c main_v13 (ix2 (r) (k)) := by
  have hi := index_all t
  unfold iblk
  rw [View.read_apply]
  show V m c main_v13 _ = _
  congr 1
  funext a
  apply Fin.ext
  match a with
  | ⟨0, _⟩ => show win0_2.index t 0 * 2048 + 1 * r.val = r.val; omega
  | ⟨1, _⟩ => show win0_2.index t 1 * 32 + 1 * k.val = k.val; omega

theorem blk3 (c : Dev nD) (t : Fin cfg0.N) (r : Fin 1) (k : Fin 32) :
    (iblk m c 3 t : Vec Ideal S1x32 .f32) (ix2 r k) = V m c main_v12 (ix2 (r) (k)) := by
  have hi := index_all t
  unfold iblk
  rw [View.read_apply]
  show V m c main_v12 _ = _
  congr 1
  funext a
  apply Fin.ext
  match a with
  | ⟨0, _⟩ => show win0_3.index t 0 * 1 + 1 * r.val = r.val; omega
  | ⟨1, _⟩ => show win0_3.index t 1 * 32 + 1 * k.val = k.val; omega

theorem blk4 (c : Dev nD) (t : Fin cfg0.N) (r : Fin 2048) (k : Fin 1024) :
    (iblk m c 4 t : Vec Ideal S2048x1024 .bf16) (ix2 r k) = V m c main_v3 (ix2 (r) (col t k)) := by
  have hi := index_all t
  unfold iblk
  rw [View.read_apply]
  show V m c main_v3 _ = _
  congr 1
  funext a
  apply Fin.ext
  match a with
  | ⟨0, _⟩ => show win0_4.index t 0 * 2048 + 1 * r.val = r.val; omega
  | ⟨1, _⟩ => show win0_4.index t 1 * 1024 + 1 * k.val = 1024 * (t.val % 11) + k.val; omega

theorem blk5 (c : Dev nD) (t : Fin cfg0.N) (r : Fin 1) (k : Fin 1024) :
    (iblk m c 5 t : Vec Ideal S1x1024 .f32) (ix2 r k) = V m c main_v7 (ix2 (r) (col t k)) := by
  have hi := index_all t
  unfold iblk
  rw [View.read_apply]
  show V m c main_v7 _ = _
  congr 1
  funext a
  apply Fin.ext
  match a with
  | ⟨0, _⟩ => show win0_5.index t 0 * 1 + 1 * r.val = r.val; omega
  | ⟨1, _⟩ => show win0_5.index t 1 * 1024 + 1 * k.val = 1024 * (t.val % 11) + k.val; omega

/-- Entry `k` of row `R`, normalized. -/
def normed (x : Vec Ideal S16384x2048 .f32) (g : Vec Ideal S1x2048 .f32) (R : Fin 16384) (k : Fin 2048) : EReal :=
  x (ix2 R k) * invRms (fun j => x (ix2 R j)) * g (ix2 (0 : Fin 1) k)

/-- The projection at row `R`, column `l`, of the arrays the kernel is given. -/
def proj (x : Vec Ideal S16384x2048 .f32) (g : Vec Ideal S1x2048 .f32) (w : Vec Ideal S2048x11264 .bf16) (b : Vec Ideal S1x11264 .f32)
    (R : Fin 16384) (l : Fin 11264) : EReal := (∑ k : Fin 2048, normed x g R k * w (ix2 k l)) + b (ix2 (0 : Fin 1) l)

/-- The gate columns at row `R`, column `l`, of the arrays the kernel is given. -/
def gate (x : Vec Ideal S16384x2048 .f32) (g : Vec Ideal S1x2048 .f32) (w : Vec Ideal S2048x32 .bf16) (b : Vec Ideal S1x32 .f32)
    (R : Fin 16384) (l : Fin 32) : EReal := (∑ k : Fin 2048, normed x g R k * w (ix2 k l)) + b (ix2 (0 : Fin 1) l)

theorem rows_at (c : Dev nD) (t : Fin cfg0.N) (r : Fin 1024) (k : Fin 2048) :
    rows m c t (ix2 r k) = normed (V m c main_v8) (V m c main_v9) (row t r) k := by
  unfold rows normed
  rw [pay1_at]
  simp only [blk0, blk1]

/-- The whole of the two results. -/
def result6 (c : Dev nD) : Buf (Elt Ideal) ((c : Thread nD τ).loc main_v14_0) :=
  fun i => proj (V m c main_v8) (V m c main_v9) (V m c main_v3) (V m c main_v7) (i 0) (i 1)
def result7 (c : Dev nD) : Buf (Elt Ideal) ((c : Thread nD τ).loc main_v14_1) :=
  fun i => gate (V m c main_v8) (V m c main_v9) (V m c main_v13) (V m c main_v12) (i 0) (i 1)

theorem flushed6_eq (c : Dev nD) (t : Fin cfg0.N) (hf : (cfg0.win 6).flush t = true) :
    (dats m 0 c).flushed 6 t = ((cfg0.win 6).blk t).view.read (Elt Ideal) (result6 m c) := by
  show (cfg0.win 6).cut (grid0.coords t) ((dats m 0 c).after 6 t) = _
  rw [after6]
  show cols m c t = _
  funext j
  obtain ⟨r, l, rfl⟩ : ∃ (r : Fin 1024) (l : Fin 1024), j = ix2 r l := ⟨j 0, j 1, by funext a; match a with | ⟨0, _⟩ => rfl | ⟨1, _⟩ => rfl⟩
  unfold cols
  rw [pay3_at, View.read_apply]
  simp only [rows_at, blk4, blk5]
  have hi := index_all t
  have he : ((cfg0.win 6).blk t).view.emb (ix2 r l) = ix2 (row t r) (col t l) := by
    funext a
    apply Fin.ext
    match a with
    | ⟨0, _⟩ => show win0_6.index t 0 * 1024 + 1 * r.val = 1024 * (t.val / 11) + r.val; omega
    | ⟨1, _⟩ => show win0_6.index t 1 * 1024 + 1 * l.val = 1024 * (t.val % 11) + l.val; omega
  rw [he]
  rfl

theorem final6 (c : Dev nD) : (dats m 0 c).arrAt 6 cfg0.N = result6 m c :=
  (dats m 0 c).arrAt_eq_of_cover 6 (result6 m c) (flushed6_eq m c) fun i => by
    have hN : cfg0.N = 176 := N_0
    have h0 : (i 0 : Nat) < 16384 := (i 0).isLt
    have h1 : (i 1 : Nat) < 11264 := (i 1).isLt
    obtain ⟨t, ht⟩ : ∃ t : Fin cfg0.N, t.val = 11 * ((i 0 : Nat) / 1024) + (i 1 : Nat) / 1024 := ⟨⟨11 * ((i 0 : Nat) / 1024) + (i 1 : Nat) / 1024, by omega⟩, rfl⟩
    have hi := index_all t
    refine ⟨t, flush0_6 _, ?_⟩
    show i ∈ ((View.whole main_v14_0).slice (win0_6.rect t)).set
    rw [View.set_slice_whole, Rect.mem_set_unit]
    intro a
    match a with
    | ⟨0, _⟩ => show win0_6.index t 0 * 1024 ≤ (i 0 : Nat) ∧ (i 0 : Nat) < win0_6.index t 0 * 1024 + 1024; omega
    | ⟨1, _⟩ => show win0_6.index t 1 * 1024 ≤ (i 1 : Nat) ∧ (i 1 : Nat) < win0_6.index t 1 * 1024 + 1024; omega

theorem flushed7_eq (c : Dev nD) (t : Fin cfg0.N) (hf : (cfg0.win 7).flush t = true) :
    (dats m 0 c).flushed 7 t = ((cfg0.win 7).blk t).view.read (Elt Ideal) (result7 m c) := by
  show (cfg0.win 7).cut (grid0.coords t) ((dats m 0 c).after 7 t) = _
  rw [after7]
  show gates m c t = _
  funext j
  obtain ⟨r, l, rfl⟩ : ∃ (r : Fin 1024) (l : Fin 32), j = ix2 r l := ⟨j 0, j 1, by funext a; match a with | ⟨0, _⟩ => rfl | ⟨1, _⟩ => rfl⟩
  unfold gates
  rw [pay2_at, View.read_apply]
  simp only [rows_at, blk2, blk3]
  have hi := index_all t
  have he : ((cfg0.win 7).blk t).view.emb (ix2 r l) = ix2 (row t r) (l) := by
    funext a
    apply Fin.ext
    match a with
    | ⟨0, _⟩ => show win0_7.index t 0 * 1024 + 1 * r.val = 1024 * (t.val / 11) + r.val; omega
    | ⟨1, _⟩ => show win0_7.index t 1 * 32 + 1 * l.val = l.val; omega
  rw [he]
  rfl

theorem final7 (c : Dev nD) : (dats m 0 c).arrAt 7 cfg0.N = result7 m c :=
  (dats m 0 c).arrAt_eq_of_cover 7 (result7 m c) (flushed7_eq m c) fun i => by
    have hN : cfg0.N = 176 := N_0
    have h0 : (i 0 : Nat) < 16384 := (i 0).isLt
    have h1 : (i 1 : Nat) < 32 := (i 1).isLt
    obtain ⟨t, ht⟩ : ∃ t : Fin cfg0.N, t.val = 11 * ((i 0 : Nat) / 1024) + 10 := ⟨⟨11 * ((i 0 : Nat) / 1024) + 10, by omega⟩, rfl⟩
    have hi := index_all t
    refine ⟨t, (flush0_7 _).mpr (by omega), ?_⟩
    show i ∈ ((View.whole main_v14_1).slice (win0_7.rect t)).set
    rw [View.set_slice_whole, Rect.mem_set_unit]
    intro a
    match a with
    | ⟨0, _⟩ => show win0_7.index t 0 * 1024 ≤ (i 0 : Nat) ∧ (i 0 : Nat) < win0_7.index t 0 * 1024 + 1024; omega
    | ⟨1, _⟩ => show win0_7.index t 1 * 32 ≤ (i 1 : Nat) ∧ (i 1 : Nat) < win0_7.index t 1 * 32 + 32; omega

/-- What the kernel is given as the projection's weights without the gate columns, the last 4096 first. -/
def prep3 (w : FVec Ideal S2048x11296 .f32) : FVec Ideal S2048x11264 .bf16 :=
  truncf (F := Ideal) .bf16 (concatenate S2048x11264 1 [⟨S2048x4096, extractStridedSlice S2048x4096 ![0, 7200] w Facts₀.slices_S2048x11296_S2048x4096_0_7200⟩, ⟨S2048x7168, extractStridedSlice S2048x7168 ![0, 0] w Facts₀.slices_S2048x11296_S2048x7168_0_0⟩] Facts₀.concatenates_S2048x4096_S2048x7168_S2048x11264_d1) Facts₀.bitsLt_bf16_f32
theorem V3 (c : Dev nD) : V m c main_v3 = prep3 (m ((c : Thread nD τ).loc main_arg2)) := by
  show StableHlo.after hostOps0 _ (Proc.devRef .tc main_v3) = _
  after_results <;> rfl

/-- What the kernel is given as the projection's bias in the same order. -/
def prep7 (b : FVec Ideal S11296 .f32) : FVec Ideal S1x11264 .f32 :=
  broadcastInDim S1x11264 ![1] Facts₀.bcast_S11264_S1x11264_1 (concatenate S11264 0 [⟨S4096, extractStridedSlice S4096 ![7200] b Facts₀.slices_S11296_S4096_7200⟩, ⟨S7168, extractStridedSlice S7168 ![0] b Facts₀.slices_S11296_S7168_0⟩] Facts₀.concatenates_S4096_S7168_S11264_d0)
theorem V7 (c : Dev nD) : V m c main_v7 = prep7 (m ((c : Thread nD τ).loc main_arg3)) := by
  show StableHlo.after hostOps0 _ (Proc.devRef .tc main_v7) = _
  after_results <;> rfl

/-- What the kernel is given as the tokens. -/
def prep8 (x : FVec Ideal S8x2048x2048 .f32) : FVec Ideal S16384x2048 .f32 :=
  shapeCast S16384x2048 x Facts₀.shapeCasts_S8x2048x2048_S16384x2048
theorem V8 (c : Dev nD) : V m c main_v8 = prep8 (m ((c : Thread nD τ).loc main_arg0)) := by
  show StableHlo.after hostOps0 _ (Proc.devRef .tc main_v8) = _
  after_results <;> rfl

/-- What the kernel is given as the norm's weights. -/
def prep9 (g : FVec Ideal S2048 .f32) : FVec Ideal S1x2048 .f32 :=
  broadcastInDim S1x2048 ![1] Facts₀.bcast_S2048_S1x2048_1 g
theorem V9 (c : Dev nD) : V m c main_v9 = prep9 (m ((c : Thread nD τ).loc main_arg1)) := by
  show StableHlo.after hostOps0 _ (Proc.devRef .tc main_v9) = _
  after_results <;> rfl

/-- What the kernel is given as the gate columns' bias. -/
def prep12 (b : FVec Ideal S11296 .f32) : FVec Ideal S1x32 .f32 :=
  broadcastInDim S1x32 ![1] Facts₀.bcast_S32_S1x32_1 (extractStridedSlice S32 ![7168] b Facts₀.slices_S11296_S32_7168)
theorem V12 (c : Dev nD) : V m c main_v12 = prep12 (m ((c : Thread nD τ).loc main_arg3)) := by
  show StableHlo.after hostOps0 _ (Proc.devRef .tc main_v12) = _
  after_results <;> rfl

/-- What the kernel is given as the gate columns' weights. -/
def prep13 (w : FVec Ideal S2048x11296 .f32) : FVec Ideal S2048x32 .bf16 :=
  truncf (F := Ideal) .bf16 (extractStridedSlice S2048x32 ![0, 7168] w Facts₀.slices_S2048x11296_S2048x32_0_7168) Facts₀.bitsLt_bf16_f32
theorem V13 (c : Dev nD) : V m c main_v13 = prep13 (m ((c : Thread nD τ).loc main_arg2)) := by
  show StableHlo.after hostOps0 _ (Proc.devRef .tc main_v13) = _
  after_results <;> rfl

/-! ## The reference -/

/-- The reference's projection of all 11296 columns. -/
def refProj (x : FVec Ideal Cert.Reference2Ideal.S8x2048x2048 .f32) (g : FVec Ideal Cert.Reference2Ideal.S2048 .f32)
    (w : FVec Ideal Cert.Reference2Ideal.S2048x11296 .f32) (b : FVec Ideal Cert.Reference2Ideal.S11296 .f32) : FVec Ideal Cert.Reference2Ideal.S16384x11296 .f32 :=
  shapeCast Cert.Reference2Ideal.S16384x11296 (addf (Host.dotGeneral Cert.Reference2Ideal.dot_S8x2048x2048_S2048x11296_S8x2048x11296_2_0_01_1_n_n none (mulf (mulf x (broadcastInDim Cert.Reference2Ideal.S8x2048x2048 ![0, 1, 2] Cert.Reference2Ideal.Gen.bcast_S8x2048x1_S8x2048x2048_0_1_2 (Host.rsqrt (addf (Host.divf (broadcastInDim Cert.Reference2Ideal.S8x2048x1 ![0, 1] Cert.Reference2Ideal.Gen.bcast_S8x2048_S8x2048x1_0_1 (Host.reduceAdd (mulf x x) (constant Cert.Reference2Ideal.S_ .f32 0x00000000#32) Cert.Reference2Ideal.Gen.reducesTo_S8x2048x2048_S8x2048_d2 Cert.Reference2Ideal.Gen.h_S_)) (broadcastInDim Cert.Reference2Ideal.S8x2048x1 ![] Cert.Reference2Ideal.Gen.bcast_S_S8x2048x1 (constant Cert.Reference2Ideal.S_ .f32 0x45000000#32))) (broadcastInDim Cert.Reference2Ideal.S8x2048x1 ![] Cert.Reference2Ideal.Gen.bcast_S_S8x2048x1 (constant Cert.Reference2Ideal.S_ .f32 0x358637BD#32)))))) (broadcastInDim Cert.Reference2Ideal.S8x2048x2048 ![0, 1, 2] Cert.Reference2Ideal.Gen.bcast_S1x1x2048_S8x2048x2048_0_1_2 (broadcastInDim Cert.Reference2Ideal.S1x1x2048 ![2] Cert.Reference2Ideal.Gen.bcast_S2048_S1x1x2048_2 g))) w) (broadcastInDim Cert.Reference2Ideal.S8x2048x11296 ![0, 1, 2] Cert.Reference2Ideal.Gen.bcast_S1x1x11296_S8x2048x11296_0_1_2 (broadcastInDim Cert.Reference2Ideal.S1x1x11296 ![2] Cert.Reference2Ideal.Gen.bcast_S11296_S1x1x11296_2 b))) Cert.Reference2Ideal.Gen.shapeCasts_S8x2048x11296_S16384x11296

theorem refProj_at (x : FVec Ideal Cert.Reference2Ideal.S8x2048x2048 .f32) (g : FVec Ideal Cert.Reference2Ideal.S2048 .f32)
    (w : FVec Ideal Cert.Reference2Ideal.S2048x11296 .f32) (b : FVec Ideal Cert.Reference2Ideal.S11296 .f32) (R : Fin 16384) (l : Fin 11296) :
    refProj x g w b (ix2 R l) = (∑ k : Fin 2048, normed (prep8 x) (prep9 g) R k * w (ix2 k l)) + b (ix1 l) := by
  unfold refProj normed invRms prep8 prep9
  pointwise

/-- The reference's first result. -/
def ref6 (x : FVec Ideal Cert.Reference2Ideal.S8x2048x2048 .f32) (g : FVec Ideal Cert.Reference2Ideal.S2048 .f32)
    (w : FVec Ideal Cert.Reference2Ideal.S2048x11296 .f32) (b : FVec Ideal Cert.Reference2Ideal.S11296 .f32) : FVec Ideal Cert.Reference2Ideal.S16384x11264 .bf16 :=
  truncf (F := Ideal) .bf16 (concatenate Cert.Reference2Ideal.S16384x11264 1 [⟨Cert.Reference2Ideal.S16384x4096, (extractStridedSlice Cert.Reference2Ideal.S16384x4096 ![0, 7200] (refProj x g w b) Cert.Reference2Ideal.Gen.slices_S16384x11296_S16384x4096_0_7200)⟩, ⟨Cert.Reference2Ideal.S16384x7168, (extractStridedSlice Cert.Reference2Ideal.S16384x7168 ![0, 0] (refProj x g w b) Cert.Reference2Ideal.Gen.slices_S16384x11296_S16384x7168_0_0)⟩] Cert.Reference2Ideal.Gen.concatenates_S16384x4096_S16384x7168_S16384x11264_d1) Cert.Reference2Ideal.Gen.bitsLt_bf16_f32

/-- The reference's second result. -/
def ref7 (x : FVec Ideal Cert.Reference2Ideal.S8x2048x2048 .f32) (g : FVec Ideal Cert.Reference2Ideal.S2048 .f32)
    (w : FVec Ideal Cert.Reference2Ideal.S2048x11296 .f32) (b : FVec Ideal Cert.Reference2Ideal.S11296 .f32) : FVec Ideal Cert.Reference2Ideal.S16384x32 .f32 :=
  extractStridedSlice Cert.Reference2Ideal.S16384x32 ![0, 7168] (refProj x g w b) Cert.Reference2Ideal.Gen.slices_S16384x11296_S16384x32_0_7168

/-- The column of all 11296 that column `l` of the first result is. -/
def src (l : Fin 11264) : Fin 11296 := if h : l.val < 4096 then ⟨7200 + l.val, by omega⟩ else ⟨l.val - 4096, by omega⟩

theorem prep3_at (w : FVec Ideal S2048x11296 .f32) (k : Fin 2048) (l : Fin 11264) : prep3 w (ix2 k l) = w (ix2 k (src l)) := by
  unfold prep3 src
  by_cases h : l.val < 4096
  · pointwise [h]
  · pointwise [h]

theorem prep7_at (b : FVec Ideal S11296 .f32) (l : Fin 11264) : prep7 b (ix2 (0 : Fin 1) l) = b (ix1 (src l)) := by
  unfold prep7 src
  by_cases h : l.val < 4096
  · pointwise [h]
  · rw [dif_neg h]
    have h1 : ∀ v : FVec Ideal S11264 .f32, broadcastInDim S1x11264 ![1] Facts₀.bcast_S11264_S1x11264_1 v (ix2 (0 : Fin 1) l) = v (ix1 l) := fun v => by pointwise
    rw [h1, concatenate_pair_apply]
    refine (dif_neg (show ¬_ from h)).trans ?_
    unfold extractStridedSlice
    congr 1
    funext a
    apply Fin.ext
    match a with
    | ⟨0, _⟩ => show 0 + (l.val - 4096) = l.val - 4096; omega

theorem ref6_at (x : FVec Ideal Cert.Reference2Ideal.S8x2048x2048 .f32) (g : FVec Ideal Cert.Reference2Ideal.S2048 .f32)
    (w : FVec Ideal Cert.Reference2Ideal.S2048x11296 .f32) (b : FVec Ideal Cert.Reference2Ideal.S11296 .f32) (R : Fin 16384) (l : Fin 11264) :
    ref6 x g w b (ix2 R l) = refProj x g w b (ix2 R (src l)) := by
  unfold ref6 src
  generalize refProj x g w b = p
  by_cases h : l.val < 4096
  · pointwise [h]
  · pointwise [h]

theorem ref6_eq (x : FVec Ideal Cert.Reference2Ideal.S8x2048x2048 .f32) (g : FVec Ideal Cert.Reference2Ideal.S2048 .f32)
    (w : FVec Ideal Cert.Reference2Ideal.S2048x11296 .f32) (b : FVec Ideal Cert.Reference2Ideal.S11296 .f32) (R : Fin 16384) (l : Fin 11264) :
    ref6 x g w b (ix2 R l) = proj (prep8 x) (prep9 g) (prep3 w) (prep7 b) R l := by
  rw [ref6_at, refProj_at]
  unfold proj
  simp only [prep3_at, prep7_at]

theorem ref7_eq (x : FVec Ideal Cert.Reference2Ideal.S8x2048x2048 .f32) (g : FVec Ideal Cert.Reference2Ideal.S2048 .f32)
    (w : FVec Ideal Cert.Reference2Ideal.S2048x11296 .f32) (b : FVec Ideal Cert.Reference2Ideal.S11296 .f32) (R : Fin 16384) (l : Fin 32) :
    ref7 x g w b (ix2 R l) = gate (prep8 x) (prep9 g) (prep13 w) (prep12 b) R l := by
  have h : ref7 x g w b (ix2 R l) = refProj x g w b (ix2 R (⟨7168 + l.val, by omega⟩ : Fin 11296)) := by
    unfold ref7
    generalize refProj x g w b = p
    pointwise
  rw [h, refProj_at]
  unfold gate prep13 prep12
  pointwise

/-! ## The claim -/

theorem run_values : θ_run defs (onTc (τ := τ) (main (F := Ideal))) ⟨m, fun _ => 0, ρ⟩ (fun r => ∀ c : Dev nD,
      r.2.mem ((c.tc : Thread nD τ).loc main_v14_0) = result6 m c
      ∧ r.2.mem ((c.tc : Thread nD τ).loc main_v14_1) = result7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).1 6).trans (final6 m c), ((h.2 c).1 7).trans (final7 m c), h.1.1 c⟩)
    (θ_run_and (frame_run m ρ) (run_main m ρ))

theorem in_proj_algebraic : algebraic_Kernel2Ideal_Reference2Ideal (hKernel2Ideal := Cert.Kernel2Ideal.Gen.facts)
    (hReference2Ideal := Cert.Reference2Ideal.Gen.facts) := by
  intro m ρ m' ρ' _ hm
  refine ⟨result6 m, result7 m, run_values m ρ, ?_⟩
  refine (θ_run _ _ _).mono (fun _ h c => ⟨(h c).1.trans ?_, (h c).2.1.trans ?_, (h c).2.2⟩) (Cert.Reference2Ideal.Value.run m' ρ')
  · obtain ⟨h0, h1, h2, h3⟩ := hm c
    rw [h0, h1, h2, h3]
    funext i
    obtain ⟨r, l, rfl⟩ : ∃ (r : Fin 16384) (l : Fin 11264), i = ix2 r l := ⟨i 0, i 1, by funext a; match a with | ⟨0, _⟩ => rfl | ⟨1, _⟩ => rfl⟩
    refine (ref6_eq _ _ _ _ r l).trans ?_
    show _ = proj (V m c main_v8) (V m c main_v9) (V m c main_v3) (V m c main_v7) r l
    rw [V8, V9, V3, V7]
  · obtain ⟨h0, h1, h2, h3⟩ := hm c
    rw [h0, h1, h2, h3]
    funext i
    obtain ⟨r, l, rfl⟩ : ∃ (r : Fin 16384) (l : Fin 32), i = ix2 r l := ⟨i 0, i 1, by funext a; match a with | ⟨0, _⟩ => rfl | ⟨1, _⟩ => rfl⟩
    refine (ref7_eq _ _ _ _ r l).trans ?_
    show _ = gate (V m c main_v8) (V m c main_v9) (V m c main_v13) (V m c main_v12) r l
    rw [V8, V9, V13, V12]

end Cert.Kernel2Ideal.Value

end
-- ==== Proof.MergeValue.lean ====
/-
  The merge call: what the kernel leaves in its result array, read at an index of the array, and that the reference
  leaves the same. A point computes one block of 512 tokens: the residual plus the two gated branches, projected.
-/
module

public import proofs.«01_k».proof.Defs
public import proofs.«01_k».proof.Proof.Gen.Kernel3Ideal.Value
public import proofs.«01_k».proof.Proof.Gen.Reference3Ideal.Run
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

variable (m : (ℓ : Loc nD τ sig) → Buf (Elt Ideal) ℓ) (ρ : Dev nD → PrngReg)

theorem hz : (![0, 0] : Fin 2 → Nat) = fun _ => 0 := funext fun a => by fin_cases a <;> rfl

/-- The block of results the body stores, at an index: the residual plus the gated sum of the two branches' projections,
    projected. -/
theorem pay_at (v0 : Vec Ideal S512x1024 .bf16) (v2 : Vec Ideal S1024x2048 .bf16) (v5 : Vec Ideal S512x1024 .bf16)
    (v7 : Vec Ideal S1024x2048 .bf16) (v10 v15 : Vec Ideal S512x2048 .bf16) (v21 : Vec Ideal S512x2048 .f32)
    (v24 : Vec Ideal S2048x2048 .bf16) (r : Fin 512) (l : Fin 2048) :
    k0_pay1 v0 v2 v5 v7 v10 v15 v21 v24 (ix2 r l) = v21 (ix2 r l) +
      ∑ k : Fin 2048, (Ideal.logistic (v10 (ix2 r k)) * ∑ x : Fin 1024, v0 (ix2 r x) * v2 (ix2 x k) +
            Ideal.logistic (v15 (ix2 r k)) * ∑ x : Fin 1024, v5 (ix2 r x) * v7 (ix2 x k)) * v24 (ix2 k l) := by
  pointwise [k0_pay1]

/-- The value the body leaves in the result's staging buffer: its one store's payload of the input blocks. -/
theorem out_A (c : Dev nD) (i : grid0.Coords) (a1 : Memref sig .tc .vmem S512x1024 .bf16) (h1 : a1.IsWhole)
    (a2 : Memref sig .tc .vmem S512x1024 .bf16) (h2 : a2.IsWhole) (a3 : Memref sig .tc .vmem S512x2048 .bf16) (h3 : a3.IsWhole)
    (a4 : Memref sig .tc .vmem S512x2048 .bf16) (h4 : a4.IsWhole) (a5 : Memref sig .tc .vmem S512x2048 .f32) (h5 : a5.IsWhole)
    (a6 : Memref sig .tc .vmem S1024x2048 .bf16) (h6 : a6.IsWhole) (a7 : Memref sig .tc .vmem S1024x2048 .bf16) (h7 : a7.IsWhole)
    (a8 : Memref sig .tc .vmem S2048x2048 .bf16) (h8 : a8.IsWhole) (a9 : Memref sig .tc .vmem S512x2048 .f32) (h9 : a9.IsWhole)
    (x0 x1 : Vec Ideal S512x1024 .bf16) (x2 x3 : Vec Ideal S512x2048 .bf16) (x4 : Vec Ideal S512x2048 .f32)
    (x5 x6 : Vec Ideal S1024x2048 .bf16) (x7 : Vec Ideal S2048x2048 .bf16) :
    out0_A_8 c i a1 h1 a2 h2 a3 h3 a4 h4 a5 h5 a6 h6 a7 h7 a8 h8 a9 h9 x0 x1 x2 x3 x4 x5 x6 x7
      = k0_pay1 x0 x5 x1 x6 x2 x3 x4 x7 := by
  unfold out0_A_8
  rw [View.read_writes_eq_canon _ _ _ (cover0_A_8 c i a1 h1 a2 h2 a3 h3 a4 h4 a5 h5 a6 h6 a7 h7 a8 h8 a9 h9 x0 x1 x2 x3 x4 x5 x6 x7)]
  unfold kernelRun0_A
  dsimp only
  rw [View.canon_unit_zero hz]
  simp only [View.readAt_eq_ld, h1.read_unread, h2.read_unread, h3.read_unread, h4.read_unread, h5.read_unread, h6.read_unread,
    h7.read_unread, h8.read_unread, View.ld_unit_zero (S := S512x1024) hz, View.ld_unit_zero (S := S512x2048) hz,
    View.ld_unit_zero (S := S1024x2048) hz, View.ld_unit_zero (S := S2048x2048) hz]

/-- The row of the arrays that row `r` of the block at point `t` is. -/
def row (t : Fin cfg0.N) (r : Fin 512) : Fin 16384 :=
  ⟨512 * t.val + r.val, by have := t.isLt; have hN : cfg0.N = 32 := N_0; have := r.isLt; omega⟩

/-- Each window's block index at a point, over the grid of 32. -/
theorem index_all : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 1)
    ∧ (win0_4.index t 0 = t.val ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = t.val ∧ win0_8.index t 1 = 0) :=
  (by decide +kernel : ∀ t : Fin grid0.N, _)

theorem blk0 (c : Dev nD) (t : Fin cfg0.N) (r : Fin 512) (k : Fin 1024) :
    (iblk m c 0 t : Vec Ideal S512x1024 .bf16) (ix2 r k) = V m c main_v0 (ix2 (row t r) k) := by
  have hi := index_all t
  unfold iblk
  rw [View.read_apply]
  show V m c main_v0 _ = _
  congr 1
  funext a
  apply Fin.ext
  match a with
  | ⟨0, _⟩ => show win0_0.index t 0 * 512 + 1 * r.val = 512 * t.val + r.val; omega
  | ⟨1, _⟩ => show win0_0.index t 1 * 1024 + 1 * k.val = k.val; omega

theorem blk1 (c : Dev nD) (t : Fin cfg0.N) (r : Fin 512) (k : Fin 1024) :
    (iblk m c 1 t : Vec Ideal S512x1024 .bf16) (ix2 r k) = V m c main_v1 (ix2 (row t r) k) := by
  have hi := index_all t
  unfold iblk
  rw [View.read_apply]
  show V m c main_v1 _ = _
  congr 1
  funext a
  apply Fin.ext
  match a with
  | ⟨0, _⟩ => show win0_1.index t 0 * 512 + 1 * r.val = 512 * t.val + r.val; omega
  | ⟨1, _⟩ => show win0_1.index t 1 * 1024 + 1 * k.val = k.val; omega

theorem blk2 (c : Dev nD) (t : Fin cfg0.N) (r : Fin 512) (k : Fin 2048) :
    (X0_2 m c t : Vec Ideal S512x2048 .bf16) (ix2 r k) = V m c main_v2 (ix2 (row t r) (⟨k.val, by omega⟩ : Fin 11264)) := by
  have hi := index_all t
  unfold X0_2 Pipeline.Window.fill
  rw [dif_pos (moved0_2 t _)]
  unfold iblk
  rw [View.read_apply]
  show V m c main_v2 _ = _
  congr 1
  funext a
  apply Fin.ext
  match a with
  | ⟨0, _⟩ => show win0_2.index t 0 * 512 + 1 * r.val = 512 * t.val + r.val; omega
  | ⟨1, _⟩ => show win0_2.index t 1 * 2048 + 1 * k.val = k.val; omega

theorem blk3 (c : Dev nD) (t : Fin cfg0.N) (r : Fin 512) (k : Fin 2048) :
    (X0_3 m c t : Vec Ideal S512x2048 .bf16) (ix2 r k) = V m c main_v2 (ix2 (row t r) (⟨2048 + k.val, by omega⟩ : Fin 11264)) := by
  have hi := index_all t
  unfold X0_3 Pipeline.Window.fill
  rw [dif_pos (moved0_3 t _)]
  unfold iblk
  rw [View.read_apply]
  show V m c main_v2 _ = _
  congr 1
  funext a
  apply Fin.ext
  match a with
  | ⟨0, _⟩ => show win0_3.index t 0 * 512 + 1 * r.val = 512 * t.val + r.val; omega
  | ⟨1, _⟩ => show win0_3.index t 1 * 2048 + 1 * k.val = 2048 + k.val; omega

theorem blk4 (c : Dev nD) (t : Fin cfg0.N) (r : Fin 512) (k : Fin 2048) :
    (iblk m c 4 t : Vec Ideal S512x2048 .f32) (ix2 r k) = V m c main_v3 (ix2 (row t r) k) := by
  have hi := index_all t
  unfold iblk
  rw [View.read_apply]
  show V m c main_v3 _ = _
  congr 1
  funext a
  apply Fin.ext
  match a with
  | ⟨0, _⟩ => show win0_4.index t 0 * 512 + 1 * r.val = 512 * t.val + r.val; omega
  | ⟨1, _⟩ => show win0_4.index t 1 * 2048 + 1 * k.val = k.val; omega

theorem blk5 (c : Dev nD) (t : Fin cfg0.N) (r : Fin 1024) (k : Fin 2048) :
    (iblk m c 5 t : Vec Ideal S1024x2048 .bf16) (ix2 r k) = V m c main_v4 (ix2 r k) := by
  have hi := index_all t
  unfold iblk
  rw [View.read_apply]
  show V m c main_v4 _ = _
  congr 1
  funext a
  apply Fin.ext
  match a with
  | ⟨0, _⟩ => show win0_5.index t 0 * 1024 + 1 * r.val = r.val; omega
  | ⟨1, _⟩ => show win0_5.index t 1 * 2048 + 1 * k.val = k.val; omega

theorem blk6 (c : Dev nD) (t : Fin cfg0.N) (r : Fin 1024) (k : Fin 2048) :
    (iblk m c 6 t : Vec Ideal S1024x2048 .bf16) (ix2 r k) = V m c main_v5 (ix2 r k) := by
  have hi := index_all t
  unfold iblk
  rw [View.read_apply]
  show V m c main_v5 _ = _
  congr 1
  funext a
  apply Fin.ext
  match a with
  | ⟨0, _⟩ => show win0_6.index t 0 * 1024 + 1 * r.val = r.val; omega
  | ⟨1, _⟩ => show win0_6.index t 1 * 2048 + 1 * k.val = k.val; omega

theorem blk7 (c : Dev nD) (t : Fin cfg0.N) (r : Fin 2048) (k : Fin 2048) :
    (iblk m c 7 t : Vec Ideal S2048x2048 .bf16) (ix2 r k) = V m c main_v6 (ix2 r k) := by
  have hi := index_all t
  unfold iblk
  rw [View.read_apply]
  show V m c main_v6 _ = _
  congr 1
  funext a
  apply Fin.ext
  match a with
  | ⟨0, _⟩ => show win0_7.index t 0 * 2048 + 1 * r.val = r.val; omega
  | ⟨1, _⟩ => show win0_7.index t 1 * 2048 + 1 * k.val = k.val; omega

/-- The result at row `r`, column `l`, of the arrays the kernel is given. -/
def merged (yh ym : Vec Ideal S16384x1024 .bf16) (p : Vec Ideal S16384x11264 .bf16) (x : Vec Ideal S16384x2048 .f32)
    (wa wb : Vec Ideal S1024x2048 .bf16) (wo : Vec Ideal S2048x2048 .bf16) (r : Fin 16384) (l : Fin 2048) : EReal :=
  x (ix2 r l) + ∑ k : Fin 2048,
    (Ideal.logistic (p (ix2 r (⟨k.val, by omega⟩ : Fin 11264))) * ∑ j : Fin 1024, yh (ix2 r j) * wa (ix2 j k) +
      Ideal.logistic (p (ix2 r (⟨2048 + k.val, by omega⟩ : Fin 11264))) * ∑ j : Fin 1024, ym (ix2 r j) * wb (ix2 j k)) * wo (ix2 k l)

/-- The whole result. -/
def result (c : Dev nD) : Buf (Elt Ideal) ((c : Thread nD τ).loc main_v7) :=
  fun i => merged (V m c main_v0) (V m c main_v1) (V m c main_v2) (V m c main_v3) (V m c main_v4) (V m c main_v5) (V m c main_v6) (i 0) (i 1)

theorem flushed_eq (c : Dev nD) (t : Fin cfg0.N) (hf : (cfg0.win 8).flush t = true) :
    (dats m 0 c).flushed 8 t = ((cfg0.win 8).blk t).view.read (Elt Ideal) (result m c) := by
  rw [flushed8_A, out_A]
  show k0_pay1 (F := Ideal) _ _ _ _ _ _ _ _ = _
  funext j
  obtain ⟨r, l, rfl⟩ : ∃ (r : Fin 512) (l : Fin 2048), j = ix2 r l := ⟨j 0, j 1, by funext a; match a with | ⟨0, _⟩ => rfl | ⟨1, _⟩ => rfl⟩
  rw [pay_at, View.read_apply]
  simp only [blk0, blk1, blk2, blk3, blk4, blk5, blk6, blk7]
  have hi := index_all t
  have he : ((cfg0.win 8).blk t).view.emb (ix2 r l) = ix2 (row t r) l := by
    funext a
    apply Fin.ext
    match a with
    | ⟨0, _⟩ => show win0_8.index t 0 * 512 + 1 * r.val = 512 * t.val + r.val; omega
    | ⟨1, _⟩ => show win0_8.index t 1 * 2048 + 1 * l.val = l.val; omega
  rw [he]
  rfl

theorem final_o (c : Dev nD) : (dats m 0 c).arrAt 8 cfg0.N = result m c :=
  (dats m 0 c).arrAt_eq_of_cover 8 (result m c) (flushed_eq m c) fun i => by
    have hN : cfg0.N = 32 := N_0
    have h0 : (i 0 : Nat) < 16384 := (i 0).isLt
    have h1 : (i 1 : Nat) < 2048 := (i 1).isLt
    obtain ⟨t, ht⟩ : ∃ t : Fin cfg0.N, t.val = (i 0 : Nat) / 512 := ⟨⟨(i 0 : Nat) / 512, by omega⟩, rfl⟩
    have hi := index_all t
    refine ⟨t, flush0_8 _, ?_⟩
    show i ∈ ((View.whole main_v7).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512; omega
    | ⟨1, _⟩ => show win0_8.index t 1 * 2048 ≤ (i 1 : Nat) ∧ (i 1 : Nat) < win0_8.index t 1 * 2048 + 2048; omega

theorem V0 (c : Dev nD) : V m c main_v0 = shapeCast S16384x1024 (m ((c : Thread nD τ).loc main_arg0)) Facts₀.shapeCasts_S8x2048x1024_S16384x1024 := by
  show StableHlo.after hostOps0 _ (Proc.devRef .tc main_v0) = _
  after_results <;> rfl
theorem V1 (c : Dev nD) : V m c main_v1 = shapeCast S16384x1024 (m ((c : Thread nD τ).loc main_arg1)) Facts₀.shapeCasts_S8x2048x1024_S16384x1024 := by
  show StableHlo.after hostOps0 _ (Proc.devRef .tc main_v1) = _
  after_results <;> rfl
theorem V2 (c : Dev nD) : V m c main_v2 = shapeCast S16384x11264 (m ((c : Thread nD τ).loc main_arg2)) Facts₀.shapeCasts_S8x2048x11264_S16384x11264 := by
  show StableHlo.after hostOps0 _ (Proc.devRef .tc main_v2) = _
  after_results <;> rfl
theorem V3 (c : Dev nD) : V m c main_v3 = shapeCast S16384x2048 (m ((c : Thread nD τ).loc main_arg3)) Facts₀.shapeCasts_S8x2048x2048_S16384x2048 := by
  show StableHlo.after hostOps0 _ (Proc.devRef .tc main_v3) = _
  after_results <;> rfl
theorem V4 (c : Dev nD) : V m c main_v4 = truncf (F := Ideal) .bf16 (m ((c : Thread nD τ).loc main_arg4)) Facts₀.bitsLt_bf16_f32 := by
  show StableHlo.after hostOps0 _ (Proc.devRef .tc main_v4) = _
  after_results <;> rfl
theorem V5 (c : Dev nD) : V m c main_v5 = truncf (F := Ideal) .bf16 (m ((c : Thread nD τ).loc main_arg5)) Facts₀.bitsLt_bf16_f32 := by
  show StableHlo.after hostOps0 _ (Proc.devRef .tc main_v5) = _
  after_results <;> rfl
theorem V6 (c : Dev nD) : V m c main_v6 = truncf (F := Ideal) .bf16 (m ((c : Thread nD τ).loc main_arg6)) Facts₀.bitsLt_bf16_f32 := by
  show StableHlo.after hostOps0 _ (Proc.devRef .tc main_v6) = _
  after_results <;> rfl

/-- The reference's composed term is the kernel's result, of the same arguments. -/
theorem ref_eq (yh ym : FVec Ideal Cert.Reference3Ideal.S8x2048x1024 .bf16) (p : FVec Ideal Cert.Reference3Ideal.S8x2048x11264 .bf16)
    (x : FVec Ideal Cert.Reference3Ideal.S8x2048x2048 .f32) (wa wb : FVec Ideal Cert.Reference3Ideal.S1024x2048 .f32)
    (wo : FVec Ideal Cert.Reference3Ideal.S2048x2048 .f32) (r : Fin 16384) (l : Fin 2048) :
    (shapeCast Cert.Reference3Ideal.S16384x2048 (addf (F := Ideal) (φ := .f32) x (Host.dotGeneral Cert.Reference3Ideal.dot_S8x2048x2048_S2048x2048_S8x2048x2048_2_0_01_1_n_n none (addf (mulf (extractStridedSlice Cert.Reference3Ideal.S8x2048x2048 ![0, 0, 0] (Host.divf (broadcastInDim Cert.Reference3Ideal.S8x2048x4096 ![] Cert.Reference3Ideal.Gen.bcast_S_S8x2048x4096 (constant Cert.Reference3Ideal.S_ .f32 0x3F800000#32)) (addf (broadcastInDim Cert.Reference3Ideal.S8x2048x4096 ![] Cert.Reference3Ideal.Gen.bcast_S_S8x2048x4096 (constant Cert.Reference3Ideal.S_ .f32 0x3F800000#32)) (Host.exp (Host.negf (extractStridedSlice Cert.Reference3Ideal.S8x2048x4096 ![0, 0, 0] (extf .f32 p Cert.Reference3Ideal.Gen.bitsLt_bf16_f32) Cert.Reference3Ideal.Gen.slices_S8x2048x11264_S8x2048x4096_0_0_0))))) Cert.Reference3Ideal.Gen.slices_S8x2048x4096_S8x2048x2048_0_0_0) (Host.dotGeneral Cert.Reference3Ideal.dot_S8x2048x1024_S1024x2048_S8x2048x2048_2_0_01_1_n_n none (extf .f32 yh Cert.Reference3Ideal.Gen.bitsLt_bf16_f32) wa)) (mulf (extractStridedSlice Cert.Reference3Ideal.S8x2048x2048 ![0, 0, 2048] (Host.divf (broadcastInDim Cert.Reference3Ideal.S8x2048x4096 ![] Cert.Reference3Ideal.Gen.bcast_S_S8x2048x4096 (constant Cert.Reference3Ideal.S_ .f32 0x3F800000#32)) (addf (broadcastInDim Cert.Reference3Ideal.S8x2048x4096 ![] Cert.Reference3Ideal.Gen.bcast_S_S8x2048x4096 (constant Cert.Reference3Ideal.S_ .f32 0x3F800000#32)) (Host.exp (Host.negf (extractStridedSlice Cert.Reference3Ideal.S8x2048x4096 ![0, 0, 0] (extf .f32 p Cert.Reference3Ideal.Gen.bitsLt_bf16_f32) Cert.Reference3Ideal.Gen.slices_S8x2048x11264_S8x2048x4096_0_0_0))))) Cert.Reference3Ideal.Gen.slices_S8x2048x4096_S8x2048x2048_0_0_2048) (Host.dotGeneral Cert.Reference3Ideal.dot_S8x2048x1024_S1024x2048_S8x2048x2048_2_0_01_1_n_n none (extf .f32 ym Cert.Reference3Ideal.Gen.bitsLt_bf16_f32) wb))) wo)) Cert.Reference3Ideal.Gen.shapeCasts_S8x2048x2048_S16384x2048 : FVec Ideal Cert.Reference3Ideal.S16384x2048 .f32) (ix2 r l)
    = merged (shapeCast S16384x1024 yh Facts₀.shapeCasts_S8x2048x1024_S16384x1024)
        (shapeCast S16384x1024 ym Facts₀.shapeCasts_S8x2048x1024_S16384x1024)
        (shapeCast S16384x11264 p Facts₀.shapeCasts_S8x2048x11264_S16384x11264)
        (shapeCast S16384x2048 x Facts₀.shapeCasts_S8x2048x2048_S16384x2048)
        (truncf (F := Ideal) .bf16 wa Facts₀.bitsLt_bf16_f32) (truncf (F := Ideal) .bf16 wb Facts₀.bitsLt_bf16_f32)
        (truncf (F := Ideal) .bf16 wo Facts₀.bitsLt_bf16_f32) r l := by
  unfold merged
  pointwise
  rfl

theorem merge_algebraic : algebraic_Kernel3Ideal_Reference3Ideal (hKernel3Ideal := Cert.Kernel3Ideal.Gen.facts) (hReference3Ideal := Cert.Reference3Ideal.Gen.facts) := by
  intro m ρ m' ρ' _ hm
  refine ⟨result m, (θ_run defs _ _).mono (fun _ h c => ⟨(h c).1.trans (final_o m c), (h c).2⟩) (run_blocks m ρ), ?_⟩
  refine (θ_run _ _ _).mono (fun _ h c => ⟨(h c).1.trans ?_, (h c).2⟩) (Cert.Reference3Ideal.Value.run m' ρ')
  obtain ⟨h0, h1, h2, h3, h4, h5, h6⟩ := hm c
  rw [h0, h1, h2, h3, h4, h5, h6]
  funext i
  obtain ⟨r, l, rfl⟩ : ∃ (r : Fin 16384) (l : Fin 2048), i = ix2 r l := ⟨i 0, i 1, by funext a; match a with | ⟨0, _⟩ => rfl | ⟨1, _⟩ => rfl⟩
  refine (ref_eq _ _ _ _ _ _ _ r l).trans ?_
  show _ = merged (V m c main_v0) (V m c main_v1) (V m c main_v2) (V m c main_v3) (V m c main_v4) (V m c main_v5) (V m c main_v6) r l
  rw [V0, V1, V2, V3, V4, V5, V6]

end Cert.Kernel3Ideal.Value
-- ==== Proof.ExpertRows.lean ====
/-
  The rows that a gather of the expert call moves: which part of the landing buffer and of the token table one transfer touches,
  what it delivers, and what the loop that starts 512 of them leaves.
-/
module

public import proofs.«01_k».proof.Proof.Gen.Kernel4Ideal
public import proofs.«01_k».proof.Proof.Gen.Kernel4Ideal.Launch
public import proofs.«01_k».proof.Proof.Gen.Kernel4Ideal.Loops
public import proofs.«01_k».proof.Proof.Gen.Kernel4Ideal.Skeleton
public import Idealize.ShloMosaic.Lib.Batch
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import Idealize.ShloMosaic.Lib.Quiescent
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The rows a gather moves -/

theorem slot_inb (s : Fin 2) : ∀ a, (![s.val, 0, 0, 0] : Fin 4 → Nat) a + S1x512x24x128.size a ≤ S2x512x24x128.size a := by
  have := s.isLt; intro a; fin_cases a
  · show s.val + 1 ≤ 2; omega
  · show 0 + 512 ≤ 512; omega
  · show 0 + 24 ≤ 24; omega
  · show 0 + 128 ≤ 128; omega
theorem row_inb (r : Fin 512) : ∀ a, (![r.val, 0, 0] : Fin 3 → Nat) a + S1x16x128.size a ≤ S512x24x128.size a := by
  have := r.isLt; intro a; fin_cases a
  · show r.val + 1 ≤ 512; omega
  · show 0 + 16 ≤ 24; omega
  · show 0 + 128 ≤ 128; omega
theorem src_inb (n : Fin 16384) : ∀ a, (![n.val, 0, 0] : Fin 3 → Nat) a + S1x16x128.size a ≤ S16384x16x128.size a := by
  have := n.isLt; intro a; fin_cases a
  · show n.val + 1 ≤ 16384; omega
  · show 0 + 16 ≤ 16; omega
  · show 0 + 128 ≤ 128; omega

/-- Row `r` of slot `s` of the landing buffer: the sixteen of its twenty-four sublanes that a transfer fills. -/
def dstRow (s : Fin 2) (r : Fin 512) : Memref sig .tc .vmem S16x128 .f32 :=
  ((((Memref.whole cc0_scratch0).slice (Rect.unit (s := S2x512x24x128) ![s.val, 0, 0, 0] S1x512x24x128.size (slot_inb s)) (fun _ => rfl)).squeeze S512x24x128
    squeezes_S1x512x24x128_S512x24x128).slice (Rect.unit (s := S512x24x128) ![r.val, 0, 0] S1x16x128.size (row_inb r)) (fun _ => rfl)).squeeze S16x128 squeezes_S1x16x128_S16x128
/-- Token `n`'s row of the activations. -/
def srcRow (n : Fin 16384) : Memref sig .tc .hbm S16x128 .f32 :=
  ((Memref.whole main_arg0).slice (Rect.unit (s := S16384x16x128) ![n.val, 0, 0] S1x16x128.size (src_inb n)) (fun _ => rfl)).squeeze S16x128 squeezes_S1x16x128_S16x128

/-- The semaphore of slot `s`. -/
abbrev cellOf (s : Fin 2) : DmaSem sig := ⟨8 + s.val, show 8 + s.val < 10 by have := s.isLt; omega⟩

section Gather

variable (c : Dev nD) (h0 : S16384x16x128.Idx → Elt F .f32) (tk : Fin 512 → Fin 16384) (s : Fin 2) (f0 : S2x512x24x128.Idx → Elt F .f32)

/-- A row of the slot before its transfer, and the read token of the row it comes from. -/
abbrev rowAt (r : Fin 512) : sProp 𝕄 := (dstRow s r).view.loc (c : Thread nD τ) ↦[(dstRow s r).view.set]{fullShare} f0
abbrev tokAt (r : Fin 512) : sProp 𝕄 :=
  (srcRow (tk r)).view.loc (c : Thread nD τ) ↦[(srcRow (tk r)).view.set]{Transfers.shareTokN fullShare r.val} h0
/-- What transfer `r` delivers. -/
def gotAt (r : Fin 512) : sProp 𝕄 :=
  iprop(((dstRow s r).view.loc (c : Thread nD τ) ↦[(dstRow s r).view.set]{fullShare}
      (dstRow s r).view.write (Elt F) f0 ((srcRow (tk r)).view.read (Elt F) h0) Finset.univ)
    ∗ tokAt c h0 tk r)
theorem held_storable (ℓ : Loc nD τ sig) (I : Finset (Idx ℓ)) (q : PosShare TreeShare) (f : Buf (Elt F) ℓ) :
    BI.Storable (upEmb : UEmb _ 𝕄) (ℓ ↦[I]{q} f : sProp 𝕄) := inferInstance
instance gotAt_storable (r : Fin 512) : BI.Storable (upEmb : UEmb _ 𝕄) (gotAt c h0 tk s f0 r) := by
  unfold gotAt tokAt
  haveI := held_storable ((srcRow (tk r)).view.loc (c : Thread nD τ)) ((srcRow (tk r)).view.set) (Transfers.shareTokN fullShare r.val) h0
  infer_instance

/-- What one row credits. -/
abbrev NN : ℕ := (dstRow 0 0).view.amount (.dma (cellOf 0))

/-- The slot's transfers as one batch on its semaphore. -/
abbrev batch (j u : ℕ) : sProp 𝕄 :=
  Transfers.Batch (countersEmb (U := Pipeline.UD sig nD τ)) (c : Thread nD τ) (.dma (cellOf s)) () NN (gotAt c h0 tk s f0) j u

abbrev tab (T : S36864.Idx → Elt F .i32) : sProp 𝕄 := (Memref.whole main_arg1).view.loc (c : Thread nD τ) ↦{fullShare.right} T

def issueAt (T : S36864.Idx → Elt F .i32) (k : ℕ) (_ : Unit) : sProp 𝕄 :=
  iprop(tab c T ∗ batch c h0 tk s f0 k 0 ∗ bigSep (Ring.rangeSet 512 k 512) (rowAt c s f0) ∗ bigSep (Ring.rangeSet 512 k 512) (tokAt c h0 tk))

end Gather

/-- The table's entry `k` of block `b` names the row. -/
def Names (T : S36864.Idx → Elt F .i32) (b : ℕ) (tk : Fin 512 → Fin 16384) : Prop :=
  ∀ r : Fin 512, ∀ y : S36864.Idx, (y 0).val = 512 * b + r.val → (T y : BitVec 32).toNat = (tk r).val

section Enq
variable (c : Dev nD) (h0 : S16384x16x128.Idx → Elt F .f32) (tk : Fin 512 → Fin 16384) (s : Fin 2) (f0 : S2x512x24x128.Idx → Elt F .f32)

set_option sl_exec.dmaWindow true in
/-- One row's transfer issued, however its offsets are written. -/
theorem enq_row [∀ e, Nonempty (Elt F e)] (r : Fin 512) {o1 : Fin 4 → Nat} {o2 o3 : Fin 3 → Nat} {sem : DmaSem sig}
    (e1 : o1 = ![s.val, 0, 0, 0]) (e2 : o2 = ![r.val, 0, 0]) (e3 : o3 = ![(tk r).val, 0, 0]) (es : sem = cellOf s)
    (i1 : ∀ a, o1 a + S1x512x24x128.size a ≤ S2x512x24x128.size a) (i2 : ∀ a, o2 a + S1x16x128.size a ≤ S512x24x128.size a)
    (i3 : ∀ a, o3 a + S1x16x128.size a ≤ S16384x16x128.size a) (p1 p2 p3) (K : PUnit → Prog (TpuEff nD τ sig (Elt F) Λ₀ .tc) Unit) (Q : Unit → sProp 𝕄) :
    iprop(batch c h0 tk s f0 r.val 0 ∗ rowAt c s f0 r ∗ tokAt c h0 tk r ∗
        (batch c h0 tk s f0 (r.val + 1) 0 -∗ wp frame (wpE (defs₀ (F := F)) Variants.none (c : Thread nD τ) none) Set.univ (K ⟨⟩) Q))
      ⊢ wp frame (wpE (defs₀ (F := F)) Variants.none (c : Thread nD τ) none) Set.univ
        (Prog.lift (.enqueueDma (((Memref.whole main_arg0).slice (Rect.unit (s := S16384x16x128) o3 S1x16x128.size i3) (fun _ => rfl)).squeeze S16x128 squeezes_S1x16x128_S16x128)
          (.here (((((Memref.whole cc0_scratch0).slice (Rect.unit (s := S2x512x24x128) o1 S1x512x24x128.size i1) (fun _ => rfl)).squeeze S512x24x128
            squeezes_S1x512x24x128_S512x24x128).slice (Rect.unit (s := S512x24x128) o2 S1x16x128.size i2) (fun _ => rfl)).squeeze S16x128 squeezes_S1x16x128_S16x128)) (.dma sem) p1 p2 p3) >>= K) Q := by
  subst e1 e2 e3 es
  unfold rowAt tokAt
  iintro ⟨HB, HR, HK, Hk⟩
  iapply (Transfers.wp_dmaBatch (countersEmb (U := Pipeline.UD sig nD τ)) Variants.none (c : Thread nD τ) none (src := srcRow (tk r)) (dst := dstRow s r) () NN rfl subset_rfl
    r.isLt (Nat.zero_le _) (D := gotAt c h0 tk s f0) (fd := f0) (fs := h0) (q := Transfers.shareTokN fullShare r.val) (by unfold gotAt; exact .rfl)) $$ [HK HR HB]
  · isplitl [HK]; · iexact HK
    isplitl [HR]; · iexact HR
    iexact HB
  iexact Hk

/-- One row waited for. -/
theorem wait_row [∀ e, Nonempty (Elt F e)] (k : ℕ) (hk : k < 512) (W : Waits sig Unit) {o1 : Fin 4 → Nat} {o2 o3 : Fin 3 → Nat} {sem : DmaSem sig} (es : sem = cellOf s)
    (i1 : ∀ a, o1 a + S1x512x24x128.size a ≤ S2x512x24x128.size a) (i2 : ∀ a, o2 a + S1x16x128.size a ≤ S512x24x128.size a)
    (i3 : ∀ a, o3 a + S1x16x128.size a ≤ S16384x16x128.size a) (p1 p2) (K : PUnit → Prog (TpuEff nD τ sig (Elt F) Λ₀ .tc) Unit) (Q : Unit → sProp 𝕄) :
    iprop(batch c h0 tk s f0 512 (k * NN) ∗ owes (c : Thread nD τ) 0 W ∗
        (batch c h0 tk s f0 512 ((k + 1) * NN) -∗ (∃ W, owes (c : Thread nD τ) 0 W) -∗ wp frame (wpE (defs₀ (F := F)) Variants.none (c : Thread nD τ) none) Set.univ (K ⟨⟩) Q))
      ⊢ wp frame (wpE (defs₀ (F := F)) Variants.none (c : Thread nD τ) none) Set.univ
        (Prog.lift (.waitDma2 sem (((Memref.whole main_arg0).slice (Rect.unit (s := S16384x16x128) o3 S1x16x128.size i3) (fun _ => rfl)).squeeze S16x128 squeezes_S1x16x128_S16x128)
          (((((Memref.whole cc0_scratch0).slice (Rect.unit (s := S2x512x24x128) o1 S1x512x24x128.size i1) (fun _ => rfl)).squeeze S512x24x128
            squeezes_S1x512x24x128_S512x24x128).slice (Rect.unit (s := S512x24x128) o2 S1x16x128.size i2) (fun _ => rfl)).squeeze S16x128 squeezes_S1x16x128_S16x128) p1 p2) >>= K) Q := by
  subst es
  iintro ⟨HB, HO, Hk⟩
  iapply (Transfers.wp_waitBatchMul (countersEmb (U := Pipeline.UD sig nD τ)) Variants.none (c : Thread nD τ) none (hsrc := p1) (hdst := p2) (ι := ()) (N := NN) (q := 1) (u := k * NN) (j := 512) (W := W) (D := gotAt c h0 tk s f0)
    (hJ := (Nat.one_mul _).symm) (hu := by rw [← Nat.add_mul, Nat.mul_comm]; exact Nat.mul_le_mul_left _ (by omega))) $$ [HB HO]
  · isplitl [HB]; · iexact HB
    iexact HO
  iintro ⟨HB, HO⟩
  iapply Hk $$ [HB] [HO]
  · rw [Nat.add_mul]; iexact HB
  · iexists _; iexact HO

theorem NN_pos : 0 < NN := by decide

def drainAt (T : S36864.Idx → Elt F .i32) (k : ℕ) (_ : Unit) : sProp 𝕄 :=
  iprop(⌜k ≤ 512⌝ ∗ tab c T ∗ (∃ W, owes (c : Thread nD τ) 0 W) ∗ batch c h0 tk s f0 512 (k * NN))

end Enq

/-! ## The offsets of a slot -/

/-- The slot of the block that follows block `i 0`. -/
abbrev nxt (i : grid0.Coords) : Fin 2 := ⟨((i 0).val + 1) % 2, Nat.mod_lt _ (by decide)⟩

theorem off9_eq : ∀ i : grid0.Coords, k0_off9 i = ![((i 0).val + 1) % 2] := by decide +kernel
theorem off10_eq : ∀ i : grid0.Coords, k0_off10 i = ![((i 0).val + 1) % 2, 0, 0, 0] := by decide +kernel
theorem off16_eq : ∀ i : grid0.Coords, k0_off16 i = ![((i 0).val + 1) % 2] := by decide +kernel
theorem off17_eq : ∀ i : grid0.Coords, k0_off17 i = ![((i 0).val + 1) % 2, 0, 0, 0] := by decide +kernel

theorem sem_eq (s : Fin 2) (o : Fin 1 → Nat) (h : ∀ a, o a + S1.size a ≤ S2.size a) (e : o = ![s.val]) :
    ((cc0_scratch4.slice (Rect.unit (s := S2) o S1.size h)).squeeze S_ squeezes_S1_S_).sem = cellOf s := by
  subst e
  match s with
  | 0 => first | sl_kernel_rfl | decide
  | 1 => first | sl_kernel_rfl | decide

section Trips
variable (c : Dev nD) (i : grid0.Coords)
  (a6 : Memref sig .tc .vmem S1x2048x512 .bf16) (ha6 : a6.IsWhole) (a7 : Memref sig .tc .vmem S1x2048x512 .bf16) (ha7 : a7.IsWhole)
  (a8 : Memref sig .tc .vmem S1x512x2048 .bf16) (ha8 : a8.IsWhole) (a9 : Memref sig .tc .vmem S512x16x128 .f32) (ha9 : a9.IsWhole)

theorem trips1 : k0_t1_loop.trips = 512 := by sl_kernel_rfl
theorem trips2 : k0_t2_loop.trips = 512 := by sl_kernel_rfl
theorem trips3 : k0_t3_loop.trips = 512 := by sl_kernel_rfl
theorem trips4 : k0_t4_loop.trips = 512 := by sl_kernel_rfl

theorem issue1_step [∀ e, Nonempty (Elt F e)] (h1 : k0_cond1 i = 1#1) (h0 : S16384x16x128.Idx → Elt F .f32) (tk : Fin 512 → Fin 16384) (f0 : S2x512x24x128.Idx → Elt F .f32)
    (T : S36864.Idx → Elt F .i32) (hT : Names T 0 tk) (k : Fin k0_t1_loop.trips) (acc : Unit) :
    issueAt c h0 tk 0 f0 T k acc ⊢ wp frame (wpE (defs₀ (F := F)) Variants.none (c : Thread nD τ) none) Set.univ
      (k0_t1_body (F := F) i (Memref.whole main_arg2) (Memref.isWhole_whole _) (Memref.whole main_arg3) (Memref.isWhole_whole _) (Memref.whole main_arg1) (Memref.isWhole_whole _) (Memref.whole main_arg0) (Memref.isWhole_whole _)
        a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 h1 k acc)
      (issueAt c h0 tk 0 f0 T (k.val + 1)) := by
  have hk : k.val < 512 := trips1 ▸ k.isLt
  unfold issueAt
  rw [Ring.bigSep_rangeSet_head (Φ := rowAt c 0 f0) (by omega) (by omega), Ring.bigSep_rangeSet_head (Φ := tokAt c h0 tk) (by omega) (by omega)]
  iintro ⟨HT, HB, ⟨HR, HRs⟩, ⟨HK, HKs⟩⟩
  unfold k0_t1_body
  sl_exec
  have hw : (issue1_step.sl.r i h1 T k : BitVec 32).toNat = (tk ⟨k.val, hk⟩).val :=
    hT ⟨k.val, hk⟩ _ (by show (k0_off2 k) 0 + 1 * 0 = _; rw [k0_off2_eq]; show _ + 1 * 0 = _; show k.val + 1 * 0 = 512 * 0 + k.val; omega)
  have e3 : k0_off4 (issue1_step.sl.r i h1 T k) = ![(tk ⟨k.val, hk⟩).val, 0, 0] := by unfold k0_off4; rw [hw]
  have hchk : k0_chk1 i (issue1_step.sl.r i h1 T k) := fun _ => by rw [e3]; exact src_inb _
  iapply (wp_assume _ _ _ _ hchk)
  iapply (enq_row c h0 tk 0 f0 ⟨k.val, hk⟩ (e1 := rfl) (e2 := k0_off3_eq k) (e3 := e3) (es := rfl))
  isplitl [HB]; · iexact HB
  isplitl [HR]; · iexact HR
  isplitl [HK]; · iexact HK
  iintro HB
  sl_step
  isplitl [HT]; · iexact HT
  isplitl [HB]; · iexact HB
  isplitl [HRs]; · iexact HRs
  iexact HKs

theorem issue3_step [∀ e, Nonempty (Elt F e)] (v0 : Elt F .i32) (h2 : k0_cond2 i v0 = 1#1) (h0 : S16384x16x128.Idx → Elt F .f32) (tk : Fin 512 → Fin 16384) (f0 : S2x512x24x128.Idx → Elt F .f32)
    (T : S36864.Idx → Elt F .i32) (hT : Names T (min ((i 0).val + 1) 71) tk) (k : Fin k0_t3_loop.trips) (acc : Unit) :
    issueAt c h0 tk (nxt i) f0 T k acc ⊢ wp frame (wpE (defs₀ (F := F)) Variants.none (c : Thread nD τ) none) Set.univ
      (k0_t3_body (F := F) i (Memref.whole main_arg2) (Memref.isWhole_whole _) (Memref.whole main_arg3) (Memref.isWhole_whole _) (Memref.whole main_arg1) (Memref.isWhole_whole _) (Memref.whole main_arg0) (Memref.isWhole_whole _)
        a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 h2 k acc)
      (issueAt c h0 tk (nxt i) f0 T (k.val + 1)) := by
  have hk : k.val < 512 := trips3 ▸ k.isLt
  unfold issueAt
  rw [Ring.bigSep_rangeSet_head (Φ := rowAt c (nxt i) f0) (by omega) (by omega), Ring.bigSep_rangeSet_head (Φ := tokAt c h0 tk) (by omega) (by omega)]
  iintro ⟨HT, HB, ⟨HR, HRs⟩, ⟨HK, HKs⟩⟩
  unfold k0_t3_body
  sl_exec
  have hw : (issue3_step.sl.r i T k : BitVec 32).toNat = (tk ⟨k.val, hk⟩).val :=
    hT ⟨k.val, hk⟩ _ (by show (k0_off8 i k) 0 + 1 * 0 = _; rw [k0_off8_eq]; show _ + 1 * 0 = _; rfl)
  have e3 : k0_off12 (issue3_step.sl.r i T k) = ![(tk ⟨k.val, hk⟩).val, 0, 0] := by unfold k0_off12; rw [hw]
  have hchk : k0_chk3 i v0 (issue3_step.sl.r i T k) := fun _ => by rw [e3]; exact src_inb _
  iapply (wp_assume _ _ _ _ hchk)
  iapply (enq_row c h0 tk (nxt i) f0 ⟨k.val, hk⟩ (e1 := off10_eq i) (e2 := k0_off11_eq k) (e3 := e3) (es := sem_eq _ _ _ (off9_eq i)))
  isplitl [HB]; · iexact HB
  isplitl [HR]; · iexact HR
  isplitl [HK]; · iexact HK
  iintro HB
  sl_step
  isplitl [HT]; · iexact HT
  isplitl [HB]; · iexact HB
  isplitl [HRs]; · iexact HRs
  iexact HKs

theorem drain2_step [∀ e, Nonempty (Elt F e)] (h1 : k0_cond1 i = 1#1) (h0 : S16384x16x128.Idx → Elt F .f32) (tk : Fin 512 → Fin 16384) (f0 : S2x512x24x128.Idx → Elt F .f32)
    (T : S36864.Idx → Elt F .i32) (hT : Names T 0 tk) (k : Fin k0_t2_loop.trips) (acc : Unit) :
    drainAt c h0 tk 0 f0 T k acc ⊢ wp frame (wpE (defs₀ (F := F)) Variants.none (c : Thread nD τ) none) Set.univ
      (k0_t2_body (F := F) i (Memref.whole main_arg2) (Memref.isWhole_whole _) (Memref.whole main_arg3) (Memref.isWhole_whole _) (Memref.whole main_arg1) (Memref.isWhole_whole _) (Memref.whole main_arg0) (Memref.isWhole_whole _)
        a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 h1 k acc)
      (drainAt c h0 tk 0 f0 T (k.val + 1)) := by
  have hk : k.val < 512 := trips2 ▸ k.isLt
  unfold drainAt
  iintro ⟨-, HT, ⟨%W, HO⟩, HB⟩
  unfold k0_t2_body
  sl_exec
  have hw : (drain2_step.sl.r i h1 T k : BitVec 32).toNat = (tk ⟨k.val, hk⟩).val :=
    hT ⟨k.val, hk⟩ _ (by show (k0_off5 k) 0 + 1 * 0 = _; rw [k0_off5_eq]; show _ + 1 * 0 = _; show k.val + 1 * 0 = 512 * 0 + k.val; omega)
  have e3 : k0_off7 (drain2_step.sl.r i h1 T k) = ![(tk ⟨k.val, hk⟩).val, 0, 0] := by unfold k0_off7; rw [hw]
  have hchk : k0_chk2 i (drain2_step.sl.r i h1 T k) := fun _ => by rw [e3]; exact src_inb _
  iapply (wp_assume _ _ _ _ hchk)
  iapply (wait_row c h0 tk 0 f0 k.val hk W (es := rfl))
  isplitl [HB]; · iexact HB
  isplitl [HO]; · iexact HO
  iintro HB HO
  sl_step
  isplitr; · ipureintro; omega
  isplitl [HT]; · iexact HT
  isplitl [HO]; · iexact HO
  iexact HB

theorem drain4_step [∀ e, Nonempty (Elt F e)] (x0 : BitVec 32) (v0 : Elt F .i32) (h5 : k0_cond5 i v0 = 1#1) (h0 : S16384x16x128.Idx → Elt F .f32) (tk : Fin 512 → Fin 16384) (f0 : S2x512x24x128.Idx → Elt F .f32)
    (T : S36864.Idx → Elt F .i32) (hT : Names T (min ((i 0).val + 1) 71) tk) (k : Fin k0_t4_loop.trips) (acc : Unit) :
    drainAt c h0 tk (nxt i) f0 T k acc ⊢ wp frame (wpE (defs₀ (F := F)) Variants.none (c : Thread nD τ) none) Set.univ
      (k0_t4_body (F := F) i (Memref.whole main_arg2) (Memref.isWhole_whole _) (Memref.whole main_arg3) (Memref.isWhole_whole _) (Memref.whole main_arg1) (Memref.isWhole_whole _) (Memref.whole main_arg0) (Memref.isWhole_whole _)
        a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 x0 v0 h5 k acc)
      (drainAt c h0 tk (nxt i) f0 T (k.val + 1)) := by
  have hk : k.val < 512 := trips4 ▸ k.isLt
  unfold drainAt
  iintro ⟨-, HT, ⟨%W, HO⟩, HB⟩
  unfold k0_t4_body
  sl_exec
  have hw : (drain4_step.sl.r i T k : BitVec 32).toNat = (tk ⟨k.val, hk⟩).val :=
    hT ⟨k.val, hk⟩ _ (by show (k0_off15 i k) 0 + 1 * 0 = _; rw [k0_off15_eq]; show _ + 1 * 0 = _; rfl)
  have e3 : k0_off19 (drain4_step.sl.r i T k) = ![(tk ⟨k.val, hk⟩).val, 0, 0] := by unfold k0_off19; rw [hw]
  have hchk : k0_chk4 i v0 (drain4_step.sl.r i T k) := fun _ => by rw [e3]; exact src_inb _
  iapply (wp_assume _ _ _ _ hchk)
  iapply (wait_row c h0 tk (nxt i) f0 k.val hk W (es := sem_eq _ _ _ (off16_eq i)))
  isplitl [HB]; · iexact HB
  isplitl [HO]; · iexact HO
  iintro HB HO
  sl_step
  isplitr; · ipureintro; omega
  isplitl [HT]; · iexact HT
  isplitl [HO]; · iexact HO
  iexact HB

end Trips

end Cert.Kernel4Ideal.Hand

end
-- ==== Proof.ExpertGather.lean ====
/-
  A whole gather of the expert call: the landing buffer and the token table taken apart into the rows that the transfers read
  and write, and put together again once all have been waited for.
-/
module

public import proofs.«01_k».proof.Proof.Gen.Kernel4Ideal
public import proofs.«01_k».proof.Proof.Gen.Kernel4Ideal.Launch
public import proofs.«01_k».proof.Proof.Gen.Kernel4Ideal.Loops
public import proofs.«01_k».proof.Proof.Gen.Kernel4Ideal.Skeleton
public import proofs.«01_k».proof.Proof.ExpertRows
public import Idealize.ShloMosaic.Lib.ValueLayout
public import Idealize.ShloMosaic.Lib.Batch
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import Idealize.ShloMosaic.Lib.Quiescent
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA
open Idealize.SL.BI (sProp bigSep bigSep_insert bigSep_empty)
open Idealize.ShloMosaic.ValueIdx
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Which elements a row is -/

theorem dst_emb (s : Fin 2) (r : Fin 512) (a : Fin 16) (l : Fin 128) :
    (dstRow s r).view.emb (ix2 a l) = ix4 s r (⟨a.val, by omega⟩ : Fin 24) l := by
  show (Rect.unit (s := S2x512x24x128) ![s.val, 0, 0, 0] S1x512x24x128.size (slot_inb s)).emb (Shape.reshapeEquiv _
    ((Rect.unit (s := S512x24x128) ![r.val, 0, 0] S1x16x128.size (row_inb r)).emb (Shape.reshapeEquiv _ (ix2 a l)))) = _
  rw [reshapeEquiv_ix2_1ab]
  have e : (Rect.unit (s := S512x24x128) ![r.val, 0, 0] S1x16x128.size (row_inb r)).emb (ix3 (⟨0, Nat.one_pos⟩ : Fin 1) a l) = ix3 r (⟨a.val, by omega⟩ : Fin 24) l := by
    funext x
    apply Fin.ext
    match x with
    | 0 => show r.val + 1 * 0 = r.val; omega
    | 1 => show 0 + 1 * a.val = a.val; omega
    | 2 => show 0 + 1 * l.val = l.val; omega
  refine (congrArg _ (congrArg _ e)).trans ?_
  refine (congrArg _ (reshapeEquiv_ix3_1abc _ r (⟨a.val, by omega⟩ : Fin 24) l)).trans ?_
  funext x
  apply Fin.ext
  match x with
  | 0 => show s.val + 1 * 0 = s.val; omega
  | 1 => show 0 + 1 * r.val = r.val; omega
  | 2 => show 0 + 1 * a.val = a.val; omega
  | 3 => show 0 + 1 * l.val = l.val; omega

theorem src_emb (n : Fin 16384) (a : Fin 16) (l : Fin 128) : (srcRow n).view.emb (ix2 a l) = ix3 n a l := by
  show (Rect.unit (s := S16384x16x128) ![n.val, 0, 0] S1x16x128.size (src_inb n)).emb (Shape.reshapeEquiv _ (ix2 a l)) = _
  rw [reshapeEquiv_ix2_1ab]
  funext x
  apply Fin.ext
  match x with
  | 0 => show n.val + 1 * 0 = n.val; omega
  | 1 => show 0 + 1 * a.val = a.val; omega
  | 2 => show 0 + 1 * l.val = l.val; omega

theorem ix2_eta (j : S16x128.Idx) : j = ix2 (j 0) (j 1) := by
  funext x
  match x with
  | 0 => rfl
  | 1 => rfl

abbrev rset (s : Fin 2) (r : Fin 512) : Finset S2x512x24x128.Idx := (dstRow s r).view.set

theorem mem_rset (s : Fin 2) (r : Fin 512) (y : S2x512x24x128.Idx) :
    y ∈ rset s r ↔ ∃ (a : Fin 16) (l : Fin 128), y = ix4 s r (⟨a.val, by omega⟩ : Fin 24) l := by
  show y ∈ Finset.map _ _ ↔ _
  refine Finset.mem_map.trans ?_
  constructor
  · rintro ⟨j, -, rfl⟩
    exact ⟨j 0, j 1, (congrArg _ (ix2_eta j)).trans (dst_emb s r (j 0) (j 1))⟩
  · rintro ⟨a, l, rfl⟩
    exact ⟨ix2 a l, Finset.mem_univ _, dst_emb s r a l⟩

theorem rset_disjoint (s : Fin 2) : ∀ r r' : Fin 512, r ≠ r' → Disjoint (rset s r) (rset s r') := fun r r' hne => by
  rw [Finset.disjoint_left]
  intro y hy hy'
  obtain ⟨a, l, rfl⟩ := (mem_rset s r y).mp hy
  obtain ⟨a', l', e⟩ := (mem_rset s r' _).mp hy'
  exact hne (congrFun e 1)

/-! ## A buffer taken apart into disjoint pieces and the rest -/

section Pieces
variable {ℓ : Loc nD τ sig} (q : PosShare TreeShare) (K : Fin 512 → Finset (Idx ℓ)) (hd : ∀ r r' : Fin 512, r ≠ r' → Disjoint (K r) (K r'))

def restOf (f : Buf (Elt F) ℓ) : sProp 𝕄 := ℓ ↦[Finset.univ \ Finset.univ.biUnion K]{q} f

include hd in
theorem apart_of (f : Buf (Elt F) ℓ) : (ℓ ↦{q} f : sProp 𝕄) ⊢ iprop(bigSep Finset.univ (fun r => (ℓ ↦[K r]{q} f : sProp 𝕄)) ∗ restOf q K f) := by
  refine (pointsTo_split_subset (Finset.subset_univ (Finset.univ.biUnion K))).1.trans ?_
  unfold restOf
  rw [pointsTo_biUnion Finset.univ K (fun r _ r' _ h => hd r r' h)]

include hd in
theorem join_of (fs : Fin 512 → Buf (Elt F) ℓ) (f g : Buf (Elt F) ℓ) (h : ∀ r, ∀ y ∈ K r, fs r y = g y) (h' : ∀ y, (∀ r, y ∉ K r) → f y = g y) :
    iprop(bigSep Finset.univ (fun r => (ℓ ↦[K r]{q} fs r : sProp 𝕄)) ∗ restOf q K f) ⊢ (ℓ ↦{q} g : sProp 𝕄) := by
  have e1 : (bigSep Finset.univ (fun r => (ℓ ↦[K r]{q} fs r : sProp 𝕄)) : sProp 𝕄) = ℓ ↦[Finset.univ.biUnion K]{q} g := by
    rw [pointsTo_biUnion Finset.univ K (fun r _ r' _ h => hd r r' h)]
    exact congrArg _ (funext fun r => pointsTo_congr (h r))
  have e2 : (restOf q K f : sProp 𝕄) = ℓ ↦[Finset.univ \ Finset.univ.biUnion K]{q} g := by
    unfold restOf
    exact pointsTo_congr fun y hy => h' y fun r hr => (Finset.mem_sdiff.mp hy).2 (Finset.mem_biUnion.mpr ⟨r, Finset.mem_univ _, hr⟩)
  rw [e1, e2]
  exact (pointsTo_split_subset (Finset.subset_univ (Finset.univ.biUnion K))).2

theorem range_univ (Φ : ℕ → sProp 𝕄) : (bigSep (Finset.range 512) Φ : sProp 𝕄) = bigSep Finset.univ fun r : Fin 512 => Φ r.val := by
  rw [← Ring.rangeSet_univ, Ring.bigSep_rangeSet_eq_range (NB := 512) (lo := 0) (hi := 512) le_rfl Φ (fun k _ => by show Φ _ = Φ (0 + k); rw [Nat.zero_add])]

/-- What a buffer read by 512 transfers keeps: the share beyond the tokens, and each token's elements outside its piece. -/
def restToks (f : Buf (Elt F) ℓ) : sProp 𝕄 :=
  iprop((ℓ ↦{Transfers.shareDrop fullShare 512} f) ∗ bigSep Finset.univ (fun r : Fin 512 => (ℓ ↦[Finset.univ \ K r]{Transfers.shareTokN fullShare r.val} f : sProp 𝕄)))

theorem toks_eq (f : Buf (Elt F) ℓ) : (ℓ ↦{fullShare} f : sProp 𝕄) ⊣⊢
    iprop(bigSep Finset.univ (fun r : Fin 512 => (ℓ ↦[K r]{Transfers.shareTokN fullShare r.val} f : sProp 𝕄)) ∗ restToks K f) := by
  have e : (bigSep Finset.univ (fun r : Fin 512 => (ℓ ↦{Transfers.shareTokN fullShare r.val} f : sProp 𝕄)) : sProp 𝕄)
      ⊣⊢ iprop(bigSep Finset.univ (fun r : Fin 512 => (ℓ ↦[K r]{Transfers.shareTokN fullShare r.val} f : sProp 𝕄))
        ∗ bigSep Finset.univ (fun r : Fin 512 => (ℓ ↦[Finset.univ \ K r]{Transfers.shareTokN fullShare r.val} f : sProp 𝕄))) := by
    have es := BI.bigSep_sep Finset.univ (fun r : Fin 512 => (ℓ ↦[K r]{Transfers.shareTokN fullShare r.val} f : sProp 𝕄))
      (fun r : Fin 512 => (ℓ ↦[Finset.univ \ K r]{Transfers.shareTokN fullShare r.val} f : sProp 𝕄))
    exact ⟨(BI.bigSep_mono fun r _ => (pointsTo_split_subset (Finset.subset_univ (K r))).1).trans (Entails.of_eq es),
      Entails.trans (Entails.of_eq es.symm) (BI.bigSep_mono fun r _ => (pointsTo_split_subset (Finset.subset_univ (K r))).2)⟩
  unfold restToks
  constructor
  · refine (Transfers.pointsTo_toks_range fullShare 512).1.trans ?_
    rw [range_univ]
    iintro ⟨HD, HT⟩
    ihave HT' := e.1 $$ HT
    icases HT' with ⟨HA, HR⟩
    isplitl [HA]; · iexact HA
    isplitl [HD]; · iexact HD
    iexact HR
  · refine Entails.trans ?_ (Transfers.pointsTo_toks_range fullShare 512).2
    rw [range_univ]
    iintro ⟨HA, HD, HR⟩
    isplitl [HD]; · iexact HD
    iapply e.2
    isplitl [HA] <;> iassumption

end Pieces

/-! ## Taking the slot's rows and the tokens apart, and putting them back -/

section Gather

variable (c : Dev nD) (h0 : S16384x16x128.Idx → Elt F .f32) (tk : Fin 512 → Fin 16384) (s : Fin 2) (f0 : S2x512x24x128.Idx → Elt F .f32)

abbrev xgAt (f : S2x512x24x128.Idx → Elt F .f32) : sProp 𝕄 := (Memref.whole cc0_scratch0).view.loc (c : Thread nD τ) ↦{fullShare} f
abbrev hAt : sProp 𝕄 := (Memref.whole main_arg0).view.loc (c : Thread nD τ) ↦{fullShare} h0
/-- What stays behind of the landing buffer and of the activations while the rows are in flight. -/
abbrev xloc : Loc nD τ sig := (Memref.whole cc0_scratch0).view.loc (c : Thread nD τ)
abbrev hloc : Loc nD τ sig := (Memref.whole main_arg0).view.loc (c : Thread nD τ)
abbrev xset (r : Fin 512) : Finset (Idx (xloc c)) := (dstRow s r).view.set
abbrev hset (r : Fin 512) : Finset (Idx (hloc c)) := (srcRow (tk r)).view.set
abbrev restX : sProp 𝕄 := restOf fullShare (xset c s) f0
abbrev restH : sProp 𝕄 := restToks (hset c tk) h0

theorem x_apart : xgAt c f0 ⊢ iprop(bigSep Finset.univ (rowAt c s f0) ∗ restX c s f0) :=
  apart_of fullShare (xset c s) (rset_disjoint s) f0

/-- The landing buffer once the rows have landed. -/
def landed : S2x512x24x128.Idx → Elt F .f32 := fun y =>
  if h : (y 0).val = s.val ∧ (y 2).val < 16 then h0 (ix3 (tk (y 1)) (⟨(y 2).val, h.2⟩ : Fin 16) (y 3)) else f0 y

theorem row_landed (r : Fin 512) : ∀ y ∈ rset s r,
    (dstRow s r).view.write (Elt F) f0 ((srcRow (tk r)).view.read (Elt F) h0) Finset.univ y = landed h0 tk s f0 y := by
  intro y hy
  obtain ⟨a, l, rfl⟩ := (mem_rset s r y).mp hy
  have e1 : landed h0 tk s f0 (ix4 s r (⟨a.val, by omega⟩ : Fin 24) l) = h0 (ix3 (tk r) a l) := by
    unfold landed
    exact dif_pos ⟨rfl, a.isLt⟩
  have e2 : (dstRow s r).view.write (Elt F) f0 ((srcRow (tk r)).view.read (Elt F) h0) Finset.univ ((dstRow s r).view.emb (ix2 a l)) = h0 (ix3 (tk r) a l) :=
    (View.write_emb_of_mem (v := (dstRow s r).view) (x := ix2 a l) f0 ((srcRow (tk r)).view.read (Elt F) h0) (Finset.mem_univ _)).trans (congrArg h0 (src_emb (tk r) a l))
  exact (congrArg ((dstRow s r).view.write (Elt F) f0 ((srcRow (tk r)).view.read (Elt F) h0) Finset.univ) (dst_emb s r a l)).symm.trans (e2.trans e1.symm)

theorem x_join : iprop(bigSep Finset.univ (fun r => ((dstRow s r).view.loc (c : Thread nD τ) ↦[(dstRow s r).view.set]{fullShare}
      (dstRow s r).view.write (Elt F) f0 ((srcRow (tk r)).view.read (Elt F) h0) Finset.univ : sProp 𝕄)) ∗ restX c s f0)
    ⊢ xgAt c (landed h0 tk s f0) := by
  refine join_of fullShare (xset c s) (rset_disjoint s) (fun r => (dstRow s r).view.write (Elt F) f0 ((srcRow (tk r)).view.read (Elt F) h0) Finset.univ) f0 _
    (row_landed h0 tk s f0) fun y hy => ?_
  show f0 y = landed h0 tk s f0 y
  unfold landed
  rw [dif_neg]
  rintro ⟨h1, h2⟩
  refine hy (y 1) ((mem_rset s (y 1) y).mpr ⟨⟨(y 2).val, h2⟩, y 3, ?_⟩)
  funext x
  match x with
  | 0 => exact Fin.ext h1
  | 1 => rfl
  | 2 => rfl
  | 3 => rfl

/-- The slot's batch, nothing issued, with its rows and tokens at hand. -/
theorem gather_start (T : S36864.Idx → Elt F .i32) :
    iprop(tab c T ∗ xgAt c f0 ∗ hAt c h0 ∗ semVal ((c : Thread nD τ), SemLoc.dma (cellOf s)) 0)
      ⊢ |={Set.univ}=> iprop(issueAt c h0 tk s f0 T 0 () ∗ restX c s f0 ∗ restH c h0 tk) := by
  iintro ⟨HT, HX, HH, Hc⟩
  imod (Transfers.batch_alloc' (Lvl := ℕ) (countersEmb (U := Pipeline.UD sig nD τ)) (c : Thread nD τ) () NN (gotAt c h0 tk s f0) (sm := .dma (cellOf s)) (E := Set.univ)) $$ Hc with HB
  ihave HX' := (x_apart c s f0) $$ HX
  icases HX' with ⟨HX, HXr⟩
  ihave HH' := (toks_eq (hset c tk) h0).1 $$ HH
  icases HH' with ⟨HH, HHr⟩
  imodintro
  isplitr [HXr HHr]
  · unfold issueAt
    rw [Ring.rangeSet_univ]
    isplitl [HT]; · iexact HT
    isplitl [HB]; · iexact HB
    isplitl [HX]; · iexact HX
    iexact HH
  isplitl [HXr]; · iexact HXr
  iexact HHr

/-- All rows landed and waited for. -/
theorem gather_done :
    iprop(batch c h0 tk s f0 512 (512 * NN) ∗ restX c s f0 ∗ restH c h0 tk)
      ⊢ |={Set.univ}=> iprop(xgAt c (landed h0 tk s f0) ∗ hAt c h0 ∗ semVal ((c : Thread nD τ), SemLoc.dma (cellOf s)) 0) := by
  rw [Nat.mul_comm 512 NN]
  iintro ⟨HB, HX, HH⟩
  imod (Transfers.batch_collect' (countersEmb (U := Pipeline.UD sig nD τ)) (c : Thread nD τ) (ι := ()) (D := gotAt c h0 tk s f0) NN_pos) $$ HB with ⟨HD, Hc⟩
  imodintro
  ihave HD' := (show (bigSep Finset.univ (gotAt c h0 tk s f0) : sProp 𝕄) ⊢
      iprop(bigSep Finset.univ (fun r => ((dstRow s r).view.loc (c : Thread nD τ) ↦[(dstRow s r).view.set]{fullShare}
      (dstRow s r).view.write (Elt F) f0 ((srcRow (tk r)).view.read (Elt F) h0) Finset.univ : sProp 𝕄)) ∗ bigSep Finset.univ (tokAt c h0 tk))
      from Entails.of_eq (by unfold gotAt; exact BI.bigSep_sep _ _ _)) $$ HD
  icases HD' with ⟨HA, HB⟩
  isplitl [HA HX]
  · iapply (x_join c h0 tk s f0); isplitl [HA] <;> iassumption
  isplitl [HB HH]
  · iapply (toks_eq (hset c tk) h0).2
    isplitl [HB]; · iexact HB
    iexact HH
  iexact Hc

end Gather

end Cert.Kernel4Ideal.Hand

end
-- ==== Proof.ExpertOffsets.lean ====
/-
  The offsets of the slot that a block of the expert call uses, as words and as numbers.
-/
module

public import proofs.«01_k».proof.Proof.Gen.Kernel4Ideal
public import proofs.«01_k».proof.Proof.Gen.Kernel4Ideal.Launch
public import proofs.«01_k».proof.Proof.Gen.Kernel4Ideal.Loops
public import proofs.«01_k».proof.Proof.Gen.Kernel4Ideal.Skeleton
public import proofs.«01_k».proof.Proof.ExpertRows
public import Idealize.ShloMosaic.Lib.ValueLayout
public import Idealize.ShloMosaic.Lib.Pointwise
public import Idealize.ShloMosaic.Lib.WritesUnit
public import Idealize.ShloMosaic.Lib.Batch
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import Idealize.ShloMosaic.Lib.Quiescent
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The slot of a block: its number modulo 2. -/
def cur (i : grid0.Coords) : Fin 2 := ⟨(i 0).val % 2, Nat.mod_lt _ (by omega)⟩

theorem off13_eq : ∀ i : grid0.Coords, k0_off13 i = ![(cur i).val, 0, 0] := by decide +kernel
theorem off14_eq : ∀ i : grid0.Coords, k0_off14 i = ![(cur i).val, 0, 0] := by decide +kernel
theorem off37_eq : ∀ i : grid0.Coords, k0_off37 i = ![(cur i).val, 0, 0] := by decide +kernel
theorem off38_eq : ∀ i : grid0.Coords, k0_off38 i = ![(cur i).val, 0, 0] := by decide +kernel
theorem off36_eq : ∀ i : grid0.Coords, k0_off36 i = ![(nxt i).val, 0, 0] := by decide +kernel
theorem off20_eq : ∀ i : grid0.Coords, k0_off20 i = ![(nxt i).val, 0, 0, 0] := by decide +kernel
theorem off21_eq : ∀ i : grid0.Coords, k0_off21 i = ![(nxt i).val, 0, 1, 0] := by decide +kernel
theorem off22_eq : ∀ i : grid0.Coords, k0_off22 i = ![(nxt i).val, 0, 2, 0] := by decide +kernel
theorem off23_eq : ∀ i : grid0.Coords, k0_off23 i = ![(nxt i).val, 0, 3, 0] := by decide +kernel
theorem off24_eq : ∀ i : grid0.Coords, k0_off24 i = ![(nxt i).val, 0, 4, 0] := by decide +kernel
theorem off25_eq : ∀ i : grid0.Coords, k0_off25 i = ![(nxt i).val, 0, 5, 0] := by decide +kernel
theorem off26_eq : ∀ i : grid0.Coords, k0_off26 i = ![(nxt i).val, 0, 6, 0] := by decide +kernel
theorem off27_eq : ∀ i : grid0.Coords, k0_off27 i = ![(nxt i).val, 0, 7, 0] := by decide +kernel
theorem off28_eq : ∀ i : grid0.Coords, k0_off28 i = ![(nxt i).val, 0, 8, 0] := by decide +kernel
theorem off29_eq : ∀ i : grid0.Coords, k0_off29 i = ![(nxt i).val, 0, 9, 0] := by decide +kernel
theorem off30_eq : ∀ i : grid0.Coords, k0_off30 i = ![(nxt i).val, 0, 10, 0] := by decide +kernel
theorem off31_eq : ∀ i : grid0.Coords, k0_off31 i = ![(nxt i).val, 0, 11, 0] := by decide +kernel
theorem off32_eq : ∀ i : grid0.Coords, k0_off32 i = ![(nxt i).val, 0, 12, 0] := by decide +kernel
theorem off33_eq : ∀ i : grid0.Coords, k0_off33 i = ![(nxt i).val, 0, 13, 0] := by decide +kernel
theorem off34_eq : ∀ i : grid0.Coords, k0_off34 i = ![(nxt i).val, 0, 14, 0] := by decide +kernel
theorem off35_eq : ∀ i : grid0.Coords, k0_off35 i = ![(nxt i).val, 0, 15, 0] := by decide +kernel

end Cert.Kernel4Ideal.Hand

end
-- ==== Proof.ExpertParts.lean ====
/-
  The straight-line parts of one grid point of the expert call: loads and stores of the whole buffers and of one slot, and what
  unpacking and each partial sum leave.
-/
module

public import proofs.«01_k».proof.Proof.Gen.Kernel4Ideal
public import proofs.«01_k».proof.Proof.Gen.Kernel4Ideal.Launch
public import proofs.«01_k».proof.Proof.Gen.Kernel4Ideal.Loops
public import proofs.«01_k».proof.Proof.Gen.Kernel4Ideal.Skeleton
public import proofs.«01_k».proof.Proof.ExpertGather
public import proofs.«01_k».proof.Proof.ExpertOffsets
public import Idealize.ShloMosaic.Lib.ValueLayout
public import Idealize.ShloMosaic.Lib.Pointwise
public import Idealize.ShloMosaic.Lib.WritesUnit
public import Idealize.ShloMosaic.Lib.Batch
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import Idealize.ShloMosaic.Lib.Quiescent
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The resources of one point's straight-line parts -/

/-- The unpacked rows. -/
abbrev x2At (c : Dev nD) (f : S512x2048.Idx → Elt F .f32) : sProp 𝕄 := iprop((Memref.whole cc0_scratch1).view.loc (c : Thread nD τ) ↦{fullShare} f)
/-- The narrowed rows, two slots. -/
abbrev hsAt (c : Dev nD) (f : S2x512x2048.Idx → Elt F .bf16) : sProp 𝕄 := iprop((Memref.whole cc0_scratch2).view.loc (c : Thread nD τ) ↦{fullShare} f)
/-- The accumulator. -/
abbrev accAt (c : Dev nD) (f : S512x2048.Idx → Elt F .f32) : sProp 𝕄 := iprop((Memref.whole cc0_scratch3).view.loc (c : Thread nD τ) ↦{fullShare} f)

/-- One slot of the narrowed rows. -/
def slotOf (hs : S2x512x2048.Idx → Elt F .bf16) (s : Fin 2) : Vec F S1x512x2048 .bf16 := fun y => hs (ix3 s (y 1) (y 2))

theorem hz3 : (![0, 0, 0] : Fin 3 → ℕ) = fun _ => 0 := by funext a; match a with | ⟨0, _⟩ | ⟨1, _⟩ | ⟨2, _⟩ => rfl
theorem hz2 : (![0, 0] : Fin 2 → ℕ) = fun _ => 0 := by funext a; match a with | ⟨0, _⟩ | ⟨1, _⟩ => rfl

/-- Storing a whole block. -/
theorem whole_store {sp : Space} {S : Shape} {e : EltTy} (v : View sig .tc sp S e) (d : v.ty.Contents (Elt F)) (p : S.Idx → Elt F e) {off : Fin S.rank → ℕ} (inb) (hz : off = fun _ => 0) :
    v.read (Elt F) (v.writes (Elt F) d [⟨Rect.unit (s := S) off S.size inb, p⟩]) = p := by
  haveI := Elt.nonempty F
  rw [View.read_writes_eq_canon v d _ (fun y => ⟨_, List.mem_singleton_self _, View.mem_set_unit_zero hz inb y⟩), View.canon_unit_zero hz]

/-- Storing the whole accumulator. -/
theorem acc_store (d p : S512x2048.Idx → Elt F .f32) (inb) :
    (Memref.whole cc0_scratch3).view.writes (Elt F) d [⟨Rect.unit (s := S512x2048) ![0, 0] S512x2048.size inb, p⟩] = p := by
  have h : (Memref.whole cc0_scratch3).view.read (Elt F) _ = p := whole_store (S := S512x2048) (Memref.whole cc0_scratch3).view d p inb hz2
  generalize (Memref.whole cc0_scratch3).view.writes (Elt F) d [⟨Rect.unit (s := S512x2048) ![0, 0] S512x2048.size inb, p⟩] = w at h ⊢
  exact h

/-- Loading one slot of the narrowed rows. -/
theorem slot_read (hs : S2x512x2048.Idx → Elt F .bf16) (s : Fin 2) (off : Fin 3 → ℕ) (hoff : off = ![s.val, 0, 0]) (inb) :
    View.readAt (Elt F) (Memref.whole cc0_scratch2).view (Rect.unit (s := S2x512x2048) off S1x512x2048.size inb).toLoadRect hs = slotOf hs s := by
  subst hoff
  funext y
  show hs _ = hs _
  congr 1
  funext a
  apply Fin.ext
  match a with
  | ⟨0, _⟩ => show s.val + 1 * (y 0).val = s.val; have := (y 0).isLt; change (y 0).val < 1 at this; omega
  | ⟨1, _⟩ => show 0 + 1 * (y 1).val = (y 1).val; omega
  | ⟨2, _⟩ => show 0 + 1 * (y 2).val = (y 2).val; omega

/-- Loading the whole accumulator. -/
theorem acc_read (d : S512x2048.Idx → Elt F .f32) (inb) :
    View.readAt (Elt F) (Memref.whole cc0_scratch3).view (Rect.unit (s := S512x2048) ![0, 0] S512x2048.size inb).toLoadRect d = d := by
  rw [View.readAt_eq_ld, View.ld_unit_zero (S := S512x2048) hz2]
  rfl

/-- One slab of unpacked rows. -/
theorem unpack_at (v : Vec F S1x512x1x128 .f32) (r : Fin 512) (l : Fin 128) : k0_pay2 v (ix2 r l) = v (ix4 0 r 0 l) := by
  pointwise [k0_pay2]

theorem slab_at (A : FVec F S512x2048 .f32) (o : ℕ) (hsl) (ho : o + 128 ≤ 2048) (r : Fin 512) (l : Fin 128) :
    shapeCast S512x1x128 (extractStridedSlice S512x128 ![0, o] A hsl) shapeCasts_S512x128_S512x1x128 (ix3 r (0 : Fin 1) l) = A (ix2 r ⟨o + l.val, by omega⟩) := by
  pointwise []

/-- The rows of a slot of the gather buffer, unpacked. -/
def XU (g : S2x512x24x128.Idx → Elt F .f32) (s : Fin 2) : S512x2048.Idx → Elt F .f32 := fun y =>
  g (ix4 s (y 0) ⟨(y 1).val / 128, by have h : (y 1).val < 2048 := (y 1).isLt; omega⟩ ⟨(y 1).val % 128, Nat.mod_lt _ (by omega)⟩)

/-- A full-width block packed into 16 slabs of 128. -/
def OUT (A : S512x2048.Idx → Elt F .f32) : S512x16x128.Idx → Elt F .f32 := fun y =>
  A (ix2 (y 0) ⟨128 * (y 1).val + (y 2).val, by have h1 : (y 1).val < 16 := (y 1).isLt; have h2 : (y 2).val < 128 := (y 2).isLt; omega⟩)

theorem slab_G (A : FVec F S512x2048 .f32) (s : ℕ) (hs : s < 16) (hsl) (inb) (x : S512x1x128.Idx) :
    shapeCast S512x1x128 (extractStridedSlice S512x128 ![0, 128 * s] A hsl) shapeCasts_S512x128_S512x1x128 x
      = OUT A ((Rect.unit (s := S512x16x128) ![0, s, 0] S512x1x128.size inb).emb x) := by
  obtain ⟨r, l, rfl⟩ : ∃ (r : Fin 512) (l : Fin 128), x = ix3 r (0 : Fin 1) l := ⟨x 0, x 2, by
    funext a
    match a with
    | ⟨0, _⟩ => rfl
    | ⟨1, _⟩ => exact Subsingleton.elim (α := Fin 1) _ _
    | ⟨2, _⟩ => rfl⟩
  rw [slab_at A (128 * s) hsl (by omega) r l]
  show A _ = A _
  congr 1
  funext a
  apply Fin.ext
  match a with
  | ⟨0, _⟩ => show r.val = 0 + 1 * r.val; omega
  | ⟨1, _⟩ => show 128 * s + l.val = 128 * (s + 1 * 0) + (0 + 1 * l.val); omega

theorem unpack_G (g : S2x512x24x128.Idx → Elt F .f32) (s : Fin 2) (q : ℕ) (hq : q < 16) (off : Fin 4 → ℕ) (hoff : off = ![s.val, 0, q, 0]) (inb inb') (x : S512x128.Idx) :
    k0_pay2 (View.readAt (Elt F) (Memref.whole cc0_scratch0).view (Rect.unit (s := S2x512x24x128) off S1x512x1x128.size inb).toLoadRect g) x
      = XU g s ((Rect.unit (s := S512x2048) ![0, 128 * q] S512x128.size inb').emb x) := by
  subst hoff
  obtain ⟨r, l, rfl⟩ : ∃ (r : Fin 512) (l : Fin 128), x = ix2 r l := ⟨x 0, x 1, by
    funext a
    match a with
    | ⟨0, _⟩ => rfl
    | ⟨1, _⟩ => rfl⟩
  rw [unpack_at]
  show g _ = g _
  congr 1
  funext a
  apply Fin.ext
  match a with
  | ⟨0, _⟩ => show s.val + 1 * 0 = s.val; omega
  | ⟨1, _⟩ => show 0 + 1 * r.val = 0 + 1 * r.val; omega
  | ⟨2, _⟩ => show q + 1 * 0 = (128 * q + 1 * l.val) / 128; omega
  | ⟨3, _⟩ => show 0 + 1 * l.val = (128 * q + 1 * l.val) % 128; omega

theorem h_store_same (hs : S2x512x2048.Idx → Elt F .bf16) (s : Fin 2) (off : Fin 3 → ℕ) (hoff : off = ![s.val, 0, 0]) (inb) (p : S1x512x2048.Idx → Elt F .bf16) :
    slotOf ((Memref.whole cc0_scratch2).view.writes (Elt F) hs [⟨Rect.unit (s := S2x512x2048) off S1x512x2048.size inb, p⟩]) s = p := by
  have h : ∀ y : S1x512x2048.Idx, (Memref.whole cc0_scratch2).view.read (Elt F) ((Memref.whole cc0_scratch2).view.writes (Elt F) hs
      [⟨Rect.unit (s := S2x512x2048) off S1x512x2048.size inb, p⟩]) (ix3 s (y 1) (y 2)) = p y := fun y => by
    refine View.read_writes_cons_unit_of_mem (Val := Elt F) (s := S2x512x2048) (Memref.whole cc0_scratch2).view hs inb p [] _ y hoff fun a => ?_
    match a with
    | ⟨0, _⟩ => show s.val = s.val + (y 0).val; have : (y 0).val < 1 := (y 0).isLt; omega
    | ⟨1, _⟩ => show (y 1).val = 0 + (y 1).val; omega
    | ⟨2, _⟩ => show (y 2).val = 0 + (y 2).val; omega
  generalize (Memref.whole cc0_scratch2).view.writes (Elt F) hs [⟨Rect.unit (s := S2x512x2048) off S1x512x2048.size inb, p⟩] = w at h ⊢
  funext y
  exact h y

theorem h_store_other (hs : S2x512x2048.Idx → Elt F .bf16) (s s' : Fin 2) (hne : s'.val ≠ s.val) (off : Fin 3 → ℕ) (hoff : off = ![s.val, 0, 0]) (inb) (p : S1x512x2048.Idx → Elt F .bf16) :
    slotOf ((Memref.whole cc0_scratch2).view.writes (Elt F) hs [⟨Rect.unit (s := S2x512x2048) off S1x512x2048.size inb, p⟩]) s' = slotOf hs s' := by
  have h : ∀ y : S1x512x2048.Idx, (Memref.whole cc0_scratch2).view.read (Elt F) ((Memref.whole cc0_scratch2).view.writes (Elt F) hs
      [⟨Rect.unit (s := S2x512x2048) off S1x512x2048.size inb, p⟩]) (ix3 s' (y 1) (y 2)) = hs (ix3 s' (y 1) (y 2)) := fun y => by
    refine (View.read_writes_cons_unit_of_not_mem (Val := Elt F) (s := S2x512x2048) (Memref.whole cc0_scratch2).view hs inb p [] _ hoff (0 : Fin 3) ?_).trans rfl
    show s'.val < s.val ∨ s.val + 1 ≤ s'.val
    omega
  generalize (Memref.whole cc0_scratch2).view.writes (Elt F) hs [⟨Rect.unit (s := S2x512x2048) off S1x512x2048.size inb, p⟩] = w at h ⊢
  funext y
  exact h y

/-- Stores that cover a block and agree with one function leave that function. -/
theorem writes_all {sp : Space} {S : Shape} {e : EltTy} (v : View sig .tc sp S e) (f : v.ty.Contents (Elt F)) (L : List (View.Piece (Elt F) S e)) (G : S.Idx → Elt F e)
    (hL : ∀ p ∈ L, ∀ x : p.1.shape.Idx, p.2 x = G (p.1.emb x)) (hc : ∀ y : S.Idx, ∃ p ∈ L, y ∈ p.1.set) :
    v.read (Elt F) (v.writes (Elt F) f L) = G := by
  haveI := Elt.nonempty F
  rw [View.read_writes_eq_canon v f L hc]
  exact funext fun y => View.canon_apply_of_pieces G L hL y (hc y)
section Body

variable (c : Dev nD) (i : grid0.Coords) (a6 : Memref sig .tc .vmem S1x2048x512 .bf16) (ha6 : a6.IsWhole) (a7 : Memref sig .tc .vmem S1x2048x512 .bf16) (ha7 : a7.IsWhole) (a8 : Memref sig .tc .vmem S1x512x2048 .bf16) (ha8 : a8.IsWhole) (a9 : Memref sig .tc .vmem S512x16x128 .f32) (ha9 : a9.IsWhole)

variable (x6 x7 : Vec F S1x2048x512 .bf16) (x8 : Vec F S1x512x2048 .bf16) (hs : S2x512x2048.Idx → Elt F .bf16)

include ha6 ha7 ha8 ha9

set_option maxHeartbeats 1000000 in
/-- The first partial sum. -/
theorem first_acc (K : PUnit.{1} → sProp 𝕄) :
    iprop(owns (c : Thread nD τ) a6 fullShare x6 ∗ owns (c : Thread nD τ) a7 fullShare x7 ∗ owns (c : Thread nD τ) a8 fullShare x8 ∗ hsAt c hs ∗ (∃ d, accAt c d)
        ∗ (iprop(owns (c : Thread nD τ) a6 fullShare x6 ∗ owns (c : Thread nD τ) a7 fullShare x7 ∗ owns (c : Thread nD τ) a8 fullShare x8 ∗ hsAt c hs ∗ accAt c (k0_pay56 (slotOf hs (cur i)) x6 x7 x8)) -∗ K ⟨⟩))
      ⊢ wp frame (wpE (defs₀ (F := F)) Variants.none (c : Thread nD τ) none) Set.univ ((do
    let v52 : Vec F S1x512x2048 .bf16 ← Prog.lift (.load (Memref.whole cc0_scratch2) (Rect.unit (s := S2x512x2048) (k0_off13 i) S1x512x2048.size (k0_off13_inb i)).toLoadRect (View.loadsAt_vmem h_S1x512x2048))
    let v54 : Vec F S1x2048x512 .bf16 ← Prog.lift (.load a6 (Rect.unit (s := S1x2048x512) ![0, 0, 0] S1x2048x512.size inb_S1x2048x512_S1x2048x512_0_0_0).toLoadRect (View.loadsAt_vmem h_S1x2048x512))
    let v57 : Vec F S1x2048x512 .bf16 ← Prog.lift (.load a7 (Rect.unit (s := S1x2048x512) ![0, 0, 0] S1x2048x512.size inb_S1x2048x512_S1x2048x512_0_0_0).toLoadRect (View.loadsAt_vmem h_S1x2048x512))
    let v64 : Vec F S1x512x2048 .bf16 ← Prog.lift (.load a8 (Rect.unit (s := S1x512x2048) ![0, 0, 0] S1x512x2048.size inb_S1x512x2048_S1x512x2048_0_0_0).toLoadRect (View.loadsAt_vmem h_S1x512x2048))
    let v67 : Vec F S512x2048 .f32 ← Prog.lift (.load (Memref.whole cc0_scratch3) (Rect.unit (s := S512x2048) ![0, 0] S512x2048.size inb_S512x2048_S512x2048_0_0).toLoadRect (View.loadsAt_vmem h_S512x2048))
    Prog.lift (.store (Memref.whole cc0_scratch3) (Rect.unit (s := S512x2048) ![0, 0] S512x2048.size inb_S512x2048_S512x2048_0_0) (k0_pay56 v52 v54 v57 v64) Finset.univ (View.stores_vmem_bits_univ h_S512x2048 rfl) (.inl rfl))
    pure ⟨⟩
    ) : Prog (TpuEff nD τ sig (Elt F) Λ₀ .tc) PUnit) K := by
  unfold owns
  iintro ⟨⟨%f0, %hf0, H0⟩, ⟨%f1, %hf1, H1⟩, ⟨%f2, %hf2, H2⟩, HS, ⟨%d, HA⟩, Hk⟩
  obtain rfl := ha6.eq_unread hf0; obtain rfl := ha7.eq_unread hf1; obtain rfl := ha8.eq_unread hf2
  sl_exec
  sl_step
  rw [acc_store, slot_read hs (cur i) _ (off13_eq i)]
  simp only [View.readAt_eq_ld, ha6.read_unread, ha7.read_unread, ha8.read_unread, View.ld_unit_zero (S := S1x2048x512) hz3, View.ld_unit_zero (S := S1x512x2048) hz3]
  iapply Hk
  isplitl [H0]
  · iexists _; isplitr; · ipureintro; exact ha6.read_unread _
    iexact H0
  isplitl [H1]
  · iexists _; isplitr; · ipureintro; exact ha7.read_unread _
    iexact H1
  isplitl [H2]
  · iexists _; isplitr; · ipureintro; exact ha8.read_unread _
    iexact H2
  isplitl [HS]; · iexact HS
  iexact HA

set_option maxHeartbeats 1000000 in
/-- A later partial sum. -/
theorem mid_acc (d : S512x2048.Idx → Elt F .f32) (K : PUnit.{1} → sProp 𝕄) :
    iprop(owns (c : Thread nD τ) a6 fullShare x6 ∗ owns (c : Thread nD τ) a7 fullShare x7 ∗ owns (c : Thread nD τ) a8 fullShare x8 ∗ hsAt c hs ∗ accAt c d
        ∗ (iprop(owns (c : Thread nD τ) a6 fullShare x6 ∗ owns (c : Thread nD τ) a7 fullShare x7 ∗ owns (c : Thread nD τ) a8 fullShare x8 ∗ hsAt c hs ∗ accAt c (k0_pay57 d (slotOf hs (cur i)) x6 x7 x8)) -∗ K ⟨⟩))
      ⊢ wp frame (wpE (defs₀ (F := F)) Variants.none (c : Thread nD τ) none) Set.univ ((do
    let v41 : Vec F S512x2048 .f32 ← Prog.lift (.load (Memref.whole cc0_scratch3) (Rect.unit (s := S512x2048) ![0, 0] S512x2048.size inb_S512x2048_S512x2048_0_0).toLoadRect (View.loadsAt_vmem h_S512x2048))
    let v53 : Vec F S1x512x2048 .bf16 ← Prog.lift (.load (Memref.whole cc0_scratch2) (Rect.unit (s := S2x512x2048) (k0_off14 i) S1x512x2048.size (k0_off14_inb i)).toLoadRect (View.loadsAt_vmem h_S1x512x2048))
    let v55 : Vec F S1x2048x512 .bf16 ← Prog.lift (.load a6 (Rect.unit (s := S1x2048x512) ![0, 0, 0] S1x2048x512.size inb_S1x2048x512_S1x2048x512_0_0_0).toLoadRect (View.loadsAt_vmem h_S1x2048x512))
    let v58 : Vec F S1x2048x512 .bf16 ← Prog.lift (.load a7 (Rect.unit (s := S1x2048x512) ![0, 0, 0] S1x2048x512.size inb_S1x2048x512_S1x2048x512_0_0_0).toLoadRect (View.loadsAt_vmem h_S1x2048x512))
    let v65 : Vec F S1x512x2048 .bf16 ← Prog.lift (.load a8 (Rect.unit (s := S1x512x2048) ![0, 0, 0] S1x512x2048.size inb_S1x512x2048_S1x512x2048_0_0_0).toLoadRect (View.loadsAt_vmem h_S1x512x2048))
    let v69 : Vec F S512x2048 .f32 ← Prog.lift (.load (Memref.whole cc0_scratch3) (Rect.unit (s := S512x2048) ![0, 0] S512x2048.size inb_S512x2048_S512x2048_0_0).toLoadRect (View.loadsAt_vmem h_S512x2048))
    Prog.lift (.store (Memref.whole cc0_scratch3) (Rect.unit (s := S512x2048) ![0, 0] S512x2048.size inb_S512x2048_S512x2048_0_0) (k0_pay57 v41 v53 v55 v58 v65) Finset.univ (View.stores_vmem_bits_univ h_S512x2048 rfl) (.inl rfl))
    pure ⟨⟩
    ) : Prog (TpuEff nD τ sig (Elt F) Λ₀ .tc) PUnit) K := by
  unfold owns
  iintro ⟨⟨%f0, %hf0, H0⟩, ⟨%f1, %hf1, H1⟩, ⟨%f2, %hf2, H2⟩, HS, HA, Hk⟩
  obtain rfl := ha6.eq_unread hf0; obtain rfl := ha7.eq_unread hf1; obtain rfl := ha8.eq_unread hf2
  sl_exec
  sl_step
  rw [acc_store, acc_read, slot_read hs (cur i) _ (off14_eq i)]
  simp only [View.readAt_eq_ld, ha6.read_unread, ha7.read_unread, ha8.read_unread, View.ld_unit_zero (S := S1x2048x512) hz3, View.ld_unit_zero (S := S1x512x2048) hz3]
  iapply Hk
  isplitl [H0]
  · iexists _; isplitr; · ipureintro; exact ha6.read_unread _
    iexact H0
  isplitl [H1]
  · iexists _; isplitr; · ipureintro; exact ha7.read_unread _
    iexact H1
  isplitl [H2]
  · iexists _; isplitr; · ipureintro; exact ha8.read_unread _
    iexact H2
  isplitl [HS]; · iexact HS
  iexact HA
end Body

end Cert.Kernel4Ideal.Hand

end
-- ==== Proof.ExpertBody.lean ====
/-
  The branches of one grid point of the expert call: the output of a used and of an unused block, the start of the next block's
  gather, and the arrival of its rows.
-/
module

public import proofs.«01_k».proof.Proof.Gen.Kernel4Ideal
public import proofs.«01_k».proof.Proof.Gen.Kernel4Ideal.Launch
public import proofs.«01_k».proof.Proof.Gen.Kernel4Ideal.Loops
public import proofs.«01_k».proof.Proof.Gen.Kernel4Ideal.Skeleton
public import proofs.«01_k».proof.Proof.ExpertParts
public import Idealize.ShloMosaic.Lib.ValueLayout
public import Idealize.ShloMosaic.Lib.Pointwise
public import Idealize.ShloMosaic.Lib.WritesUnit
public import Idealize.ShloMosaic.Lib.Batch
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import Idealize.ShloMosaic.Lib.Quiescent
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
/-- The whole rectangle places every index at itself. -/
theorem emb_whole {S : Shape} (inb) (y : S.Idx) : (Rect.unit (s := S) (fun _ => 0) S.size inb).emb y = y := by
  funext a; apply Fin.ext; show 0 + 1 * (y a).val = _; omega

/-- Stores that cover a block and agree with one function: what a load of the whole block then reads. -/
theorem cov_all {sp : Space} {S : Shape} {e : EltTy} (v : View sig .tc sp S e) (L : List (View.Piece (Elt F) S e)) (G : S.Idx → Elt F e) [∀ e, Nonempty (Elt F e)] {off : Fin S.rank → ℕ} (inb) (hz : off = fun _ => 0)
    (hL : ∀ p ∈ L, ∀ x : p.1.shape.Idx, p.2 x = G (p.1.emb x)) (hc : ∀ y : S.Idx, ∃ p ∈ L, y ∈ p.1.set) :
    v.readCov L (Rect.unit (s := S) off S.size inb).toLoadRect = G := by
  subst hz
  rw [View.readCov_eq_canon_ld v L _ hc]
  funext y
  have h := View.canon_apply_of_pieces G L hL ((Rect.unit (s := S) (fun _ => 0) S.size inb).emb y) (hc _)
  exact h.trans (congrArg G (emb_whole inb y))

section Body

variable (c : Dev nD) (i : grid0.Coords) (a6 : Memref sig .tc .vmem S1x2048x512 .bf16) (ha6 : a6.IsWhole) (a7 : Memref sig .tc .vmem S1x2048x512 .bf16) (ha7 : a7.IsWhole) (a8 : Memref sig .tc .vmem S1x512x2048 .bf16) (ha8 : a8.IsWhole) (a9 : Memref sig .tc .vmem S512x16x128 .f32) (ha9 : a9.IsWhole)

variable (x6 x7 : Vec F S1x2048x512 .bf16) (x8 : Vec F S1x512x2048 .bf16) (hs : S2x512x2048.Idx → Elt F .bf16)

include ha6 ha7 ha8 ha9

set_option maxHeartbeats 2000000 in
/-- The output of a used block. -/
theorem last_out (d : S512x2048.Idx → Elt F .f32) (K : PUnit.{1} → sProp 𝕄) :
    iprop(owns (c : Thread nD τ) a6 fullShare x6 ∗ owns (c : Thread nD τ) a7 fullShare x7 ∗ owns (c : Thread nD τ) a8 fullShare x8 ∗ hsAt c hs ∗ accAt c d ∗ (∃ d, owns (c : Thread nD τ) a9 fullShare d)
        ∗ (iprop(owns (c : Thread nD τ) a6 fullShare x6 ∗ owns (c : Thread nD τ) a7 fullShare x7 ∗ owns (c : Thread nD τ) a8 fullShare x8 ∗ hsAt c hs ∗ accAt c d ∗ owns (c : Thread nD τ) a9 fullShare (OUT (k0_pay33 d (slotOf hs (cur i)) x6 x7 x8))) -∗ K ⟨⟩))
      ⊢ wp frame (wpE (defs₀ (F := F)) Variants.none (c : Thread nD τ) none) Set.univ (k0_part11 (F := F) i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 0).val)) K := by
  simp only [k0_part11_eq_skeleton]; unfold k0_part11_skel
  simp only [k0_part9_eq_skeleton]; unfold k0_part9_skel
  simp only [k0_part10_eq_skeleton]; unfold k0_part10_skel
  unfold owns
  iintro ⟨⟨%f0, %hf0, H0⟩, ⟨%f1, %hf1, H1⟩, ⟨%f2, %hf2, H2⟩, HS, HA, ⟨%d9, %f9, -, H9⟩, Hk⟩
  obtain rfl := ha6.eq_unread hf0; obtain rfl := ha7.eq_unread hf1; obtain rfl := ha8.eq_unread hf2
  sl_exec
  sl_step
  rw [acc_read, slot_read hs (cur i) _ (off38_eq i)]
  simp only [View.readAt_eq_ld, ha6.read_unread, ha7.read_unread, ha8.read_unread, View.ld_unit_zero (S := S1x2048x512) hz3, View.ld_unit_zero (S := S1x512x2048) hz3]
  iapply Hk
  isplitl [H0]
  · iexists _; isplitr; · ipureintro; exact ha6.read_unread _
    iexact H0
  isplitl [H1]
  · iexists _; isplitr; · ipureintro; exact ha7.read_unread _
    iexact H1
  isplitl [H2]
  · iexists _; isplitr; · ipureintro; exact ha8.read_unread _
    iexact H2
  isplitl [HS]; · iexact HS
  isplitl [HA]; · iexact HA
  iexists _; isplitr; rotate_left; · iexact H9
  ipureintro
  refine writes_all _ _ _ _ ?_ (fun y => View.cover_of_tiledL _ ![512, 1, 128] (by sl_kernel_rfl) y)
  intro p hp
  simp only [List.mem_cons, List.not_mem_nil, or_false] at hp
  rcases hp with rfl | rfl | rfl | rfl | rfl | rfl | rfl | rfl | rfl | rfl | rfl | rfl | rfl | rfl | rfl | rfl
  · exact fun x => slab_G (k0_pay33 d (slotOf hs (cur i)) x6 x7 x8) 15 (by omega) slices_S512x2048_o0_1920_S512x128 inb_S512x16x128_S512x1x128_0_15_0 x
  · exact fun x => slab_G (k0_pay33 d (slotOf hs (cur i)) x6 x7 x8) 14 (by omega) slices_S512x2048_o0_1792_S512x128 inb_S512x16x128_S512x1x128_0_14_0 x
  · exact fun x => slab_G (k0_pay33 d (slotOf hs (cur i)) x6 x7 x8) 13 (by omega) slices_S512x2048_o0_1664_S512x128 inb_S512x16x128_S512x1x128_0_13_0 x
  · exact fun x => slab_G (k0_pay33 d (slotOf hs (cur i)) x6 x7 x8) 12 (by omega) slices_S512x2048_o0_1536_S512x128 inb_S512x16x128_S512x1x128_0_12_0 x
  · exact fun x => slab_G (k0_pay33 d (slotOf hs (cur i)) x6 x7 x8) 11 (by omega) slices_S512x2048_o0_1408_S512x128 inb_S512x16x128_S512x1x128_0_11_0 x
  · exact fun x => slab_G (k0_pay33 d (slotOf hs (cur i)) x6 x7 x8) 10 (by omega) slices_S512x2048_o0_1280_S512x128 inb_S512x16x128_S512x1x128_0_10_0 x
  · exact fun x => slab_G (k0_pay33 d (slotOf hs (cur i)) x6 x7 x8) 9 (by omega) slices_S512x2048_o0_1152_S512x128 inb_S512x16x128_S512x1x128_0_9_0 x
  · exact fun x => slab_G (k0_pay33 d (slotOf hs (cur i)) x6 x7 x8) 8 (by omega) slices_S512x2048_o0_1024_S512x128 inb_S512x16x128_S512x1x128_0_8_0 x
  · exact fun x => slab_G (k0_pay33 d (slotOf hs (cur i)) x6 x7 x8) 7 (by omega) slices_S512x2048_o0_896_S512x128 inb_S512x16x128_S512x1x128_0_7_0 x
  · exact fun x => slab_G (k0_pay33 d (slotOf hs (cur i)) x6 x7 x8) 6 (by omega) slices_S512x2048_o0_768_S512x128 inb_S512x16x128_S512x1x128_0_6_0 x
  · exact fun x => slab_G (k0_pay33 d (slotOf hs (cur i)) x6 x7 x8) 5 (by omega) slices_S512x2048_o0_640_S512x128 inb_S512x16x128_S512x1x128_0_5_0 x
  · exact fun x => slab_G (k0_pay33 d (slotOf hs (cur i)) x6 x7 x8) 4 (by omega) slices_S512x2048_o0_512_S512x128 inb_S512x16x128_S512x1x128_0_4_0 x
  · exact fun x => slab_G (k0_pay33 d (slotOf hs (cur i)) x6 x7 x8) 3 (by omega) slices_S512x2048_o0_384_S512x128 inb_S512x16x128_S512x1x128_0_3_0 x
  · exact fun x => slab_G (k0_pay33 d (slotOf hs (cur i)) x6 x7 x8) 2 (by omega) slices_S512x2048_o0_256_S512x128 inb_S512x16x128_S512x1x128_0_2_0 x
  · exact fun x => slab_G (k0_pay33 d (slotOf hs (cur i)) x6 x7 x8) 1 (by omega) slices_S512x2048_o0_128_S512x128 inb_S512x16x128_S512x1x128_0_1_0 x
  · exact fun x => slab_G (k0_pay33 d (slotOf hs (cur i)) x6 x7 x8) 0 (by omega) slices_S512x2048_o0_0_S512x128 inb_S512x16x128_S512x1x128_0_0_0 x

/-- The output of an unused block. -/
theorem zero_out (v0 : Elt F .i32) (K : PUnit.{1} → sProp 𝕄) :
    iprop((∃ d, owns (c : Thread nD τ) a9 fullShare d) ∗ (owns (c : Thread nD τ) a9 fullShare (k0_pay1 (F := F)) -∗ K ⟨⟩))
      ⊢ wp frame (wpE (defs₀ (F := F)) Variants.none (c : Thread nD τ) none) Set.univ (((do
    let v42 : Vec F S512x16x128 .f32 ← Prog.lift (.load a9 (Rect.unit (s := S512x16x128) ![0, 0, 0] S512x16x128.size inb_S512x16x128_S512x16x128_0_0_0).toLoadRect (View.loadsAt_vmem h_S512x16x128))
    Prog.lift (.store a9 (Rect.unit (s := S512x16x128) ![0, 0, 0] S512x16x128.size inb_S512x16x128_S512x16x128_0_0_0) (k0_pay1 (F := F)) Finset.univ (View.stores_vmem_bits_univ h_S512x16x128 rfl) (.inl rfl))
    pure ⟨⟩) : Prog (TpuEff nD τ sig (Elt F) Λ₀ .tc) PUnit)) K := by
  unfold owns
  iintro ⟨⟨%d9, %f9, -, H9⟩, Hk⟩
  sl_exec
  sl_step
  iapply Hk
  iexists _; isplitr; rotate_left; · iexact H9
  ipureintro
  exact whole_store (S := S512x16x128) a9.view _ _ _ hz3

variable (h0 : S16384x16x128.Idx → Elt F .f32) (tk : Fin 512 → Fin 16384) (T : S36864.Idx → Elt F .i32)

/-- The next block's gather is started. -/
theorem issue_next [∀ e, Nonempty (Elt F e)] (v0 : Elt F .i32) (h2 : k0_cond2 i v0 = 1#1) (hT : Names T (min ((i 0).val + 1) 71) tk) (K : PUnit.{1} → sProp 𝕄) :
    iprop(tab c T ∗ (∃ f0, xgAt c f0) ∗ hAt c h0 ∗ semVal ((c : Thread nD τ), SemLoc.dma (cellOf (nxt i))) 0
        ∗ (iprop(tab c T ∗ (∃ f0, batch c h0 tk (nxt i) f0 512 0 ∗ restX c (nxt i) f0 ∗ restH c h0 tk)) -∗ K ⟨⟩))
      ⊢ wp frame (wpE (defs₀ (F := F)) Variants.none (c : Thread nD τ) none) Set.univ ((do
    Scf.Loop.for k0_t3_loop k0_t3_ok ⟨⟩ (k0_t3_body i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 h2)
    pure ⟨⟩
    ) : Prog (TpuEff nD τ sig (Elt F) Λ₀ .tc) PUnit) K := by
  iintro ⟨HT, ⟨%f0, HX⟩, HH, Hc, Hk⟩
  imod (gather_start c h0 tk (nxt i) f0 T) $$ [HT HX HH Hc] with ⟨HI, HXr, HHr⟩
  · isplitl [HT]; · iexact HT
    isplitl [HX]; · iexact HX
    isplitl [HH]; · iexact HH
    iexact Hc
  sl_for (issueAt c h0 tk (nxt i) f0 T) $$ [HI]
  · intro k acc; exact issue3_step c i a6 ha6 a7 ha7 a8 ha8 a9 ha9 v0 h2 h0 tk f0 T hT k acc
  · iexact HI
  iintro %acc HI
  rw [show Scf.trips _ _ _ = 512 from trips3]
  unfold issueAt
  icases HI with ⟨HT, HB, -, -⟩
  sl_step
  iapply Hk
  isplitl [HT]; · iexact HT
  iexists f0
  isplitl [HB]; · iexact HB
  isplitl [HXr]; · iexact HXr
  iexact HHr

/-- The token rows of a block, unpacked. -/
def XT (h0 : S16384x16x128.Idx → Elt F .f32) (tk : Fin 512 → Fin 16384) : S512x2048.Idx → Elt F .f32 := fun y =>
  h0 (ix3 (tk (y 0)) ⟨(y 1).val / 128, by have h : (y 1).val < 2048 := (y 1).isLt; omega⟩ ⟨(y 1).val % 128, Nat.mod_lt _ (by omega)⟩)

omit ha6 ha7 ha8 ha9 in
theorem XU_landed (s : Fin 2) (f0) : XU (landed h0 tk s f0) s = XT h0 tk := by
  funext y
  have h : (y 1).val < 2048 := (y 1).isLt
  exact (dif_pos (⟨rfl, by show (y 1).val / 128 < 16; omega⟩ : s.val = s.val ∧ (y 1).val / 128 < 16))

set_option maxHeartbeats 4000000 in
/-- The first block's rows are fetched, unpacked and narrowed. -/
theorem unpack_first (h1 : k0_cond1 i = 1#1) (hT : Names T 0 tk) (K : PUnit.{1} → sProp 𝕄) :
    iprop(tab c T ∗ (∃ f0, xgAt c f0) ∗ hAt c h0 ∗ semVal ((c : Thread nD τ), SemLoc.dma (cellOf 0)) 0 ∗ (∃ W, owes (c : Thread nD τ) 0 W) ∗ (∃ d, x2At c d) ∗ hsAt c hs
        ∗ (iprop(tab c T ∗ (∃ f0, xgAt c f0) ∗ hAt c h0 ∗ semVal ((c : Thread nD τ), SemLoc.dma (cellOf 0)) 0 ∗ (∃ W, owes (c : Thread nD τ) 0 W) ∗ (∃ d, x2At c d)
            ∗ (∃ hs', ⌜slotOf hs' 0 = k0_pay55 (XT h0 tk)⌝ ∗ hsAt c hs')) -∗ K ⟨⟩))
      ⊢ wp frame (wpE (defs₀ (F := F)) Variants.none (c : Thread nD τ) none) Set.univ ((do
    k0_part1 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 h1
    k0_part2 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
    k0_part3 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
    let v110 : Vec F S1x512x1x128 .f32 ← Prog.lift (.load (Memref.whole cc0_scratch0) (Rect.unit (s := S2x512x24x128) ![0, 0, 13, 0] S1x512x1x128.size inb_S2x512x24x128_S1x512x1x128_0_0_13_0).toLoadRect (View.loadsAt_vmem h_S1x512x1x128))
    let v112 : Vec F S512x128 .f32 ← Prog.lift (.load (Memref.whole cc0_scratch1) (Rect.unit (s := S512x2048) ![0, 1664] S512x128.size inb_S512x2048_S512x128_0_1664).toLoadRect (View.loadsAt_vmem h_S512x128))
    Prog.lift (.store (Memref.whole cc0_scratch1) (Rect.unit (s := S512x2048) ![0, 1664] S512x128.size inb_S512x2048_S512x128_0_1664) (k0_pay52 v110) Finset.univ (View.stores_vmem_bits_univ h_S512x128 rfl) (.inl rfl))
    let v115 : Vec F S1x512x1x128 .f32 ← Prog.lift (.load (Memref.whole cc0_scratch0) (Rect.unit (s := S2x512x24x128) ![0, 0, 14, 0] S1x512x1x128.size inb_S2x512x24x128_S1x512x1x128_0_0_14_0).toLoadRect (View.loadsAt_vmem h_S1x512x1x128))
    let v117 : Vec F S512x128 .f32 ← Prog.lift (.load (Memref.whole cc0_scratch1) (Rect.unit (s := S512x2048) ![0, 1792] S512x128.size inb_S512x2048_S512x128_0_1792).toLoadRect (View.loadsAt_vmem h_S512x128))
    Prog.lift (.store (Memref.whole cc0_scratch1) (Rect.unit (s := S512x2048) ![0, 1792] S512x128.size inb_S512x2048_S512x128_0_1792) (k0_pay53 v115) Finset.univ (View.stores_vmem_bits_univ h_S512x128 rfl) (.inl rfl))
    let v120 : Vec F S1x512x1x128 .f32 ← Prog.lift (.load (Memref.whole cc0_scratch0) (Rect.unit (s := S2x512x24x128) ![0, 0, 15, 0] S1x512x1x128.size inb_S2x512x24x128_S1x512x1x128_0_0_15_0).toLoadRect (View.loadsAt_vmem h_S1x512x1x128))
    let v122 : Vec F S512x128 .f32 ← Prog.lift (.load (Memref.whole cc0_scratch1) (Rect.unit (s := S512x2048) ![0, 1920] S512x128.size inb_S512x2048_S512x128_0_1920).toLoadRect (View.loadsAt_vmem h_S512x128))
    Prog.lift (.store (Memref.whole cc0_scratch1) (Rect.unit (s := S512x2048) ![0, 1920] S512x128.size inb_S512x2048_S512x128_0_1920) (k0_pay54 v120) Finset.univ (View.stores_vmem_bits_univ h_S512x128 rfl) (.inl rfl))
    let v125 : Vec F S512x2048 .f32 ← Prog.lift (.load (Memref.whole cc0_scratch1) (Rect.unit (s := S512x2048) ![0, 0] S512x2048.size inb_S512x2048_S512x2048_0_0).toLoadRect (View.loadsAt_vmem h_S512x2048))
    let v127 : Vec F S1x512x2048 .bf16 ← Prog.lift (.load (Memref.whole cc0_scratch2) (Rect.unit (s := S2x512x2048) ![0, 0, 0] S1x512x2048.size inb_S2x512x2048_S1x512x2048_0_0_0).toLoadRect (View.loadsAt_vmem h_S1x512x2048))
    Prog.lift (.store (Memref.whole cc0_scratch2) (Rect.unit (s := S2x512x2048) ![0, 0, 0] S1x512x2048.size inb_S2x512x2048_S1x512x2048_0_0_0) (k0_pay55 v125) Finset.univ (View.stores_vmem h_S1x512x2048 ((Memref.isWhole_whole cc0_scratch2).storeExact_slice rfl _ packedbf16_S2x512x2048_S1x512x2048_0_0_0) (fun _ => rfl)) (.inl rfl))
    pure ⟨⟩
    ) : Prog (TpuEff nD τ sig (Elt F) Λ₀ .tc) PUnit) K := by
  haveI := Elt.nonempty F
  iintro ⟨HT, ⟨%f0, HX⟩, HH, Hc, HO, ⟨%d2, H2⟩, HS, Hk⟩
  simp only [k0_part1_eq_skeleton]; unfold k0_part1_skel
  imod (gather_start c h0 tk 0 f0 T) $$ [HT HX HH Hc] with ⟨HI, HXr, HHr⟩
  · isplitl [HT]; · iexact HT
    isplitl [HX]; · iexact HX
    isplitl [HH]; · iexact HH
    iexact Hc
  rw [bind_assoc]
  sl_for (issueAt c h0 tk 0 f0 T) $$ [HI]
  · intro k acc; exact issue1_step c i a6 ha6 a7 ha7 a8 ha8 a9 ha9 h1 h0 tk f0 T hT k acc
  · iexact HI
  iintro %acc HI
  rw [show Scf.trips _ _ _ = 512 from trips1]
  unfold issueAt
  icases HI with ⟨HT, HB, -, -⟩
  unfold unpack_first.sl.prog.cont_1
  rw [bind_assoc]
  sl_for (drainAt c h0 tk 0 f0 T) $$ [HT HB HO]
  · intro k acc; exact drain2_step c i a6 ha6 a7 ha7 a8 ha8 a9 ha9 h1 h0 tk f0 T hT k acc
  · unfold drainAt
    isplitr; · ipureintro; omega
    isplitl [HT]; · iexact HT
    isplitl [HO]; · iexact HO
    rw [Nat.zero_mul]; iexact HB
  iintro %acc2 HI
  rw [show Scf.trips _ _ _ = 512 from trips2]
  unfold drainAt
  icases HI with ⟨-, HT, HO, HB⟩
  imod (gather_done c h0 tk 0 f0) $$ [HB HXr HHr] with ⟨HX, HH, Hc⟩
  · isplitl [HB]; · iexact HB
    isplitl [HXr]; · iexact HXr
    iexact HHr
  unfold unpack_first.sl.prog.cont_2
  simp only [k0_part2_eq_skeleton, k0_part3_eq_skeleton]; unfold k0_part2_skel k0_part3_skel
  sl_exec
  sl_step
  have e : unpack_first.sl.v125 h0 tk this f0 = XT h0 tk := by
    unfold unpack_first.sl.v125
    refine cov_all _ _ _ _ hz2 ?_ (fun y => View.cover_of_tiledL _ ![512, 128] (by sl_kernel_rfl) y)
    unfold unpack_first.sl.H2_16
    intro p hp
    simp only [List.mem_cons, List.not_mem_nil, or_false] at hp
    rcases hp with rfl | rfl | rfl | rfl | rfl | rfl | rfl | rfl | rfl | rfl | rfl | rfl | rfl | rfl | rfl | rfl
    · exact fun x => (unpack_G (landed h0 tk 0 f0) 0 15 (by omega) ![0, 0, 15, 0] rfl inb_S2x512x24x128_S1x512x1x128_0_0_15_0 inb_S512x2048_S512x128_0_1920 x).trans (congrFun (XU_landed h0 tk 0 f0) _)
    · exact fun x => (unpack_G (landed h0 tk 0 f0) 0 14 (by omega) ![0, 0, 14, 0] rfl inb_S2x512x24x128_S1x512x1x128_0_0_14_0 inb_S512x2048_S512x128_0_1792 x).trans (congrFun (XU_landed h0 tk 0 f0) _)
    · exact fun x => (unpack_G (landed h0 tk 0 f0) 0 13 (by omega) ![0, 0, 13, 0] rfl inb_S2x512x24x128_S1x512x1x128_0_0_13_0 inb_S512x2048_S512x128_0_1664 x).trans (congrFun (XU_landed h0 tk 0 f0) _)
    · exact fun x => (unpack_G (landed h0 tk 0 f0) 0 12 (by omega) ![0, 0, 12, 0] rfl inb_S2x512x24x128_S1x512x1x128_0_0_12_0 inb_S512x2048_S512x128_0_1536 x).trans (congrFun (XU_landed h0 tk 0 f0) _)
    · exact fun x => (unpack_G (landed h0 tk 0 f0) 0 11 (by omega) ![0, 0, 11, 0] rfl inb_S2x512x24x128_S1x512x1x128_0_0_11_0 inb_S512x2048_S512x128_0_1408 x).trans (congrFun (XU_landed h0 tk 0 f0) _)
    · exact fun x => (unpack_G (landed h0 tk 0 f0) 0 10 (by omega) ![0, 0, 10, 0] rfl inb_S2x512x24x128_S1x512x1x128_0_0_10_0 inb_S512x2048_S512x128_0_1280 x).trans (congrFun (XU_landed h0 tk 0 f0) _)
    · exact fun x => (unpack_G (landed h0 tk 0 f0) 0 9 (by omega) ![0, 0, 9, 0] rfl inb_S2x512x24x128_S1x512x1x128_0_0_9_0 inb_S512x2048_S512x128_0_1152 x).trans (congrFun (XU_landed h0 tk 0 f0) _)
    · exact fun x => (unpack_G (landed h0 tk 0 f0) 0 8 (by omega) ![0, 0, 8, 0] rfl inb_S2x512x24x128_S1x512x1x128_0_0_8_0 inb_S512x2048_S512x128_0_1024 x).trans (congrFun (XU_landed h0 tk 0 f0) _)
    · exact fun x => (unpack_G (landed h0 tk 0 f0) 0 7 (by omega) ![0, 0, 7, 0] rfl inb_S2x512x24x128_S1x512x1x128_0_0_7_0 inb_S512x2048_S512x128_0_896 x).trans (congrFun (XU_landed h0 tk 0 f0) _)
    · exact fun x => (unpack_G (landed h0 tk 0 f0) 0 6 (by omega) ![0, 0, 6, 0] rfl inb_S2x512x24x128_S1x512x1x128_0_0_6_0 inb_S512x2048_S512x128_0_768 x).trans (congrFun (XU_landed h0 tk 0 f0) _)
    · exact fun x => (unpack_G (landed h0 tk 0 f0) 0 5 (by omega) ![0, 0, 5, 0] rfl inb_S2x512x24x128_S1x512x1x128_0_0_5_0 inb_S512x2048_S512x128_0_640 x).trans (congrFun (XU_landed h0 tk 0 f0) _)
    · exact fun x => (unpack_G (landed h0 tk 0 f0) 0 4 (by omega) ![0, 0, 4, 0] rfl inb_S2x512x24x128_S1x512x1x128_0_0_4_0 inb_S512x2048_S512x128_0_512 x).trans (congrFun (XU_landed h0 tk 0 f0) _)
    · exact fun x => (unpack_G (landed h0 tk 0 f0) 0 3 (by omega) ![0, 0, 3, 0] rfl inb_S2x512x24x128_S1x512x1x128_0_0_3_0 inb_S512x2048_S512x128_0_384 x).trans (congrFun (XU_landed h0 tk 0 f0) _)
    · exact fun x => (unpack_G (landed h0 tk 0 f0) 0 2 (by omega) ![0, 0, 2, 0] rfl inb_S2x512x24x128_S1x512x1x128_0_0_2_0 inb_S512x2048_S512x128_0_256 x).trans (congrFun (XU_landed h0 tk 0 f0) _)
    · exact fun x => (unpack_G (landed h0 tk 0 f0) 0 1 (by omega) ![0, 0, 1, 0] rfl inb_S2x512x24x128_S1x512x1x128_0_0_1_0 inb_S512x2048_S512x128_0_128 x).trans (congrFun (XU_landed h0 tk 0 f0) _)
    · exact fun x => (unpack_G (landed h0 tk 0 f0) 0 0 (by omega) ![0, 0, 0, 0] rfl inb_S2x512x24x128_S1x512x1x128_0_0_0_0 inb_S512x2048_S512x128_0_0 x).trans (congrFun (XU_landed h0 tk 0 f0) _)
  rw [e]
  iapply Hk
  isplitl [HT]; · iexact HT
  isplitl [HX]; · iexists _; iexact HX
  isplitl [HH]; · iexact HH
  isplitl [Hc]; · iexact Hc
  isplitl [HO]; · iexact HO
  isplitl [H2]; · iexists _; iexact H2
  have hh := h_store_same hs 0 ![0, 0, 0] rfl inb_S2x512x2048_S1x512x2048_0_0_0 (k0_pay55 (XT h0 tk))
  iexists ((Memref.whole cc0_scratch2).view.writes (Elt F) hs [⟨Rect.unit (s := S2x512x2048) ![0, 0, 0] S1x512x2048.size inb_S2x512x2048_S1x512x2048_0_0_0, k0_pay55 (XT h0 tk)⟩])
  isplitr; · ipureintro; exact hh
  iexact HS

instance : ClosedOff (k0_off37 i) := ⟨![(i 0).val % 2, 0, 0], off37_eq i⟩
instance : ClosedOff (k0_off36 i) := ⟨![((i 0).val + 1) % 2, 0, 0], off36_eq i⟩

set_option maxHeartbeats 4000000 in
/-- Half way through a block the next one's rows have arrived: they are unpacked and narrowed, and the block's own partial sum is added. -/
theorem unpack_next (x0 : BitVec 32) (v0 : Elt F .i32) (h5 : k0_cond5 i v0 = 1#1) (hT : Names T (min ((i 0).val + 1) 71) tk) (d) (K : PUnit.{1} → sProp 𝕄) :
    iprop(tab c T ∗ (∃ f0, batch c h0 tk (nxt i) f0 512 0 ∗ restX c (nxt i) f0 ∗ restH c h0 tk) ∗ (∃ W, owes (c : Thread nD τ) 0 W) ∗ (∃ d, x2At c d) ∗ hsAt c hs ∗ accAt c d
        ∗ owns c a6 fullShare x6 ∗ owns c a7 fullShare x7 ∗ owns c a8 fullShare x8
        ∗ (iprop(tab c T ∗ (∃ f0, xgAt c f0) ∗ hAt c h0 ∗ semVal ((c : Thread nD τ), SemLoc.dma (cellOf (nxt i))) 0 ∗ (∃ W, owes (c : Thread nD τ) 0 W) ∗ (∃ d, x2At c d)
            ∗ (∃ hs', ⌜slotOf hs' (nxt i) = k0_pay55 (XT h0 tk) ∧ slotOf hs' (cur i) = slotOf hs (cur i)⌝ ∗ hsAt c hs') ∗ accAt c (k0_pay58 (k0_pay32 d (slotOf hs (cur i)) x6 x7 x8))
            ∗ owns c a6 fullShare x6 ∗ owns c a7 fullShare x7 ∗ owns c a8 fullShare x8) -∗ K ⟨⟩))
      ⊢ wp frame (wpE (defs₀ (F := F)) Variants.none (c : Thread nD τ) none) Set.univ ((do
    let v65 : BitVec 32 ← k0_part4 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 0).val) v0 h5
    k0_part5 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v65
    k0_part6 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v65
    k0_part7 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v65
    let v195 : FVec F S512x2048 .f32 ← k0_part8 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 0).val) v65
    let v196 : Vec F S512x2048 .f32 ← Prog.lift (.load (Memref.whole cc0_scratch3) (Rect.unit (s := S512x2048) ![0, 0] S512x2048.size inb_S512x2048_S512x2048_0_0).toLoadRect (View.loadsAt_vmem h_S512x2048))
    Prog.lift (.store (Memref.whole cc0_scratch3) (Rect.unit (s := S512x2048) ![0, 0] S512x2048.size inb_S512x2048_S512x2048_0_0) (k0_pay58 v195) Finset.univ (View.stores_vmem_bits_univ h_S512x2048 rfl) (.inl rfl))
    pure ⟨⟩
    ) : Prog (TpuEff nD τ sig (Elt F) Λ₀ .tc) PUnit) K := by
  haveI := Elt.nonempty F
  unfold owns
  iintro ⟨HT, ⟨%f0, HB, HXr, HHr⟩, HO, ⟨%d2, H2⟩, HS, HA, ⟨%f6, %hf6, H6⟩, ⟨%f7, %hf7, H7⟩, ⟨%f8, %hf8, H8⟩, Hk⟩
  obtain rfl := ha6.eq_unread hf6; obtain rfl := ha7.eq_unread hf7; obtain rfl := ha8.eq_unread hf8
  simp only [k0_part4_eq_skeleton]; unfold k0_part4_skel
  rw [bind_assoc]
  sl_for (drainAt c h0 tk (nxt i) f0 T) $$ [HT HB HO]
  · intro k acc; exact drain4_step c i a6 ha6 a7 ha7 a8 ha8 a9 ha9 x0 v0 h5 h0 tk f0 T hT k acc
  · unfold drainAt
    isplitr; · ipureintro; omega
    isplitl [HT]; · iexact HT
    isplitl [HO]; · iexact HO
    rw [Nat.zero_mul]; iexact HB
  iintro %acc2 HI
  rw [show Scf.trips _ _ _ = 512 from trips4]
  unfold drainAt
  icases HI with ⟨-, HT, HO, HB⟩
  imod (gather_done c h0 tk (nxt i) f0) $$ [HB HXr HHr] with ⟨HX, HH, Hc⟩
  · isplitl [HB]; · iexact HB
    isplitl [HXr]; · iexact HXr
    iexact HHr
  unfold unpack_next.sl.prog.cont_1
  simp only [k0_part5_eq_skeleton, k0_part6_eq_skeleton, k0_part7_eq_skeleton, k0_part8_eq_skeleton]; unfold k0_part5_skel k0_part6_skel k0_part7_skel k0_part8_skel
  sl_exec
  sl_step
  unfold unpack_next.sl.HS_1
  have e : unpack_next.sl.v162 i h0 tk this f0 = XT h0 tk := by
    unfold unpack_next.sl.v162
    refine cov_all _ _ _ _ hz2 ?_ (fun y => View.cover_of_tiledL _ ![512, 128] (by sl_kernel_rfl) y)
    unfold unpack_next.sl.H2_16
    intro p hp
    simp only [List.mem_cons, List.not_mem_nil, or_false] at hp
    rcases hp with rfl | rfl | rfl | rfl | rfl | rfl | rfl | rfl | rfl | rfl | rfl | rfl | rfl | rfl | rfl | rfl
    · exact fun x => (unpack_G (landed h0 tk (nxt i) f0) (nxt i) 15 (by omega) (k0_off35 i) (off35_eq i) (k0_off35_inb i) inb_S512x2048_S512x128_0_1920 x).trans (congrFun (XU_landed h0 tk (nxt i) f0) _)
    · exact fun x => (unpack_G (landed h0 tk (nxt i) f0) (nxt i) 14 (by omega) (k0_off34 i) (off34_eq i) (k0_off34_inb i) inb_S512x2048_S512x128_0_1792 x).trans (congrFun (XU_landed h0 tk (nxt i) f0) _)
    · exact fun x => (unpack_G (landed h0 tk (nxt i) f0) (nxt i) 13 (by omega) (k0_off33 i) (off33_eq i) (k0_off33_inb i) inb_S512x2048_S512x128_0_1664 x).trans (congrFun (XU_landed h0 tk (nxt i) f0) _)
    · exact fun x => (unpack_G (landed h0 tk (nxt i) f0) (nxt i) 12 (by omega) (k0_off32 i) (off32_eq i) (k0_off32_inb i) inb_S512x2048_S512x128_0_1536 x).trans (congrFun (XU_landed h0 tk (nxt i) f0) _)
    · exact fun x => (unpack_G (landed h0 tk (nxt i) f0) (nxt i) 11 (by omega) (k0_off31 i) (off31_eq i) (k0_off31_inb i) inb_S512x2048_S512x128_0_1408 x).trans (congrFun (XU_landed h0 tk (nxt i) f0) _)
    · exact fun x => (unpack_G (landed h0 tk (nxt i) f0) (nxt i) 10 (by omega) (k0_off30 i) (off30_eq i) (k0_off30_inb i) inb_S512x2048_S512x128_0_1280 x).trans (congrFun (XU_landed h0 tk (nxt i) f0) _)
    · exact fun x => (unpack_G (landed h0 tk (nxt i) f0) (nxt i) 9 (by omega) (k0_off29 i) (off29_eq i) (k0_off29_inb i) inb_S512x2048_S512x128_0_1152 x).trans (congrFun (XU_landed h0 tk (nxt i) f0) _)
    · exact fun x => (unpack_G (landed h0 tk (nxt i) f0) (nxt i) 8 (by omega) (k0_off28 i) (off28_eq i) (k0_off28_inb i) inb_S512x2048_S512x128_0_1024 x).trans (congrFun (XU_landed h0 tk (nxt i) f0) _)
    · exact fun x => (unpack_G (landed h0 tk (nxt i) f0) (nxt i) 7 (by omega) (k0_off27 i) (off27_eq i) (k0_off27_inb i) inb_S512x2048_S512x128_0_896 x).trans (congrFun (XU_landed h0 tk (nxt i) f0) _)
    · exact fun x => (unpack_G (landed h0 tk (nxt i) f0) (nxt i) 6 (by omega) (k0_off26 i) (off26_eq i) (k0_off26_inb i) inb_S512x2048_S512x128_0_768 x).trans (congrFun (XU_landed h0 tk (nxt i) f0) _)
    · exact fun x => (unpack_G (landed h0 tk (nxt i) f0) (nxt i) 5 (by omega) (k0_off25 i) (off25_eq i) (k0_off25_inb i) inb_S512x2048_S512x128_0_640 x).trans (congrFun (XU_landed h0 tk (nxt i) f0) _)
    · exact fun x => (unpack_G (landed h0 tk (nxt i) f0) (nxt i) 4 (by omega) (k0_off24 i) (off24_eq i) (k0_off24_inb i) inb_S512x2048_S512x128_0_512 x).trans (congrFun (XU_landed h0 tk (nxt i) f0) _)
    · exact fun x => (unpack_G (landed h0 tk (nxt i) f0) (nxt i) 3 (by omega) (k0_off23 i) (off23_eq i) (k0_off23_inb i) inb_S512x2048_S512x128_0_384 x).trans (congrFun (XU_landed h0 tk (nxt i) f0) _)
    · exact fun x => (unpack_G (landed h0 tk (nxt i) f0) (nxt i) 2 (by omega) (k0_off22 i) (off22_eq i) (k0_off22_inb i) inb_S512x2048_S512x128_0_256 x).trans (congrFun (XU_landed h0 tk (nxt i) f0) _)
    · exact fun x => (unpack_G (landed h0 tk (nxt i) f0) (nxt i) 1 (by omega) (k0_off21 i) (off21_eq i) (k0_off21_inb i) inb_S512x2048_S512x128_0_128 x).trans (congrFun (XU_landed h0 tk (nxt i) f0) _)
    · exact fun x => (unpack_G (landed h0 tk (nxt i) f0) (nxt i) 0 (by omega) (k0_off20 i) (off20_eq i) (k0_off20_inb i) inb_S512x2048_S512x128_0_0 x).trans (congrFun (XU_landed h0 tk (nxt i) f0) _)
  have e2 : k0_pay31 (unpack_next.sl.v162 i h0 tk this f0) = k0_pay55 (XT h0 tk) := congrArg k0_pay55 e
  rw [e2]
  have h1 := h_store_same hs (nxt i) (k0_off36 i) (off36_eq i) (k0_off36_inb i) (k0_pay55 (XT h0 tk))
  have h2 := h_store_other hs (nxt i) (cur i) (by show (i 0).val % 2 ≠ ((i 0).val + 1) % 2; omega) (k0_off36 i) (off36_eq i) (k0_off36_inb i) (k0_pay55 (XT h0 tk))
  generalize (Memref.whole cc0_scratch2).view.writes (Elt F) hs [⟨Rect.unit (s := S2x512x2048) (k0_off36 i) S1x512x2048.size (k0_off36_inb i), k0_pay55 (XT h0 tk)⟩] = hs' at h1 h2 ⊢
  rw [acc_store, acc_read, slot_read hs' (cur i) _ (off37_eq i), h2]
  simp only [View.readAt_eq_ld, ha6.read_unread, ha7.read_unread, ha8.read_unread, View.ld_unit_zero (S := S1x2048x512) hz3, View.ld_unit_zero (S := S1x512x2048) hz3]
  iapply Hk
  isplitl [HT]; · iexact HT
  isplitl [HX]; · iexists _; iexact HX
  isplitl [HH]; · iexact HH
  isplitl [Hc]; · iexact Hc
  isplitl [HO]; · iexact HO
  isplitl [H2]; · iexists _; iexact H2
  isplitl [HS]
  · iexists hs'
    isplitr; · ipureintro; exact ⟨h1, h2⟩
    iexact HS
  isplitl [HA]; · iexact HA
  isplitl [H6]
  · iexists _; isplitr; · ipureintro; exact ha6.read_unread _
    iexact H6
  isplitl [H7]
  · iexists _; isplitr; · ipureintro; exact ha7.read_unread _
    iexact H7
  iexists _; isplitr; · ipureintro; exact ha8.read_unread _
  iexact H8
end Body

end Cert.Kernel4Ideal.Hand

end
-- ==== Proof.ExpertCode.lean ====
/-
  The expert call's body as a sequence of its branches, and when each branch is taken.
-/
module

public import proofs.«01_k».proof.Proof.Gen.Kernel4Ideal
public import proofs.«01_k».proof.Proof.Gen.Kernel4Ideal.Launch
public import proofs.«01_k».proof.Proof.Gen.Kernel4Ideal.Loops
public import proofs.«01_k».proof.Proof.Gen.Kernel4Ideal.Skeleton
public import proofs.«01_k».proof.Proof.ExpertBody
public import Idealize.ShloMosaic.Lib.ValueLayout
public import Idealize.ShloMosaic.Lib.Pointwise
public import Idealize.ShloMosaic.Lib.WritesUnit
public import Idealize.ShloMosaic.Lib.Batch
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import Idealize.ShloMosaic.Lib.Quiescent
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
set_option maxHeartbeats 4000000

/-- The words a branch compares. -/
abbrev wi (i : grid0.Coords) : BitVec 32 := BitVec.ofNat 32 (i 0).val
abbrev wj (i : grid0.Coords) : BitVec 32 := BitVec.ofNat 32 (i 1).val
abbrev used1 (i : grid0.Coords) (v0 : BitVec 32) : BitVec 1 := Scalar.cmpi .slt (wi i) v0
abbrev next1 (i : grid0.Coords) (v0 : BitVec 32) : BitVec 1 := Scalar.cmpi .slt (Scalar.addi (wi i) 1#32) v0
abbrev cond3 (i : grid0.Coords) (v0 : BitVec 32) : BitVec 1 := Scalar.cmpi .ne (Scalar.extui (Scalar.andi (used1 i v0) (Scalar.cmpi .eq (wj i) 0#32)) : BitVec 32) 0#32
abbrev cond4 (i : grid0.Coords) (v0 : BitVec 32) : BitVec 1 :=
  Scalar.cmpi .ne (Scalar.extui (Scalar.andi (used1 i v0) (Scalar.andi (Scalar.andi (Scalar.cmpi .sgt (wj i) 0#32) (Scalar.cmpi .slt (wj i) 10#32))
    (Scalar.ori (Scalar.cmpi .ne (wj i) 5#32) (Scalar.xori (next1 i v0) 1#1)))) : BitVec 32) 0#32

section Body
variable (i : grid0.Coords) (a6 : Memref sig .tc .vmem S1x2048x512 .bf16) (ha6 : a6.IsWhole) (a7 : Memref sig .tc .vmem S1x2048x512 .bf16) (ha7 : a7.IsWhole) (a8 : Memref sig .tc .vmem S1x512x2048 .bf16) (ha8 : a8.IsWhole) (a9 : Memref sig .tc .vmem S512x16x128 .f32) (ha9 : a9.IsWhole)

/-- The first block's branch; -/
def br1 : Prog (TpuEff nD τ sig (Elt F) Λ₀ .tc) PUnit := dite (k0_cond1 i = 1#1) (fun h1 => ((do
    k0_part1 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 h1
    k0_part2 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
    k0_part3 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
    let v110 : Vec F S1x512x1x128 .f32 ← Prog.lift (.load (Memref.whole cc0_scratch0) (Rect.unit (s := S2x512x24x128) ![0, 0, 13, 0] S1x512x1x128.size inb_S2x512x24x128_S1x512x1x128_0_0_13_0).toLoadRect (View.loadsAt_vmem h_S1x512x1x128))
    let v112 : Vec F S512x128 .f32 ← Prog.lift (.load (Memref.whole cc0_scratch1) (Rect.unit (s := S512x2048) ![0, 1664] S512x128.size inb_S512x2048_S512x128_0_1664).toLoadRect (View.loadsAt_vmem h_S512x128))
    Prog.lift (.store (Memref.whole cc0_scratch1) (Rect.unit (s := S512x2048) ![0, 1664] S512x128.size inb_S512x2048_S512x128_0_1664) (k0_pay52 v110) Finset.univ (View.stores_vmem_bits_univ h_S512x128 rfl) (.inl rfl))
    let v115 : Vec F S1x512x1x128 .f32 ← Prog.lift (.load (Memref.whole cc0_scratch0) (Rect.unit (s := S2x512x24x128) ![0, 0, 14, 0] S1x512x1x128.size inb_S2x512x24x128_S1x512x1x128_0_0_14_0).toLoadRect (View.loadsAt_vmem h_S1x512x1x128))
    let v117 : Vec F S512x128 .f32 ← Prog.lift (.load (Memref.whole cc0_scratch1) (Rect.unit (s := S512x2048) ![0, 1792] S512x128.size inb_S512x2048_S512x128_0_1792).toLoadRect (View.loadsAt_vmem h_S512x128))
    Prog.lift (.store (Memref.whole cc0_scratch1) (Rect.unit (s := S512x2048) ![0, 1792] S512x128.size inb_S512x2048_S512x128_0_1792) (k0_pay53 v115) Finset.univ (View.stores_vmem_bits_univ h_S512x128 rfl) (.inl rfl))
    let v120 : Vec F S1x512x1x128 .f32 ← Prog.lift (.load (Memref.whole cc0_scratch0) (Rect.unit (s := S2x512x24x128) ![0, 0, 15, 0] S1x512x1x128.size inb_S2x512x24x128_S1x512x1x128_0_0_15_0).toLoadRect (View.loadsAt_vmem h_S1x512x1x128))
    let v122 : Vec F S512x128 .f32 ← Prog.lift (.load (Memref.whole cc0_scratch1) (Rect.unit (s := S512x2048) ![0, 1920] S512x128.size inb_S512x2048_S512x128_0_1920).toLoadRect (View.loadsAt_vmem h_S512x128))
    Prog.lift (.store (Memref.whole cc0_scratch1) (Rect.unit (s := S512x2048) ![0, 1920] S512x128.size inb_S512x2048_S512x128_0_1920) (k0_pay54 v120) Finset.univ (View.stores_vmem_bits_univ h_S512x128 rfl) (.inl rfl))
    let v125 : Vec F S512x2048 .f32 ← Prog.lift (.load (Memref.whole cc0_scratch1) (Rect.unit (s := S512x2048) ![0, 0] S512x2048.size inb_S512x2048_S512x2048_0_0).toLoadRect (View.loadsAt_vmem h_S512x2048))
    let v127 : Vec F S1x512x2048 .bf16 ← Prog.lift (.load (Memref.whole cc0_scratch2) (Rect.unit (s := S2x512x2048) ![0, 0, 0] S1x512x2048.size inb_S2x512x2048_S1x512x2048_0_0_0).toLoadRect (View.loadsAt_vmem h_S1x512x2048))
    Prog.lift (.store (Memref.whole cc0_scratch2) (Rect.unit (s := S2x512x2048) ![0, 0, 0] S1x512x2048.size inb_S2x512x2048_S1x512x2048_0_0_0) (k0_pay55 v125) Finset.univ (View.stores_vmem h_S1x512x2048 ((Memref.isWhole_whole cc0_scratch2).storeExact_slice rfl _ packedbf16_S2x512x2048_S1x512x2048_0_0_0) (fun _ => rfl)) (.inl rfl))
    pure ⟨⟩
    ) : Prog (TpuEff nD τ sig (Elt F) Λ₀ .tc) PUnit)) (fun _ => pure ⟨⟩)
/-- the next block's start; -/
def br2 (v0 : Elt F .i32) : Prog (TpuEff nD τ sig (Elt F) Λ₀ .tc) PUnit := dite (k0_cond2 i v0 = 1#1) (fun h2 => ((do
    Scf.Loop.for k0_t3_loop k0_t3_ok ⟨⟩ (k0_t3_body i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 h2)
    pure ⟨⟩
    ) : Prog (TpuEff nD τ sig (Elt F) Λ₀ .tc) PUnit)) (fun _ => pure ⟨⟩)
/-- the first partial sum; -/
def br3 (v0 : Elt F .i32) : Prog (TpuEff nD τ sig (Elt F) Λ₀ .tc) PUnit := ite (cond3 i v0 = 1#1) ((do
    let v52 : Vec F S1x512x2048 .bf16 ← Prog.lift (.load (Memref.whole cc0_scratch2) (Rect.unit (s := S2x512x2048) (k0_off13 i) S1x512x2048.size (k0_off13_inb i)).toLoadRect (View.loadsAt_vmem h_S1x512x2048))
    let v54 : Vec F S1x2048x512 .bf16 ← Prog.lift (.load a6 (Rect.unit (s := S1x2048x512) ![0, 0, 0] S1x2048x512.size inb_S1x2048x512_S1x2048x512_0_0_0).toLoadRect (View.loadsAt_vmem h_S1x2048x512))
    let v57 : Vec F S1x2048x512 .bf16 ← Prog.lift (.load a7 (Rect.unit (s := S1x2048x512) ![0, 0, 0] S1x2048x512.size inb_S1x2048x512_S1x2048x512_0_0_0).toLoadRect (View.loadsAt_vmem h_S1x2048x512))
    let v64 : Vec F S1x512x2048 .bf16 ← Prog.lift (.load a8 (Rect.unit (s := S1x512x2048) ![0, 0, 0] S1x512x2048.size inb_S1x512x2048_S1x512x2048_0_0_0).toLoadRect (View.loadsAt_vmem h_S1x512x2048))
    let v67 : Vec F S512x2048 .f32 ← Prog.lift (.load (Memref.whole cc0_scratch3) (Rect.unit (s := S512x2048) ![0, 0] S512x2048.size inb_S512x2048_S512x2048_0_0).toLoadRect (View.loadsAt_vmem h_S512x2048))
    Prog.lift (.store (Memref.whole cc0_scratch3) (Rect.unit (s := S512x2048) ![0, 0] S512x2048.size inb_S512x2048_S512x2048_0_0) (k0_pay56 v52 v54 v57 v64) Finset.univ (View.stores_vmem_bits_univ h_S512x2048 rfl) (.inl rfl))
    pure ⟨⟩
    ) : Prog (TpuEff nD τ sig (Elt F) Λ₀ .tc) PUnit) (pure ⟨⟩)
/-- a later one; -/
def br4 (v0 : Elt F .i32) : Prog (TpuEff nD τ sig (Elt F) Λ₀ .tc) PUnit := ite (cond4 i v0 = 1#1) ((do
    let v41 : Vec F S512x2048 .f32 ← Prog.lift (.load (Memref.whole cc0_scratch3) (Rect.unit (s := S512x2048) ![0, 0] S512x2048.size inb_S512x2048_S512x2048_0_0).toLoadRect (View.loadsAt_vmem h_S512x2048))
    let v53 : Vec F S1x512x2048 .bf16 ← Prog.lift (.load (Memref.whole cc0_scratch2) (Rect.unit (s := S2x512x2048) (k0_off14 i) S1x512x2048.size (k0_off14_inb i)).toLoadRect (View.loadsAt_vmem h_S1x512x2048))
    let v55 : Vec F S1x2048x512 .bf16 ← Prog.lift (.load a6 (Rect.unit (s := S1x2048x512) ![0, 0, 0] S1x2048x512.size inb_S1x2048x512_S1x2048x512_0_0_0).toLoadRect (View.loadsAt_vmem h_S1x2048x512))
    let v58 : Vec F S1x2048x512 .bf16 ← Prog.lift (.load a7 (Rect.unit (s := S1x2048x512) ![0, 0, 0] S1x2048x512.size inb_S1x2048x512_S1x2048x512_0_0_0).toLoadRect (View.loadsAt_vmem h_S1x2048x512))
    let v65 : Vec F S1x512x2048 .bf16 ← Prog.lift (.load a8 (Rect.unit (s := S1x512x2048) ![0, 0, 0] S1x512x2048.size inb_S1x512x2048_S1x512x2048_0_0_0).toLoadRect (View.loadsAt_vmem h_S1x512x2048))
    let v69 : Vec F S512x2048 .f32 ← Prog.lift (.load (Memref.whole cc0_scratch3) (Rect.unit (s := S512x2048) ![0, 0] S512x2048.size inb_S512x2048_S512x2048_0_0).toLoadRect (View.loadsAt_vmem h_S512x2048))
    Prog.lift (.store (Memref.whole cc0_scratch3) (Rect.unit (s := S512x2048) ![0, 0] S512x2048.size inb_S512x2048_S512x2048_0_0) (k0_pay57 v41 v53 v55 v58 v65) Finset.univ (View.stores_vmem_bits_univ h_S512x2048 rfl) (.inl rfl))
    pure ⟨⟩
    ) : Prog (TpuEff nD τ sig (Elt F) Λ₀ .tc) PUnit) (pure ⟨⟩)
/-- the one at which the next block's rows are unpacked; -/
def br5 (v0 : Elt F .i32) : Prog (TpuEff nD τ sig (Elt F) Λ₀ .tc) PUnit := dite (k0_cond5 i v0 = 1#1) (fun h5 => ((do
    let v65 : BitVec 32 ← k0_part4 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 0).val) v0 h5
    k0_part5 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v65
    k0_part6 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v65
    k0_part7 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v65
    let v195 : FVec F S512x2048 .f32 ← k0_part8 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 0).val) v65
    let v196 : Vec F S512x2048 .f32 ← Prog.lift (.load (Memref.whole cc0_scratch3) (Rect.unit (s := S512x2048) ![0, 0] S512x2048.size inb_S512x2048_S512x2048_0_0).toLoadRect (View.loadsAt_vmem h_S512x2048))
    Prog.lift (.store (Memref.whole cc0_scratch3) (Rect.unit (s := S512x2048) ![0, 0] S512x2048.size inb_S512x2048_S512x2048_0_0) (k0_pay58 v195) Finset.univ (View.stores_vmem_bits_univ h_S512x2048 rfl) (.inl rfl))
    pure ⟨⟩
    ) : Prog (TpuEff nD τ sig (Elt F) Λ₀ .tc) PUnit)) (fun _ => pure ⟨⟩)
/-- a used block's output; -/
def br6 (v0 : Elt F .i32) : Prog (TpuEff nD τ sig (Elt F) Λ₀ .tc) PUnit := dite (k0_cond6 i v0 = 1#1) (fun _ => (k0_part11 (F := F) i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 0).val)) >>= fun _ => pure ⟨⟩) (fun _ => pure ⟨⟩)
/-- an unused block's. -/
def br7 (v0 : Elt F .i32) : Prog (TpuEff nD τ sig (Elt F) Λ₀ .tc) PUnit := dite (k0_cond7 i v0 = 1#1) (fun _ => ((do
    let v42 : Vec F S512x16x128 .f32 ← Prog.lift (.load a9 (Rect.unit (s := S512x16x128) ![0, 0, 0] S512x16x128.size inb_S512x16x128_S512x16x128_0_0_0).toLoadRect (View.loadsAt_vmem h_S512x16x128))
    Prog.lift (.store a9 (Rect.unit (s := S512x16x128) ![0, 0, 0] S512x16x128.size inb_S512x16x128_S512x16x128_0_0_0) (k0_pay1 (F := F)) Finset.univ (View.stores_vmem_bits_univ h_S512x16x128 rfl) (.inl rfl))
    pure ⟨⟩) : Prog (TpuEff nD τ sig (Elt F) Λ₀ .tc) PUnit)) (fun _ => pure ⟨⟩)

variable {α : Type}

/-- Branch 1 and what follows it. -/
def go1 (jp : PUnit.{1} → Prog (TpuEff nD τ sig (Elt F) Λ₀ .tc) α) : Prog (TpuEff nD τ sig (Elt F) Λ₀ .tc) α := dite (k0_cond1 i = 1#1) (fun h1 => ((do
    k0_part1 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 h1
    k0_part2 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
    k0_part3 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
    let v110 : Vec F S1x512x1x128 .f32 ← Prog.lift (.load (Memref.whole cc0_scratch0) (Rect.unit (s := S2x512x24x128) ![0, 0, 13, 0] S1x512x1x128.size inb_S2x512x24x128_S1x512x1x128_0_0_13_0).toLoadRect (View.loadsAt_vmem h_S1x512x1x128))
    let v112 : Vec F S512x128 .f32 ← Prog.lift (.load (Memref.whole cc0_scratch1) (Rect.unit (s := S512x2048) ![0, 1664] S512x128.size inb_S512x2048_S512x128_0_1664).toLoadRect (View.loadsAt_vmem h_S512x128))
    Prog.lift (.store (Memref.whole cc0_scratch1) (Rect.unit (s := S512x2048) ![0, 1664] S512x128.size inb_S512x2048_S512x128_0_1664) (k0_pay52 v110) Finset.univ (View.stores_vmem_bits_univ h_S512x128 rfl) (.inl rfl))
    let v115 : Vec F S1x512x1x128 .f32 ← Prog.lift (.load (Memref.whole cc0_scratch0) (Rect.unit (s := S2x512x24x128) ![0, 0, 14, 0] S1x512x1x128.size inb_S2x512x24x128_S1x512x1x128_0_0_14_0).toLoadRect (View.loadsAt_vmem h_S1x512x1x128))
    let v117 : Vec F S512x128 .f32 ← Prog.lift (.load (Memref.whole cc0_scratch1) (Rect.unit (s := S512x2048) ![0, 1792] S512x128.size inb_S512x2048_S512x128_0_1792).toLoadRect (View.loadsAt_vmem h_S512x128))
    Prog.lift (.store (Memref.whole cc0_scratch1) (Rect.unit (s := S512x2048) ![0, 1792] S512x128.size inb_S512x2048_S512x128_0_1792) (k0_pay53 v115) Finset.univ (View.stores_vmem_bits_univ h_S512x128 rfl) (.inl rfl))
    let v120 : Vec F S1x512x1x128 .f32 ← Prog.lift (.load (Memref.whole cc0_scratch0) (Rect.unit (s := S2x512x24x128) ![0, 0, 15, 0] S1x512x1x128.size inb_S2x512x24x128_S1x512x1x128_0_0_15_0).toLoadRect (View.loadsAt_vmem h_S1x512x1x128))
    let v122 : Vec F S512x128 .f32 ← Prog.lift (.load (Memref.whole cc0_scratch1) (Rect.unit (s := S512x2048) ![0, 1920] S512x128.size inb_S512x2048_S512x128_0_1920).toLoadRect (View.loadsAt_vmem h_S512x128))
    Prog.lift (.store (Memref.whole cc0_scratch1) (Rect.unit (s := S512x2048) ![0, 1920] S512x128.size inb_S512x2048_S512x128_0_1920) (k0_pay54 v120) Finset.univ (View.stores_vmem_bits_univ h_S512x128 rfl) (.inl rfl))
    let v125 : Vec F S512x2048 .f32 ← Prog.lift (.load (Memref.whole cc0_scratch1) (Rect.unit (s := S512x2048) ![0, 0] S512x2048.size inb_S512x2048_S512x2048_0_0).toLoadRect (View.loadsAt_vmem h_S512x2048))
    let v127 : Vec F S1x512x2048 .bf16 ← Prog.lift (.load (Memref.whole cc0_scratch2) (Rect.unit (s := S2x512x2048) ![0, 0, 0] S1x512x2048.size inb_S2x512x2048_S1x512x2048_0_0_0).toLoadRect (View.loadsAt_vmem h_S1x512x2048))
    Prog.lift (.store (Memref.whole cc0_scratch2) (Rect.unit (s := S2x512x2048) ![0, 0, 0] S1x512x2048.size inb_S2x512x2048_S1x512x2048_0_0_0) (k0_pay55 v125) Finset.univ (View.stores_vmem h_S1x512x2048 ((Memref.isWhole_whole cc0_scratch2).storeExact_slice rfl _ packedbf16_S2x512x2048_S1x512x2048_0_0_0) (fun _ => rfl)) (.inl rfl))
    jp ⟨⟩
    ) : Prog (TpuEff nD τ sig (Elt F) Λ₀ .tc) α)) (fun _ => jp ⟨⟩)

theorem go1_eq (jp : PUnit.{1} → Prog (TpuEff nD τ sig (Elt F) Λ₀ .tc) α) : go1 i a6 ha6 a7 ha7 a8 ha8 a9 ha9 jp = br1 i a6 ha6 a7 ha7 a8 ha8 a9 ha9 >>= jp := by
  unfold go1 br1
  split <;> simp only [bind_assoc, pure_bind]

/-- Branch 2 and what follows it. -/
def go2 (v0 : Elt F .i32) (jp : PUnit.{1} → Prog (TpuEff nD τ sig (Elt F) Λ₀ .tc) α) : Prog (TpuEff nD τ sig (Elt F) Λ₀ .tc) α := dite (k0_cond2 i v0 = 1#1) (fun h2 => ((do
    Scf.Loop.for k0_t3_loop k0_t3_ok ⟨⟩ (k0_t3_body i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 h2)
    jp ⟨⟩
    ) : Prog (TpuEff nD τ sig (Elt F) Λ₀ .tc) α)) (fun _ => jp ⟨⟩)

theorem go2_eq (v0 : Elt F .i32) (jp : PUnit.{1} → Prog (TpuEff nD τ sig (Elt F) Λ₀ .tc) α) : go2 i a6 ha6 a7 ha7 a8 ha8 a9 ha9 v0 jp = br2 i a6 ha6 a7 ha7 a8 ha8 a9 ha9 v0 >>= jp := by
  unfold go2 br2
  split <;> simp only [bind_assoc, pure_bind]

/-- Branch 3 and what follows it. -/
def go3 (v0 : Elt F .i32) (jp : PUnit.{1} → Prog (TpuEff nD τ sig (Elt F) Λ₀ .tc) α) : Prog (TpuEff nD τ sig (Elt F) Λ₀ .tc) α := ite (cond3 i v0 = 1#1) ((do
    let v52 : Vec F S1x512x2048 .bf16 ← Prog.lift (.load (Memref.whole cc0_scratch2) (Rect.unit (s := S2x512x2048) (k0_off13 i) S1x512x2048.size (k0_off13_inb i)).toLoadRect (View.loadsAt_vmem h_S1x512x2048))
    let v54 : Vec F S1x2048x512 .bf16 ← Prog.lift (.load a6 (Rect.unit (s := S1x2048x512) ![0, 0, 0] S1x2048x512.size inb_S1x2048x512_S1x2048x512_0_0_0).toLoadRect (View.loadsAt_vmem h_S1x2048x512))
    let v57 : Vec F S1x2048x512 .bf16 ← Prog.lift (.load a7 (Rect.unit (s := S1x2048x512) ![0, 0, 0] S1x2048x512.size inb_S1x2048x512_S1x2048x512_0_0_0).toLoadRect (View.loadsAt_vmem h_S1x2048x512))
    let v64 : Vec F S1x512x2048 .bf16 ← Prog.lift (.load a8 (Rect.unit (s := S1x512x2048) ![0, 0, 0] S1x512x2048.size inb_S1x512x2048_S1x512x2048_0_0_0).toLoadRect (View.loadsAt_vmem h_S1x512x2048))
    let v67 : Vec F S512x2048 .f32 ← Prog.lift (.load (Memref.whole cc0_scratch3) (Rect.unit (s := S512x2048) ![0, 0] S512x2048.size inb_S512x2048_S512x2048_0_0).toLoadRect (View.loadsAt_vmem h_S512x2048))
    Prog.lift (.store (Memref.whole cc0_scratch3) (Rect.unit (s := S512x2048) ![0, 0] S512x2048.size inb_S512x2048_S512x2048_0_0) (k0_pay56 v52 v54 v57 v64) Finset.univ (View.stores_vmem_bits_univ h_S512x2048 rfl) (.inl rfl))
    jp ⟨⟩
    ) : Prog (TpuEff nD τ sig (Elt F) Λ₀ .tc) α) (jp ⟨⟩)

theorem go3_eq (v0 : Elt F .i32) (jp : PUnit.{1} → Prog (TpuEff nD τ sig (Elt F) Λ₀ .tc) α) : go3 i a6 a7 a8 v0 jp = br3 i a6 a7 a8 v0 >>= jp := by
  unfold go3 br3
  split <;> simp only [bind_assoc, pure_bind]

/-- Branch 4 and what follows it. -/
def go4 (v0 : Elt F .i32) (jp : PUnit.{1} → Prog (TpuEff nD τ sig (Elt F) Λ₀ .tc) α) : Prog (TpuEff nD τ sig (Elt F) Λ₀ .tc) α := ite (cond4 i v0 = 1#1) ((do
    let v41 : Vec F S512x2048 .f32 ← Prog.lift (.load (Memref.whole cc0_scratch3) (Rect.unit (s := S512x2048) ![0, 0] S512x2048.size inb_S512x2048_S512x2048_0_0).toLoadRect (View.loadsAt_vmem h_S512x2048))
    let v53 : Vec F S1x512x2048 .bf16 ← Prog.lift (.load (Memref.whole cc0_scratch2) (Rect.unit (s := S2x512x2048) (k0_off14 i) S1x512x2048.size (k0_off14_inb i)).toLoadRect (View.loadsAt_vmem h_S1x512x2048))
    let v55 : Vec F S1x2048x512 .bf16 ← Prog.lift (.load a6 (Rect.unit (s := S1x2048x512) ![0, 0, 0] S1x2048x512.size inb_S1x2048x512_S1x2048x512_0_0_0).toLoadRect (View.loadsAt_vmem h_S1x2048x512))
    let v58 : Vec F S1x2048x512 .bf16 ← Prog.lift (.load a7 (Rect.unit (s := S1x2048x512) ![0, 0, 0] S1x2048x512.size inb_S1x2048x512_S1x2048x512_0_0_0).toLoadRect (View.loadsAt_vmem h_S1x2048x512))
    let v65 : Vec F S1x512x2048 .bf16 ← Prog.lift (.load a8 (Rect.unit (s := S1x512x2048) ![0, 0, 0] S1x512x2048.size inb_S1x512x2048_S1x512x2048_0_0_0).toLoadRect (View.loadsAt_vmem h_S1x512x2048))
    let v69 : Vec F S512x2048 .f32 ← Prog.lift (.load (Memref.whole cc0_scratch3) (Rect.unit (s := S512x2048) ![0, 0] S512x2048.size inb_S512x2048_S512x2048_0_0).toLoadRect (View.loadsAt_vmem h_S512x2048))
    Prog.lift (.store (Memref.whole cc0_scratch3) (Rect.unit (s := S512x2048) ![0, 0] S512x2048.size inb_S512x2048_S512x2048_0_0) (k0_pay57 v41 v53 v55 v58 v65) Finset.univ (View.stores_vmem_bits_univ h_S512x2048 rfl) (.inl rfl))
    jp ⟨⟩
    ) : Prog (TpuEff nD τ sig (Elt F) Λ₀ .tc) α) (jp ⟨⟩)

theorem go4_eq (v0 : Elt F .i32) (jp : PUnit.{1} → Prog (TpuEff nD τ sig (Elt F) Λ₀ .tc) α) : go4 i a6 a7 a8 v0 jp = br4 i a6 a7 a8 v0 >>= jp := by
  unfold go4 br4
  split <;> simp only [bind_assoc, pure_bind]

/-- Branch 5 and what follows it. -/
def go5 (v0 : Elt F .i32) (jp : PUnit.{1} → Prog (TpuEff nD τ sig (Elt F) Λ₀ .tc) α) : Prog (TpuEff nD τ sig (Elt F) Λ₀ .tc) α := dite (k0_cond5 i v0 = 1#1) (fun h5 => ((do
    let v65 : BitVec 32 ← k0_part4 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 0).val) v0 h5
    k0_part5 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v65
    k0_part6 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v65
    k0_part7 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v65
    let v195 : FVec F S512x2048 .f32 ← k0_part8 i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 0).val) v65
    let v196 : Vec F S512x2048 .f32 ← Prog.lift (.load (Memref.whole cc0_scratch3) (Rect.unit (s := S512x2048) ![0, 0] S512x2048.size inb_S512x2048_S512x2048_0_0).toLoadRect (View.loadsAt_vmem h_S512x2048))
    Prog.lift (.store (Memref.whole cc0_scratch3) (Rect.unit (s := S512x2048) ![0, 0] S512x2048.size inb_S512x2048_S512x2048_0_0) (k0_pay58 v195) Finset.univ (View.stores_vmem_bits_univ h_S512x2048 rfl) (.inl rfl))
    jp ⟨⟩
    ) : Prog (TpuEff nD τ sig (Elt F) Λ₀ .tc) α)) (fun _ => jp ⟨⟩)

theorem go5_eq (v0 : Elt F .i32) (jp : PUnit.{1} → Prog (TpuEff nD τ sig (Elt F) Λ₀ .tc) α) : go5 i a6 ha6 a7 ha7 a8 ha8 a9 ha9 v0 jp = br5 i a6 ha6 a7 ha7 a8 ha8 a9 ha9 v0 >>= jp := by
  unfold go5 br5
  split <;> simp only [bind_assoc, pure_bind]

theorem part12_go : k0_part12_skel (F := F) i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 =
    (smemLoad (Memref.whole main_arg3) (Rect.unit (s := S1) ![0] S1.size inb_S1_S1_0) numel1_S1 rfl >>= fun v0 : Elt F .i32 =>
      go1 i a6 ha6 a7 ha7 a8 ha8 a9 ha9 fun _ => go2 i a6 ha6 a7 ha7 a8 ha8 a9 ha9 v0 fun _ => go3 i a6 a7 a8 v0 fun _ => go4 i a6 a7 a8 v0 fun _ => go5 i a6 ha6 a7 ha7 a8 ha8 a9 ha9 v0 fun _ =>
        pure ⟨wi i, wj i, v0, used1 i v0, Scalar.extui (Scalar.andi (used1 i v0) (Scalar.cmpi .eq (wj i) 10#32)), 0#32⟩) := by
  unfold k0_part12_skel
  rfl

/-- The body is its seven branches, one after the other. -/
theorem body_eq : (cc0_expert_swiglu (F := F) i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) =
    (smemLoad (Memref.whole main_arg3) (Rect.unit (s := S1) ![0] S1.size inb_S1_S1_0) numel1_S1 rfl >>= fun v0 : Elt F .i32 =>
      br1 i a6 ha6 a7 ha7 a8 ha8 a9 ha9 >>= fun _ => br2 i a6 ha6 a7 ha7 a8 ha8 a9 ha9 v0 >>= fun _ => br3 i a6 a7 a8 v0 >>= fun _ => br4 i a6 a7 a8 v0 >>= fun _ =>
      br5 i a6 ha6 a7 ha7 a8 ha8 a9 ha9 v0 >>= fun _ => br6 i a6 ha6 a7 ha7 a8 ha8 a9 ha9 v0 >>= fun _ => br7 i a9 v0) := by
  simp only [cc0_expert_swiglu_eq_skeleton]; unfold cc0_expert_swiglu_skel
  simp only [k0_part12_eq_skeleton]; rw [part12_go]
  simp only [go1_eq, go2_eq, go3_eq, go4_eq, go5_eq, bind_assoc, pure_bind]
  refine congrArg _ (funext fun v0 => congrArg _ (funext fun _ => congrArg _ (funext fun _ => congrArg _ (funext fun _ => congrArg _ (funext fun _ => congrArg _ (funext fun _ => ?_))))))
  unfold br6
  by_cases h6 : k0_cond6 i v0 = 1#1
  · rw [dif_pos h6, dif_pos h6]; simp only [bind_assoc, pure_bind]; rfl
  · rw [dif_neg h6, dif_neg h6, pure_bind]; rfl
end Body

/-! ## When each branch is taken -/

section Words
variable (i : grid0.Coords) (v0 : BitVec 32)

/-- Block `b` is used: there are more than `b` of them. -/
def Used (v0 : BitVec 32) (b : ℕ) : Prop := (b : ℤ) < v0.toInt

theorem and_one : ∀ a b : BitVec 1, Scalar.andi a b = 1#1 ↔ a = 1#1 ∧ b = 1#1 := by decide
theorem or_one : ∀ a b : BitVec 1, Scalar.ori a b = 1#1 ↔ a = 1#1 ∨ b = 1#1 := by decide
theorem not_one : ∀ a : BitVec 1, Scalar.xori a 1#1 = 1#1 ↔ ¬a = 1#1 := by decide
theorem ext_one : ∀ a : BitVec 1, Scalar.cmpi .ne (Scalar.extui a : BitVec 32) 0#32 = 1#1 ↔ a = 1#1 := by decide
theorem i0_lt : (i 0).val < 72 := (i 0).isLt
theorem i1_lt : (i 1).val < 11 := (i 1).isLt
theorem slt_word (x : ℕ) (hx : x < 1000) : Scalar.cmpi .slt (BitVec.ofNat 32 x) v0 = 1#1 ↔ Used v0 x := by
  have e : (BitVec.ofNat 32 x).toInt = (x : ℤ) := by
    have hn : (BitVec.ofNat 32 x).toNat = x := by rw [BitVec.toNat_ofNat]; exact Nat.mod_eq_of_lt (by omega)
    rw [BitVec.toInt_eq_toNat_of_lt (by rw [hn]; omega), hn]
  show BitVec.ofBool ((BitVec.ofNat 32 x).slt v0) = 1#1 ↔ _
  rw [BitVec.slt, e]
  unfold Used
  by_cases h : (x : ℤ) < v0.toInt <;> simp [h]
theorem used_iff : Scalar.cmpi .slt (BitVec.ofNat 32 (i 0).val) v0 = 1#1 ↔ Used v0 (i 0).val := slt_word v0 _ (by have := i0_lt i; omega)
theorem next_iff : Scalar.cmpi .slt (Scalar.addi (BitVec.ofNat 32 (i 0).val) 1#32) v0 = 1#1 ↔ Used v0 ((i 0).val + 1) := by
  rw [show Scalar.addi (BitVec.ofNat 32 (i 0).val) 1#32 = BitVec.ofNat 32 ((i 0).val + 1) from (BitVec.ofNat_add ..).symm]
  exact slt_word v0 _ (by have := i0_lt i; omega)
theorem j_cmp : ∀ j : Fin 11, (Scalar.cmpi .eq (BitVec.ofNat 32 j.val) 0#32 = 1#1 ↔ j.val = 0) ∧ (Scalar.cmpi .eq (BitVec.ofNat 32 j.val) 5#32 = 1#1 ↔ j.val = 5)
    ∧ (Scalar.cmpi .eq (BitVec.ofNat 32 j.val) 10#32 = 1#1 ↔ j.val = 10) ∧ (Scalar.cmpi .ne (BitVec.ofNat 32 j.val) 5#32 = 1#1 ↔ ¬j.val = 5)
    ∧ (Scalar.cmpi .sgt (BitVec.ofNat 32 j.val) 0#32 = 1#1 ↔ 0 < j.val) ∧ (Scalar.cmpi .slt (BitVec.ofNat 32 j.val) 10#32 = 1#1 ↔ j.val < 10) := by decide
theorem i_cmp : ∀ b : Fin 72, Scalar.cmpi .eq (BitVec.ofNat 32 b.val) 0#32 = 1#1 ↔ b.val = 0 := by decide

theorem cond1_iff : k0_cond1 i = 1#1 ↔ (i 0).val = 0 ∧ (i 1).val = 0 := by
  unfold k0_cond1; dsimp only
  rw [ext_one, and_one, (j_cmp (i 1)).1, i_cmp (i 0)]
theorem cond2_iff : k0_cond2 i v0 = 1#1 ↔ (i 1).val = 0 ∧ Used v0 ((i 0).val + 1) := by
  unfold k0_cond2; dsimp only
  rw [ext_one, and_one, (j_cmp (i 1)).1, next_iff]
theorem cond3_iff : cond3 i v0 = 1#1 ↔ Used v0 (i 0).val ∧ (i 1).val = 0 := by
  unfold cond3 used1 wi wj
  rw [ext_one, and_one, (j_cmp (i 1)).1, used_iff]
theorem cond4_iff : cond4 i v0 = 1#1 ↔ Used v0 (i 0).val ∧ (0 < (i 1).val ∧ (i 1).val < 10) ∧ (¬(i 1).val = 5 ∨ ¬Used v0 ((i 0).val + 1)) := by
  unfold cond4 used1 next1 wi wj
  rw [ext_one, and_one, and_one, and_one, or_one, not_one, used_iff, next_iff, (j_cmp (i 1)).2.2.2.1, (j_cmp (i 1)).2.2.2.2.1, (j_cmp (i 1)).2.2.2.2.2]
theorem cond5_iff : k0_cond5 i v0 = 1#1 ↔ (Used v0 (i 0).val ∧ Used v0 ((i 0).val + 1)) ∧ (i 1).val = 5 := by
  unfold k0_cond5; dsimp only
  rw [ext_one, and_one, and_one, used_iff, next_iff, (j_cmp (i 1)).2.1]
theorem cond6_iff : k0_cond6 i v0 = 1#1 ↔ Used v0 (i 0).val ∧ (i 1).val = 10 := by
  unfold k0_cond6; dsimp only
  rw [ext_one, and_one, used_iff, (j_cmp (i 1)).2.2.1]
theorem cond7_iff : k0_cond7 i v0 = 1#1 ↔ ¬Used v0 (i 0).val ∧ (i 1).val = 10 := by
  unfold k0_cond7; dsimp only
  rw [ext_one, and_one, not_one, used_iff, (j_cmp (i 1)).2.2.1]

end Words

end Cert.Kernel4Ideal.Hand

end
-- ==== Proof.ExpertSteps.lean ====
/-
  One grid point of the expert call: what is held before it and after it, branch by branch, with the next block's rows in flight
  between the first point of a block and its middle.
-/
module

public import proofs.«01_k».proof.Proof.Gen.Kernel4Ideal
public import proofs.«01_k».proof.Proof.Gen.Kernel4Ideal.Launch
public import proofs.«01_k».proof.Proof.Gen.Kernel4Ideal.Loops
public import proofs.«01_k».proof.Proof.Gen.Kernel4Ideal.Skeleton
public import proofs.«01_k».proof.Proof.ExpertCode
public import Idealize.ShloMosaic.Lib.ValueLayout
public import Idealize.ShloMosaic.Lib.Pointwise
public import Idealize.ShloMosaic.Lib.WritesUnit
public import Idealize.ShloMosaic.Lib.Batch
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import Idealize.ShloMosaic.Lib.Quiescent
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
/-! ## The resources at a point -/

/-- The slot of a block. -/
abbrev sl (b : ℕ) : Fin 2 := ⟨b % 2, Nat.mod_lt _ (by omega)⟩

section State
variable (c : Dev nD) (h0 : S16384x16x128.Idx → Elt F .f32) (T : S36864.Idx → Elt F .i32) (TK : ℕ → Fin 512 → Fin 16384) (v0 : BitVec 32)

/-- A block's narrowed rows. -/
def Hb (b : ℕ) : Vec F S1x512x2048 .bf16 := k0_pay55 (XT h0 (TK b))

abbrev ow : sProp 𝕄 := iprop(∃ W, owes (c : Thread nD τ) 0 W)
abbrev sem (s : Fin 2) : sProp 𝕄 := semVal ((c : Thread nD τ), SemLoc.dma (cellOf s)) 0

/-- No gather in flight; -/
def Idle : sProp 𝕄 := iprop((∃ f0, xgAt c f0) ∗ hAt c h0 ∗ sem c 0 ∗ sem c 1)
/-- the next block's in flight. -/
def Fly (b : ℕ) : sProp 𝕄 := iprop((∃ f0, batch c h0 (TK (b + 1)) (sl (b + 1)) f0 512 0 ∗ restX c (sl (b + 1)) f0 ∗ restH c h0 (TK (b + 1))) ∗ sem c (sl b))
open Classical in
def DM (b : ℕ) (p : Prop) : sProp 𝕄 := if p then Fly c h0 TK b else Idle c h0

/-- The narrowed rows at contents with a property; -/
def HS (p : (S2x512x2048.Idx → Elt F .bf16) → Prop) : sProp 𝕄 := iprop(∃ hs, ⌜p hs⌝ ∗ hsAt c hs)
/-- the accumulator likewise. -/
def AC (p : (S512x2048.Idx → Elt F .f32) → Prop) : sProp 𝕄 := iprop(∃ d, ⌜p d⌝ ∗ accAt c d)

theorem HS_mono {p q : (S2x512x2048.Idx → Elt F .bf16) → Prop} (h : ∀ x, p x → q x) : HS c p ⊢ HS c q := by
  unfold HS
  iintro ⟨%hs, %hp, H⟩
  iexists hs; isplitr; · ipureintro; exact h hs hp
  iexact H
theorem AC_mono {p q : (S512x2048.Idx → Elt F .f32) → Prop} (h : ∀ x, p x → q x) : AC c p ⊢ AC c q := by
  unfold AC
  iintro ⟨%hs, %hp, H⟩
  iexists hs; isplitr; · ipureintro; exact h hs hp
  iexact H
theorem DM_iff (b : ℕ) {p q : Prop} (h : p ↔ q) : DM c h0 TK b p = DM c h0 TK b q := by rw [propext h]
theorem DM_pos (b : ℕ) {p : Prop} (h : p) : DM c h0 TK b p = Fly c h0 TK b := if_pos h
theorem DM_neg (b : ℕ) {p : Prop} (h : ¬p) : DM c h0 TK b p = Idle c h0 := if_neg h

theorem sems (b : ℕ) : (iprop(sem c 0 ∗ sem c 1) : sProp 𝕄) ⊣⊢ iprop(sem c (sl b) ∗ sem c (sl (b + 1))) := by
  rcases Nat.mod_two_eq_zero_or_one b with h | h
  · have e1 : sl b = 0 := Fin.ext h
    have e2 : sl (b + 1) = 1 := Fin.ext (show (b + 1) % 2 = 1 by omega)
    rw [e1, e2]
  · have e1 : sl b = 1 := Fin.ext h
    have e2 : sl (b + 1) = 0 := Fin.ext (show (b + 1) % 2 = 0 by omega)
    rw [e1, e2]
    constructor
    · iintro ⟨A, B⟩; isplitl [B] <;> iassumption
    · iintro ⟨A, B⟩; isplitl [B] <;> iassumption

/-- What the narrowed rows hold before point `(b, j)`; -/
def P0 (b j : ℕ) (hs : S2x512x2048.Idx → Elt F .bf16) : Prop :=
  (Used v0 b → ¬(b = 0 ∧ j = 0) → slotOf hs (sl b) = Hb h0 TK b) ∧ (Used v0 (b + 1) → 6 ≤ j → slotOf hs (sl (b + 1)) = Hb h0 TK (b + 1))
/-- once the block's own are there; -/
def P1 (b j : ℕ) (hs : S2x512x2048.Idx → Elt F .bf16) : Prop :=
  (Used v0 b → slotOf hs (sl b) = Hb h0 TK b) ∧ (Used v0 (b + 1) → 6 ≤ j → slotOf hs (sl (b + 1)) = Hb h0 TK (b + 1))
/-- and after the point. -/
def P2 (b j : ℕ) (hs : S2x512x2048.Idx → Elt F .bf16) : Prop :=
  (Used v0 b → slotOf hs (sl b) = Hb h0 TK b) ∧ (Used v0 (b + 1) → 5 ≤ j → slotOf hs (sl (b + 1)) = Hb h0 TK (b + 1))

end State

section Steps
variable (c : Dev nD) (i : grid0.Coords) (a6 : Memref sig .tc .vmem S1x2048x512 .bf16) (ha6 : a6.IsWhole) (a7 : Memref sig .tc .vmem S1x2048x512 .bf16) (ha7 : a7.IsWhole) (a8 : Memref sig .tc .vmem S1x512x2048 .bf16) (ha8 : a8.IsWhole) (a9 : Memref sig .tc .vmem S512x16x128 .f32) (ha9 : a9.IsWhole)
variable (h0 : S16384x16x128.Idx → Elt F .f32) (T : S36864.Idx → Elt F .i32) (TK : ℕ → Fin 512 → Fin 16384) (v0 : BitVec 32)
variable (hTK : ∀ b, Names T (min b 71) (TK b))
variable (x6 x7 : Vec F S1x2048x512 .bf16) (x8 : Vec F S1x512x2048 .bf16) (acc : S512x2048.Idx → Elt F .f32)

/-- The accumulator after the first partial sum's branch, and after the later ones'. -/
def Q3 (b j : ℕ) (d : S512x2048.Idx → Elt F .f32) : Prop :=
  Used v0 b → (j = 0 → d = k0_pay56 (Hb h0 TK b) x6 x7 x8) ∧ (1 ≤ j → d = acc)
def Q4 (b j : ℕ) (d : S512x2048.Idx → Elt F .f32) : Prop :=
  Used v0 b → (j = 0 → d = k0_pay56 (Hb h0 TK b) x6 x7 x8) ∧ (1 ≤ j → j < 10 → ¬(j = 5 ∧ Used v0 (b + 1)) → d = k0_pay57 acc (Hb h0 TK b) x6 x7 x8)
    ∧ (j = 5 ∧ Used v0 (b + 1) → d = acc) ∧ (10 ≤ j → d = acc)
def Q5 (b j : ℕ) (d : S512x2048.Idx → Elt F .f32) : Prop :=
  Used v0 b → (j = 0 → d = k0_pay56 (Hb h0 TK b) x6 x7 x8) ∧ (1 ≤ j → j < 10 → d = k0_pay57 acc (Hb h0 TK b) x6 x7 x8) ∧ (10 ≤ j → d = acc)

theorem pay_same (d : Vec F S512x2048 .f32) (h : Vec F S1x512x2048 .bf16) : k0_pay58 (k0_pay32 d h x6 x7 x8) = k0_pay57 d h x6 x7 x8 := rfl

abbrev win : sProp 𝕄 := iprop(owns (c : Thread nD τ) a6 fullShare x6 ∗ owns (c : Thread nD τ) a7 fullShare x7 ∗ owns (c : Thread nD τ) a8 fullShare x8)

include hTK in
theorem step1 (K : PUnit.{1} → sProp 𝕄) :
    iprop(tab c T ∗ ow c ∗ (∃ d, x2At c d) ∗ HS c (P0 h0 TK v0 (i 0).val (i 1).val) ∗ DM c h0 TK (i 0).val (Used v0 ((i 0).val + 1) ∧ 1 ≤ (i 1).val ∧ (i 1).val ≤ 5)
        ∗ (iprop(tab c T ∗ ow c ∗ (∃ d, x2At c d) ∗ HS c (P1 h0 TK v0 (i 0).val (i 1).val) ∗ DM c h0 TK (i 0).val (Used v0 ((i 0).val + 1) ∧ 1 ≤ (i 1).val ∧ (i 1).val ≤ 5)) -∗ K ⟨⟩))
      ⊢ wp frame (wpE (defs₀ (F := F)) Variants.none (c : Thread nD τ) none) Set.univ (br1 i a6 ha6 a7 ha7 a8 ha8 a9 ha9) K := by
  unfold br1
  by_cases h : k0_cond1 i = 1#1
  · rw [dif_pos h]
    have hc := (cond1_iff i).mp h
    rw [DM_neg c h0 TK _ (by omega)]
    unfold Idle HS
    iintro ⟨HT, HO, HX2, ⟨%hs, -, HS⟩, ⟨HX, HH, Hc0, Hc1⟩, Hk⟩
    iapply (unpack_first c i a6 ha6 a7 ha7 a8 ha8 a9 ha9 hs h0 (TK 0) T h (hTK 0) K)
    isplitl [HT]; · iexact HT
    isplitl [HX]; · iexact HX
    isplitl [HH]; · iexact HH
    isplitl [Hc0]; · iexact Hc0
    isplitl [HO]; · iexact HO
    isplitl [HX2]; · iexact HX2
    isplitl [HS]; · iexact HS
    iintro ⟨HT, HX, HH, Hc0, HO, HX2, ⟨%hs', %hp, HS⟩⟩
    iapply Hk
    isplitl [HT]; · iexact HT
    isplitl [HO]; · iexact HO
    isplitl [HX2]; · iexact HX2
    isplitl [HS]
    · iexists hs'; isplitr
      · ipureintro
        refine ⟨fun _ => ?_, fun _ h6 => absurd h6 (by omega)⟩
        rw [hc.1]; exact hp
      iexact HS
    isplitl [HX]; · iexact HX
    isplitl [HH]; · iexact HH
    isplitl [Hc0]; · iexact Hc0
    iexact Hc1
  · rw [dif_neg h]
    have hc := (cond1_iff i).not.mp h
    iintro ⟨HT, HO, HX2, HS, HD, Hk⟩
    sl_step
    iapply Hk
    isplitl [HT]; · iexact HT
    isplitl [HO]; · iexact HO
    isplitl [HX2]; · iexact HX2
    isplitl [HS]
    · iapply (HS_mono c (fun hs (hp : P0 h0 TK v0 _ _ hs) => show P1 h0 TK v0 _ _ hs from ⟨fun hu => hp.1 hu hc, hp.2⟩))
      iexact HS
    iexact HD

include hTK in
theorem step2 (K : PUnit.{1} → sProp 𝕄) :
    iprop(tab c T ∗ DM c h0 TK (i 0).val (Used v0 ((i 0).val + 1) ∧ 1 ≤ (i 1).val ∧ (i 1).val ≤ 5)
        ∗ (iprop(tab c T ∗ DM c h0 TK (i 0).val (Used v0 ((i 0).val + 1) ∧ (i 1).val ≤ 5)) -∗ K ⟨⟩))
      ⊢ wp frame (wpE (defs₀ (F := F)) Variants.none (c : Thread nD τ) none) Set.univ (br2 i a6 ha6 a7 ha7 a8 ha8 a9 ha9 v0) K := by
  haveI := Elt.nonempty F
  unfold br2
  by_cases h : k0_cond2 i v0 = 1#1
  · rw [dif_pos h]
    have hc := (cond2_iff i v0).mp h
    rw [DM_neg c h0 TK _ (by omega), DM_pos c h0 TK _ ⟨hc.2, by omega⟩]
    unfold Idle Fly
    iintro ⟨HT, ⟨HX, HH, Hcs⟩, Hk⟩
    ihave Hcs := (sems c (i 0).val).1 $$ Hcs
    icases Hcs with ⟨Hc, Hn⟩
    iapply (issue_next c i a6 ha6 a7 ha7 a8 ha8 a9 ha9 h0 (TK ((i 0).val + 1)) T v0 h (hTK _) K)
    isplitl [HT]; · iexact HT
    isplitl [HX]; · iexact HX
    isplitl [HH]; · iexact HH
    isplitl [Hn]; · iexact Hn
    iintro ⟨HT, HB⟩
    iapply Hk
    isplitl [HT]; · iexact HT
    isplitl [HB]; · iexact HB
    iexact Hc
  · rw [dif_neg h]
    have hc := (cond2_iff i v0).not.mp h
    iintro ⟨HT, HD, Hk⟩
    sl_step
    iapply Hk
    isplitl [HT]; · iexact HT
    rw [DM_iff c h0 TK (i 0).val (p := Used v0 ((i 0).val + 1) ∧ (i 1).val ≤ 5) (q := Used v0 ((i 0).val + 1) ∧ 1 ≤ (i 1).val ∧ (i 1).val ≤ 5)
      ⟨fun hh => ⟨hh.1, Nat.one_le_iff_ne_zero.mpr fun e => hc ⟨e, hh.1⟩, hh.2⟩, fun hh => ⟨hh.1, hh.2.2⟩⟩]
    iexact HD

include ha6 ha7 ha8 ha9 in
theorem step3 (K : PUnit.{1} → sProp 𝕄) :
    iprop(win c a6 a7 a8 x6 x7 x8 ∗ HS c (P1 h0 TK v0 (i 0).val (i 1).val) ∗ AC c (fun d => Used v0 (i 0).val → 1 ≤ (i 1).val → d = acc)
        ∗ (iprop(win c a6 a7 a8 x6 x7 x8 ∗ HS c (P1 h0 TK v0 (i 0).val (i 1).val) ∗ AC c (Q3 h0 TK v0 x6 x7 x8 acc (i 0).val (i 1).val)) -∗ K ⟨⟩))
      ⊢ wp frame (wpE (defs₀ (F := F)) Variants.none (c : Thread nD τ) none) Set.univ (br3 i a6 a7 a8 v0) K := by
  unfold br3
  by_cases h : cond3 i v0 = 1#1
  · rw [if_pos h]
    have hc := (cond3_iff i v0).mp h
    unfold HS AC
    iintro ⟨⟨H6, H7, H8⟩, ⟨%hs, %hp, HS⟩, ⟨%d, -, HA⟩, Hk⟩
    iapply (first_acc c i a6 ha6 a7 ha7 a8 ha8 a9 ha9 x6 x7 x8 hs K)
    isplitl [H6]; · iexact H6
    isplitl [H7]; · iexact H7
    isplitl [H8]; · iexact H8
    isplitl [HS]; · iexact HS
    isplitl [HA]; · iexists d; iexact HA
    iintro ⟨H6, H7, H8, HS, HA⟩
    iapply Hk
    isplitl [H6 H7 H8]
    · isplitl [H6]; · iexact H6
      isplitl [H7]; · iexact H7
      iexact H8
    isplitl [HS]
    · iexists hs; isplitr; · ipureintro; exact hp
      iexact HS
    iexists _; isplitr; rotate_left; · iexact HA
    ipureintro
    refine fun hu => ⟨fun _ => ?_, fun h1 => absurd h1 (by omega)⟩
    exact congrArg (fun z => k0_pay56 z x6 x7 x8) (hp.1 hu)
  · rw [if_neg h]
    have hc := (cond3_iff i v0).not.mp h
    iintro ⟨HW, HS, HA, Hk⟩
    sl_step
    iapply Hk
    isplitl [HW]; · iexact HW
    isplitl [HS]; · iexact HS
    iapply (AC_mono c (fun d (hp : Used v0 (i 0).val → 1 ≤ (i 1).val → d = acc) => show Q3 h0 TK v0 x6 x7 x8 acc _ _ d from
      fun hu => ⟨fun h1 => absurd ⟨hu, h1⟩ hc, hp hu⟩))
    iexact HA

include ha6 ha7 ha8 ha9 in
theorem step4 (K : PUnit.{1} → sProp 𝕄) :
    iprop(win c a6 a7 a8 x6 x7 x8 ∗ HS c (P1 h0 TK v0 (i 0).val (i 1).val) ∗ AC c (Q3 h0 TK v0 x6 x7 x8 acc (i 0).val (i 1).val)
        ∗ (iprop(win c a6 a7 a8 x6 x7 x8 ∗ HS c (P1 h0 TK v0 (i 0).val (i 1).val) ∗ AC c (Q4 h0 TK v0 x6 x7 x8 acc (i 0).val (i 1).val)) -∗ K ⟨⟩))
      ⊢ wp frame (wpE (defs₀ (F := F)) Variants.none (c : Thread nD τ) none) Set.univ (br4 i a6 a7 a8 v0) K := by
  unfold br4
  by_cases h : cond4 i v0 = 1#1
  · rw [if_pos h]
    have hc := (cond4_iff i v0).mp h
    unfold HS AC
    iintro ⟨⟨H6, H7, H8⟩, ⟨%hs, %hp, HS⟩, ⟨%d, %hd, HA⟩, Hk⟩
    iapply (mid_acc c i a6 ha6 a7 ha7 a8 ha8 a9 ha9 x6 x7 x8 hs d K)
    isplitl [H6]; · iexact H6
    isplitl [H7]; · iexact H7
    isplitl [H8]; · iexact H8
    isplitl [HS]; · iexact HS
    isplitl [HA]; · iexact HA
    iintro ⟨H6, H7, H8, HS, HA⟩
    iapply Hk
    isplitl [H6 H7 H8]
    · isplitl [H6]; · iexact H6
      isplitl [H7]; · iexact H7
      iexact H8
    isplitl [HS]
    · iexists hs; isplitr; · ipureintro; exact hp
      iexact HS
    iexists _; isplitr; rotate_left; · iexact HA
    ipureintro
    refine fun hu => ⟨fun h1 => absurd h1 (by omega), fun _ _ _ => ?_, fun h1 => absurd hc.2.2 (by rintro (h | h); exacts [h h1.1, h h1.2]), fun h1 => absurd h1 (by omega)⟩
    exact congrArg₂ (fun y z => k0_pay57 y z x6 x7 x8) ((hd hu).2 (by omega)) (hp.1 hu)
  · rw [if_neg h]
    have hc := (cond4_iff i v0).not.mp h
    iintro ⟨HW, HS, HA, Hk⟩
    sl_step
    iapply Hk
    isplitl [HW]; · iexact HW
    isplitl [HS]; · iexact HS
    iapply (AC_mono c (fun d (hp : Q3 h0 TK v0 x6 x7 x8 acc _ _ d) => show Q4 h0 TK v0 x6 x7 x8 acc _ _ d from
      fun hu => ⟨(hp hu).1, fun h1 h2 h3 => absurd ⟨hu, ⟨h1, h2⟩, not_and_or.mp h3⟩ hc, fun h1 => (hp hu).2 (by omega), fun h1 => (hp hu).2 (by omega)⟩))
    iexact HA

include hTK in
theorem step5 (K : PUnit.{1} → sProp 𝕄) :
    iprop(tab c T ∗ ow c ∗ (∃ d, x2At c d) ∗ DM c h0 TK (i 0).val (Used v0 ((i 0).val + 1) ∧ (i 1).val ≤ 5)
        ∗ win c a6 a7 a8 x6 x7 x8 ∗ HS c (P1 h0 TK v0 (i 0).val (i 1).val) ∗ AC c (Q4 h0 TK v0 x6 x7 x8 acc (i 0).val (i 1).val)
        ∗ (iprop(tab c T ∗ ow c ∗ (∃ d, x2At c d) ∗ DM c h0 TK (i 0).val (Used v0 ((i 0).val + 1) ∧ (i 1).val ≤ 4)
            ∗ win c a6 a7 a8 x6 x7 x8 ∗ HS c (P2 h0 TK v0 (i 0).val (i 1).val) ∗ AC c (Q5 h0 TK v0 x6 x7 x8 acc (i 0).val (i 1).val)) -∗ K ⟨⟩))
      ⊢ wp frame (wpE (defs₀ (F := F)) Variants.none (c : Thread nD τ) none) Set.univ (br5 i a6 ha6 a7 ha7 a8 ha8 a9 ha9 v0) K := by
  unfold br5
  by_cases h : k0_cond5 i v0 = 1#1
  · rw [dif_pos h]
    have hc := (cond5_iff i v0).mp h
    rw [DM_pos c h0 TK _ ⟨hc.1.2, by omega⟩, DM_neg c h0 TK _ (by omega)]
    unfold Idle Fly HS AC
    iintro ⟨HT, HO, HX2, ⟨HB, Hc⟩, ⟨H6, H7, H8⟩, ⟨%hs, %hp, HS⟩, ⟨%d, %hd, HA⟩, Hk⟩
    iapply (unpack_next c i a6 ha6 a7 ha7 a8 ha8 a9 ha9 x6 x7 x8 hs h0 (TK ((i 0).val + 1)) T (BitVec.ofNat 32 (i 0).val) v0 h (hTK _) d K)
    isplitl [HT]; · iexact HT
    isplitl [HB]; · iexact HB
    isplitl [HO]; · iexact HO
    isplitl [HX2]; · iexact HX2
    isplitl [HS]; · iexact HS
    isplitl [HA]; · iexact HA
    isplitl [H6]; · iexact H6
    isplitl [H7]; · iexact H7
    isplitl [H8]; · iexact H8
    iintro ⟨HT, HX, HH, Hn, HO, HX2, ⟨%hs', %hp', HS⟩, HA, H6, H7, H8⟩
    iapply Hk
    isplitl [HT]; · iexact HT
    isplitl [HO]; · iexact HO
    isplitl [HX2]; · iexact HX2
    isplitl [HX HH Hc Hn]
    · isplitl [HX]; · iexact HX
      isplitl [HH]; · iexact HH
      iapply (sems c (i 0).val).2
      isplitl [Hc]; · iexact Hc
      iexact Hn
    isplitl [H6 H7 H8]
    · isplitl [H6]; · iexact H6
      isplitl [H7]; · iexact H7
      iexact H8
    isplitl [HS]
    · iexists hs'; isplitr
      · ipureintro
        exact ⟨fun hu => hp'.2.trans (hp.1 hu), fun _ _ => hp'.1⟩
      iexact HS
    iexists _; isplitr; rotate_left; · iexact HA
    ipureintro
    refine fun hu => ⟨fun h1 => absurd h1 (by omega), fun _ _ => ?_, fun h1 => absurd h1 (by omega)⟩
    exact (pay_same x6 x7 x8 _ _).trans (congrArg₂ (fun y z => k0_pay57 y z x6 x7 x8) ((hd hu).2.2.1 ⟨hc.2, hc.1.2⟩) (hp.1 hu))
  · rw [dif_neg h]
    have hc := (cond5_iff i v0).not.mp h
    have hmono : Used v0 ((i 0).val + 1) → Used v0 (i 0).val := fun hu => by unfold Used at hu ⊢; omega
    iintro ⟨HT, HO, HX2, HD, HW, HS, HA, Hk⟩
    sl_step
    iapply Hk
    isplitl [HT]; · iexact HT
    isplitl [HO]; · iexact HO
    isplitl [HX2]; · iexact HX2
    isplitl [HD]
    · rw [DM_iff c h0 TK (i 0).val (p := Used v0 ((i 0).val + 1) ∧ (i 1).val ≤ 4) (q := Used v0 ((i 0).val + 1) ∧ (i 1).val ≤ 5)
        ⟨fun hh => ⟨hh.1, by omega⟩, fun hh => ⟨hh.1, by
          have : (i 1).val ≠ 5 := fun e => hc ⟨⟨hmono hh.1, hh.1⟩, e⟩
          omega⟩⟩]
      iexact HD
    isplitl [HW]; · iexact HW
    isplitl [HS]
    · iapply (HS_mono c (fun hs (hp : P1 h0 TK v0 (i 0).val (i 1).val hs) => show P2 h0 TK v0 (i 0).val (i 1).val hs from ⟨hp.1, fun hu (h5 : 5 ≤ (i 1).val) => hp.2 hu (by
        have : (i 1).val ≠ 5 := fun e => hc ⟨⟨hmono hu, hu⟩, e⟩
        omega)⟩))
      iexact HS
    iapply (AC_mono c (fun d (hp : Q4 h0 TK v0 x6 x7 x8 acc _ _ d) => show Q5 h0 TK v0 x6 x7 x8 acc _ _ d from
      fun hu => ⟨(hp hu).1, fun h1 h2 => (hp hu).2.1 h1 h2 (fun h3 => hc ⟨⟨hu, h3.2⟩, h3.1⟩), (hp hu).2.2.2⟩))
    iexact HA

include ha6 ha7 ha8 ha9 in
theorem step6 (d9 : Vec F S512x16x128 .f32) (K : PUnit.{1} → sProp 𝕄) :
    iprop(win c a6 a7 a8 x6 x7 x8 ∗ HS c (P2 h0 TK v0 (i 0).val (i 1).val) ∗ AC c (Q5 h0 TK v0 x6 x7 x8 acc (i 0).val (i 1).val) ∗ owns (c : Thread nD τ) a9 fullShare d9
        ∗ (iprop(win c a6 a7 a8 x6 x7 x8 ∗ HS c (P2 h0 TK v0 (i 0).val (i 1).val) ∗ AC c (Q5 h0 TK v0 x6 x7 x8 acc (i 0).val (i 1).val)
            ∗ (∃ d, ⌜((i 1).val < 10 → d = d9) ∧ ((i 1).val = 10 → Used v0 (i 0).val → d = OUT (k0_pay33 acc (Hb h0 TK (i 0).val) x6 x7 x8))⌝ ∗ owns (c : Thread nD τ) a9 fullShare d)) -∗ K ⟨⟩))
      ⊢ wp frame (wpE (defs₀ (F := F)) Variants.none (c : Thread nD τ) none) Set.univ (br6 i a6 ha6 a7 ha7 a8 ha8 a9 ha9 v0) K := by
  unfold br6
  by_cases h : k0_cond6 i v0 = 1#1
  · rw [dif_pos h, wp_bind]
    have hc := (cond6_iff i v0).mp h
    unfold HS AC
    iintro ⟨⟨H6, H7, H8⟩, ⟨%hs, %hp, HS⟩, ⟨%d, %hd, HA⟩, H9, Hk⟩
    iapply (last_out c i a6 ha6 a7 ha7 a8 ha8 a9 ha9 x6 x7 x8 hs d _)
    isplitl [H6]; · iexact H6
    isplitl [H7]; · iexact H7
    isplitl [H8]; · iexact H8
    isplitl [HS]; · iexact HS
    isplitl [HA]; · iexact HA
    isplitl [H9]; · iexists d9; iexact H9
    iintro ⟨H6, H7, H8, HS, HA, H9⟩
    sl_step
    iapply Hk
    isplitl [H6 H7 H8]
    · isplitl [H6]; · iexact H6
      isplitl [H7]; · iexact H7
      iexact H8
    isplitl [HS]
    · iexists hs; isplitr; · ipureintro; exact hp
      iexact HS
    isplitl [HA]
    · iexists d; isplitr; · ipureintro; exact hd
      iexact HA
    iexists _; isplitr; rotate_left; · iexact H9
    ipureintro
    exact ⟨fun h1 => absurd h1 (by omega), fun _ hu => congrArg₂ (fun y z => OUT (k0_pay33 y z x6 x7 x8)) ((hd hu).2.2 (by omega)) (hp.1 hu)⟩
  · rw [dif_neg h]
    have hc := (cond6_iff i v0).not.mp h
    iintro ⟨HW, HS, HA, H9, Hk⟩
    sl_step
    iapply Hk
    isplitl [HW]; · iexact HW
    isplitl [HS]; · iexact HS
    isplitl [HA]; · iexact HA
    iexists d9; isplitr; rotate_left; · iexact H9
    ipureintro
    exact ⟨fun _ => rfl, fun h1 hu => absurd ⟨hu, h1⟩ hc⟩

/-- What a block's output is: the sum at a used one, zeros at another. -/
def Res (b : ℕ) (acc : S512x2048.Idx → Elt F .f32) : Vec F S512x16x128 .f32 :=
  open Classical in if Used v0 b then OUT (k0_pay33 acc (Hb h0 TK b) x6 x7 x8) else k0_pay1

include ha6 ha7 ha8 ha9 in
theorem step7 (d9 d : Vec F S512x16x128 .f32) (hd : ((i 1).val < 10 → d = d9) ∧ ((i 1).val = 10 → Used v0 (i 0).val → d = OUT (k0_pay33 acc (Hb h0 TK (i 0).val) x6 x7 x8))) (K : PUnit.{1} → sProp 𝕄) :
    iprop(owns (c : Thread nD τ) a9 fullShare d
        ∗ ((∃ d, ⌜((i 1).val < 10 → d = d9) ∧ ((i 1).val = 10 → d = Res h0 TK v0 x6 x7 x8 (i 0).val acc)⌝ ∗ owns (c : Thread nD τ) a9 fullShare d) -∗ K ⟨⟩))
      ⊢ wp frame (wpE (defs₀ (F := F)) Variants.none (c : Thread nD τ) none) Set.univ (br7 i a9 v0) K := by
  unfold br7
  by_cases h : k0_cond7 i v0 = 1#1
  · rw [dif_pos h]
    have hc := (cond7_iff i v0).mp h
    iintro ⟨H9, Hk⟩
    iapply (zero_out c a6 ha6 a7 ha7 a8 ha8 a9 ha9 v0 K)
    isplitl [H9]; · iexists d; iexact H9
    iintro H9
    iapply Hk
    iexists _; isplitr; rotate_left; · iexact H9
    ipureintro
    exact ⟨fun h1 => absurd h1 (by omega), fun _ => (if_neg hc.1).symm⟩
  · rw [dif_neg h]
    have hc := (cond7_iff i v0).not.mp h
    iintro ⟨H9, Hk⟩
    sl_step
    iapply Hk
    iexists d; isplitr; rotate_left; · iexact H9
    ipureintro
    refine ⟨hd.1, fun h1 => ?_⟩
    have hu : Used v0 (i 0).val := by_contra fun hu => hc ⟨hu, h1⟩
    exact (hd.2 h1 hu).trans (if_pos hu).symm

/-- The accumulator after a point. -/
def nextAcc (b j : ℕ) : S512x2048.Idx → Elt F .f32 :=
  if j = 0 then k0_pay56 (Hb h0 TK b) x6 x7 x8 else if j < 10 then k0_pay57 acc (Hb h0 TK b) x6 x7 x8 else acc

/-- What is held before point `(b, j)`. -/
def St (b j : ℕ) (acc : S512x2048.Idx → Elt F .f32) : sProp 𝕄 :=
  iprop(tab c T ∗ (∃ d, x2At c d) ∗ HS c (P0 h0 TK v0 b j) ∗ AC c (fun d => Used v0 b → 1 ≤ j → d = acc)
    ∗ DM c h0 TK b (Used v0 (b + 1) ∧ 1 ≤ j ∧ j ≤ 5) ∗ ((Memref.whole main_arg3).view.loc (c : Thread nD τ) ↦{fullShare.right} (fun _ => v0 : S1.Idx → Elt F .i32)))

/-- After a block's last point, before the next one's first. -/
theorem St_wrap (b : ℕ) (acc acc' : S512x2048.Idx → Elt F .f32) : St c h0 T TK v0 b 11 acc ⊢ St c h0 T TK v0 (b + 1) 0 acc' := by
  unfold St
  iintro ⟨HT, HX, HS, HA, HD, HN⟩
  isplitl [HT]; · iexact HT
  isplitl [HX]; · iexact HX
  isplitl [HS]
  · iapply (HS_mono c (fun hs (hp : P0 h0 TK v0 b 11 hs) => show P0 h0 TK v0 (b + 1) 0 hs from
      ⟨fun hu _ => hp.2 hu (by omega), fun _ h => absurd h (by omega)⟩))
    iexact HS
  isplitl [HA]
  · iapply (AC_mono c (fun d (_ : Used v0 b → 1 ≤ 11 → d = acc) => show (Used v0 (b + 1) → 1 ≤ 0 → d = acc') from fun _ h => absurd h (by omega)))
    iexact HA
  isplitl [HD]
  · iapply (show DM c h0 TK b (Used v0 (b + 1) ∧ 1 ≤ 11 ∧ 11 ≤ 5) ⊢ DM c h0 TK (b + 1) (Used v0 (b + 1 + 1) ∧ 1 ≤ 0 ∧ 0 ≤ 5) from
      (((DM_neg c h0 TK b (p := Used v0 (b + 1) ∧ 1 ≤ 11 ∧ 11 ≤ 5) (by omega)).trans (DM_neg c h0 TK (b + 1) (p := Used v0 (b + 1 + 1) ∧ 1 ≤ 0 ∧ 0 ≤ 5) (by omega)).symm)) ▸ .rfl)
    iexact HD
  iexact HN

theorem load_used (K : Elt F .i32 → sProp 𝕄) :
    iprop(((Memref.whole main_arg3).view.loc (c : Thread nD τ) ↦{fullShare.right} (fun _ => v0 : S1.Idx → Elt F .i32))
        ∗ (((Memref.whole main_arg3).view.loc (c : Thread nD τ) ↦{fullShare.right} (fun _ => v0 : S1.Idx → Elt F .i32)) -∗ K v0))
      ⊢ wp frame (wpE (defs₀ (F := F)) Variants.none (c : Thread nD τ) none) Set.univ
        (smemLoad (Memref.whole main_arg3) (Rect.unit (s := S1) ![0] S1.size inb_S1_S1_0) numel1_S1 rfl) K := by
  iintro ⟨HN, Hk⟩
  unfold smemLoad
  sl_exec
  sl_step
  have e : ∀ x, View.readAt (Elt F) (Memref.whole main_arg3).view (Rect.unit (s := S1) ![0] S1.size inb_S1_S1_0).toLoadRect (fun _ => v0 : S1.Idx → Elt F .i32) x = v0 := fun _ => rfl
  rw [e]
  iapply Hk
  iexact HN

include hTK in
set_option maxHeartbeats 2000000 in
/-- One point of the grid. -/
theorem point (d9 : Vec F S512x16x128 .f32) (K : PUnit.{1} → sProp 𝕄) :
    iprop(St c h0 T TK v0 (i 0).val (i 1).val acc ∗ ow c ∗ win c a6 a7 a8 x6 x7 x8 ∗ owns (c : Thread nD τ) a9 fullShare d9
        ∗ (iprop(St c h0 T TK v0 (i 0).val ((i 1).val + 1) (nextAcc h0 TK x6 x7 x8 acc (i 0).val (i 1).val) ∗ ow c ∗ win c a6 a7 a8 x6 x7 x8
            ∗ (∃ d, ⌜((i 1).val < 10 → d = d9) ∧ ((i 1).val = 10 → d = Res h0 TK v0 x6 x7 x8 (i 0).val acc)⌝ ∗ owns (c : Thread nD τ) a9 fullShare d)) -∗ K ⟨⟩))
      ⊢ wp frame (wpE (defs₀ (F := F)) Variants.none (c : Thread nD τ) none) Set.univ (cc0_expert_swiglu (F := F) i (Memref.whole main_arg2) (Memref.isWhole_whole _) (Memref.whole main_arg3) (Memref.isWhole_whole _) (Memref.whole main_arg1) (Memref.isWhole_whole _) (Memref.whole main_arg0) (Memref.isWhole_whole _) a6 ha6 a7 ha7 a8 ha8 a9 ha9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) K := by
  rw [body_eq]
  unfold St
  iintro ⟨⟨HT, HX, HS, HA, HD, HN⟩, HO, HW, H9, Hk⟩
  rw [wp_bind]
  iapply (load_used c v0 _)
  isplitl [HN]; · iexact HN
  iintro HN
  rw [wp_bind]
  iapply (step1 c i a6 ha6 a7 ha7 a8 ha8 a9 ha9 h0 T TK v0 hTK _)
  isplitl [HT]; · iexact HT
  isplitl [HO]; · iexact HO
  isplitl [HX]; · iexact HX
  isplitl [HS]; · iexact HS
  isplitl [HD]; · iexact HD
  iintro ⟨HT, HO, HX, HS, HD⟩
  rw [wp_bind]
  iapply (step2 c i a6 ha6 a7 ha7 a8 ha8 a9 ha9 h0 T TK v0 hTK _)
  isplitl [HT]; · iexact HT
  isplitl [HD]; · iexact HD
  iintro ⟨HT, HD⟩
  rw [wp_bind]
  iapply (step3 c i a6 ha6 a7 ha7 a8 ha8 a9 ha9 h0 TK v0 x6 x7 x8 acc _)
  isplitl [HW]; · iexact HW
  isplitl [HS]; · iexact HS
  isplitl [HA]; · iexact HA
  iintro ⟨HW, HS, HA⟩
  rw [wp_bind]
  iapply (step4 c i a6 ha6 a7 ha7 a8 ha8 a9 ha9 h0 TK v0 x6 x7 x8 acc _)
  isplitl [HW]; · iexact HW
  isplitl [HS]; · iexact HS
  isplitl [HA]; · iexact HA
  iintro ⟨HW, HS, HA⟩
  rw [wp_bind]
  iapply (step5 c i a6 ha6 a7 ha7 a8 ha8 a9 ha9 h0 T TK v0 hTK x6 x7 x8 acc _)
  isplitl [HT]; · iexact HT
  isplitl [HO]; · iexact HO
  isplitl [HX]; · iexact HX
  isplitl [HD]; · iexact HD
  isplitl [HW]; · iexact HW
  isplitl [HS]; · iexact HS
  isplitl [HA]; · iexact HA
  iintro ⟨HT, HO, HX, HD, HW, HS, HA⟩
  rw [wp_bind]
  iapply (step6 c i a6 ha6 a7 ha7 a8 ha8 a9 ha9 h0 TK v0 x6 x7 x8 acc d9 _)
  isplitl [HW]; · iexact HW
  isplitl [HS]; · iexact HS
  isplitl [HA]; · iexact HA
  isplitl [H9]; · iexact H9
  iintro ⟨HW, HS, HA, ⟨%d, %hd, H9⟩⟩
  iapply (step7 c i a6 ha6 a7 ha7 a8 ha8 a9 ha9 h0 TK v0 x6 x7 x8 acc d9 d hd _)
  isplitl [H9]; · iexact H9
  iintro H9
  iapply Hk
  isplitl [HT HX HS HA HD HN]
  · isplitl [HT]; · iexact HT
    isplitl [HX]; · iexact HX
    isplitl [HS]
    · iapply (HS_mono c (fun hs (hp : P2 h0 TK v0 (i 0).val (i 1).val hs) => show P0 h0 TK v0 (i 0).val ((i 1).val + 1) hs from
        ⟨fun hu _ => hp.1 hu, fun hu (h6 : 6 ≤ (i 1).val + 1) => hp.2 hu (by omega)⟩))
      iexact HS
    isplitl [HA]
    · iapply (AC_mono c (fun d (hp : Q5 h0 TK v0 x6 x7 x8 acc (i 0).val (i 1).val d) =>
        show (Used v0 (i 0).val → 1 ≤ (i 1).val + 1 → d = nextAcc h0 TK x6 x7 x8 acc (i 0).val (i 1).val) from fun hu _ => by
          unfold nextAcc
          split
          · exact (hp hu).1 (by assumption)
          split
          · exact (hp hu).2.1 (by omega) (by assumption)
          · exact (hp hu).2.2 (by omega)))
      iexact HA
    isplitl [HD]
    · iapply (show DM c h0 TK (i 0).val (Used v0 ((i 0).val + 1) ∧ (i 1).val ≤ 4) ⊢ DM c h0 TK (i 0).val (Used v0 ((i 0).val + 1) ∧ 1 ≤ (i 1).val + 1 ∧ (i 1).val + 1 ≤ 5) from
        (DM_iff c h0 TK (i 0).val (p := Used v0 ((i 0).val + 1) ∧ (i 1).val ≤ 4) (q := Used v0 ((i 0).val + 1) ∧ 1 ≤ (i 1).val + 1 ∧ (i 1).val + 1 ≤ 5) ⟨fun hh => ⟨hh.1, by omega, by omega⟩, fun hh => ⟨hh.1, by omega⟩⟩) ▸ .rfl)
      iexact HD
    iexact HN
  isplitl [HO]; · iexact HO
  isplitl [HW]; · iexact HW
  iexact H9

end Steps

end Cert.Kernel4Ideal.Hand

end
-- ==== Proof.ExpertRun.lean ====
/-
  The run of the expert call: the tables it reads, the blocks its windows show, what each point leaves, and from these the
  frames of the kernel and of its idealization.
-/
module

public import proofs.«01_k».proof.Proof.Gen.Kernel4Ideal
public import proofs.«01_k».proof.Proof.Gen.Kernel4Ideal.Launch
public import proofs.«01_k».proof.Proof.Gen.Kernel4Ideal.Loops
public import proofs.«01_k».proof.Proof.Gen.Kernel4Ideal.Skeleton
public import proofs.«01_k».proof.Proof.ExpertSteps
public import Idealize.ShloMosaic.Lib.ValueLayout
public import Idealize.ShloMosaic.Lib.Pointwise
public import Idealize.ShloMosaic.Lib.WritesUnit
public import Idealize.ShloMosaic.Lib.Batch
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import Idealize.ShloMosaic.Lib.Quiescent
public import Idealize.ShloMosaic.Lib.Pipeline.FrameSuffix
public import Idealize.ShloMosaic.Lib.ReduceAll
public import proofs.«01_k».proof.Proof.Gen.Kernel4
public import proofs.«01_k».proof.Defs
public import proofs.«01_k».proof.Proof.Gen.Pre_tables_in_range
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
open Idealize.ShloMosaic.Pipeline (Dat BodyObligation BodyObligationLoose)

variable (m : (ℓ : Loc nD τ sig) → Buf (Elt F) ℓ) (ρ : Dev nD → PrngReg)

/-! ## The tables the call reads -/

/-- The one device. -/
abbrev d0 : Dev nD := 0
/-- The tables' contents at launch: the blocks' experts, the number of used blocks, the slots' tokens. -/
def tabs : pre0.Contents (Elt F) := fun k => m ((d0 : Thread nD τ).loc (pre0.ref k))
def tok : S36864.Idx → BitVec 32 := fun x => m ((d0 : Thread nD τ).loc main_arg1) x
def exps : S72.Idx → BitVec 32 := fun x => m ((d0 : Thread nD τ).loc main_arg2) x
def one : S1.Idx := fun _ => ⟨0, by decide +revert⟩
theorem one_eq (x : S1.Idx) : x = one := by
  funext a
  apply Fin.ext
  have h : (x a).val < S1.size a := (x a).isLt
  have h1 : S1.size a = 1 := (by decide : ∀ a : Fin 1, S1.size a = 1) a
  show (x a).val = 0
  omega
def nused : BitVec 32 := m ((d0 : Thread nD τ).loc main_arg3) one

/-- What the precondition says of them. -/
structure Good : Prop where
  tok : ∀ x, (tok m x).toNat < 16384
  exps : ∀ x, (exps m x).toNat < 8

omit [FloatOps F] in
theorem sel_lt (a b : BitVec 32) (j : ℕ) (hj : j < 11) :
    (Scalar.select (Scalar.cmpi .slt a b) (BitVec.ofNat 32 j) 10#32 : BitVec 32).toNat < 11 := by
  have e : (BitVec.ofNat 32 j).toNat = j := by
    rw [BitVec.toNat_ofNat]; exact Nat.mod_eq_of_lt (by omega)
  by_cases h : Scalar.cmpi .slt a b = 1#1
  · rw [show (Scalar.select (Scalar.cmpi .slt a b) (BitVec.ofNat 32 j) 10#32 : BitVec 32) = BitVec.ofNat 32 j from if_pos h, e]; exact hj
  · rw [show (Scalar.select (Scalar.cmpi .slt a b) (BitVec.ofNat 32 j) 10#32 : BitVec 32) = 10#32 from if_neg h]; decide

theorem inb_up (v w : BitVec 32) (hv : v.toNat < 8) (hw : w.toNat < 11) (a : Fin 3) :
    ((![v.toNat, (0#32 : BitVec 32).toNat, w.toNat] : Fin 3 → ℕ) a + 1) * S1x2048x512.size a ≤ S8x2048x5632.size a := by
  match a with
  | ⟨0, _⟩ => show (v.toNat + 1) * 1 ≤ 8; omega
  | ⟨1, _⟩ => show (0 + 1) * 2048 ≤ 2048; omega
  | ⟨2, _⟩ => show (w.toNat + 1) * 512 ≤ 5632; omega

theorem inb_down (v w : BitVec 32) (hv : v.toNat < 8) (hw : w.toNat < 11) (a : Fin 3) :
    ((![v.toNat, w.toNat, (0#32 : BitVec 32).toNat] : Fin 3 → ℕ) a + 1) * S1x512x2048.size a ≤ S8x5632x2048.size a := by
  match a with
  | ⟨0, _⟩ => show (v.toNat + 1) * 1 ≤ 8; omega
  | ⟨1, _⟩ => show (w.toNat + 1) * 512 ≤ 5632; omega
  | ⟨2, _⟩ => show (0 + 1) * 2048 ≤ 2048; omega

variable {m} in
theorem tabs_ok (hg : Good m) : ok0 (F := F) (tabs m) := by
  unfold ok0
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  · exact fun a => inb_up _ _ (hg.exps _) (sel_lt _ _ _ (i1_lt i)) a
  · exact fun a => inb_up _ _ (hg.exps _) (sel_lt _ _ _ (i1_lt i)) a
  · exact fun a => inb_down _ _ (hg.exps _) (sel_lt _ _ _ (i1_lt i)) a

variable {m} in
/-- The tables as contents the call accepts. -/
def adm (hg : Good m) : (pcfg0 (F := F)).Adm := ⟨tabs m, tabs_ok hg⟩

/-- A block's tokens, row by row. -/
def slotIx (b : ℕ) (r : Fin 512) : S36864.Idx := fun a => ⟨(512 * b + r.val) % 36864, by
  have h : S36864.size a = 36864 := by revert a; decide
  rw [h]; exact Nat.mod_lt _ (by decide)⟩
def TK (b : ℕ) (r : Fin 512) : Fin 16384 := ⟨(tok m (slotIx (min b 71) r)).toNat % 16384, Nat.mod_lt _ (by decide)⟩

variable {m} in
theorem TK_names (hg : Good m) (b : ℕ) : Names (F := F) (tok m) (min b 71) (TK m b) := by
  intro r y hy
  have e : y = slotIx (min b 71) r := by
    funext a
    obtain rfl : a = 0 := Subsingleton.elim (α := Fin 1) a 0
    apply Fin.ext
    show (y 0).val = (512 * min b 71 + r.val) % 36864
    rw [Nat.mod_eq_of_lt (by have := r.isLt; omega), hy]
  rw [e]
  show _ = (tok m (slotIx (min b 71) r)).toNat % 16384
  rw [Nat.mod_eq_of_lt (hg.tok _)]

/-! ## The buffers when the region is entered -/

abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

/-- The three narrowings write none but their own results. -/
theorem V_other (c : Dev nD) (b : Ref sig .tc) (h0 : main_v0 ≠ b) (h1 : main_v1 ≠ b) (h2 : main_v2 ≠ b) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0.symm, StableHlo.devRef_ne_of_ne h1.symm, StableHlo.devRef_ne_of_ne h2.symm⟩))

theorem V_pre (c : Dev nD) (k : Fin 3) : V m c (pre0.ref k) = tabs m k := by
  rw [V_other m c (pre0.ref k) (by revert k; decide) (by revert k; decide) (by revert k; decide)]
  obtain rfl : c = 0 := Subsingleton.elim _ _
  rfl

/-! ## The blocks and what each point leaves -/

section Run
variable {m}
variable (hg : Good m)

abbrev cfgA : Pipeline.Cfg sig Λ₀ := cfg0 (adm hg)

theorem N_A : (cfgA hg).N = 792 := N_0

/-- A window's block at a point. -/
def blkAt (c : Dev nD) (w : Fin 4) (t : Fin (cfgA hg).N) : (((cfgA hg).win w).xblock ((cfgA hg).grid.coords t)).Idx → Elt F ((cfgA hg).win w).elt :=
  (((cfgA hg).win w).blk t).view.read (Elt F) (V m c (Pipeline.arrRef spec0 w))

def pt (n : ℕ) : Fin (cfgA hg).N := ⟨min n 791, lt_of_le_of_lt (min_le_right _ _) (by rw [N_A]; decide)⟩
theorem pt_val (t : Fin (cfgA hg).N) : pt hg t.val = t := by
  apply Fin.ext
  show min t.val 791 = t.val
  have := lt_of_lt_of_eq t.isLt (N_A hg)
  omega

def X6 (c : Dev nD) (n : ℕ) : Vec F S1x2048x512 .bf16 := blkAt hg c 0 (pt hg n)
def X7 (c : Dev nD) (n : ℕ) : Vec F S1x2048x512 .bf16 := blkAt hg c 1 (pt hg n)
def X8 (c : Dev nD) (n : ℕ) : Vec F S1x512x2048 .bf16 := blkAt hg c 2 (pt hg n)

variable (m) in
abbrev hid (c : Dev nD) : S16384x16x128.Idx → Elt F .f32 := m ((c : Thread nD τ).loc main_arg0)

/-- A block's accumulator before its point `j`. -/
def accB (c : Dev nD) (b : ℕ) : ℕ → S512x2048.Idx → Elt F .f32
  | 0 => fun _ => Scalar.ofBits .f32 0x00000000#32
  | j + 1 => nextAcc (hid m c) (TK m) (X6 hg c (b * 11 + j)) (X7 hg c (b * 11 + j)) (X8 hg c (b * 11 + j)) (accB c b j) b j

/-- What a block's last point stores. -/
def resB (c : Dev nD) (b : ℕ) : Vec F S512x16x128 .f32 :=
  Res (hid m c) (TK m) (nused m) (X6 hg c (b * 11 + 10)) (X7 hg c (b * 11 + 10)) (X8 hg c (b * 11 + 10)) b (accB hg c b 10)

/-- What is held before point `n`. -/
def Held (c : Dev nD) (n : ℕ) : sProp 𝕄 := St c (hid m c) (tok m) (TK m) (nused m) (n / 11) (n % 11) (accB hg c (n / 11) (n % 11))

def dats (_ : Fin 1) (c : Dev nD) : Dat τ (Elt F) Unit ℕ (Pipeline.UD sig nD τ) ℕ (cfgA hg) c where
  A w := V m c (Pipeline.arrRef spec0 w)
  after w t := match w with
    | ⟨0, _⟩ => blkAt hg c 0 t
    | ⟨1, _⟩ => blkAt hg c 1 t
    | ⟨2, _⟩ => blkAt hg c 2 t
    | ⟨3, _⟩ => resB hg c (t.val / 11)
  Φ t := Held hg c t.val
  q w := Pipeline.shareOf spec0 w
  owed _ := 0

theorem A_eq (c : Dev nD) (w : Fin 4) : (dats hg 0 c).A w = V m c (Pipeline.arrRef spec0 w) := by dsimp only [dats]
theorem after0 (c : Dev nD) (t : Fin (cfgA hg).N) : (dats hg 0 c).after 0 t = blkAt hg c 0 t := rfl
theorem after1 (c : Dev nD) (t : Fin (cfgA hg).N) : (dats hg 0 c).after 1 t = blkAt hg c 1 t := rfl
theorem after2 (c : Dev nD) (t : Fin (cfgA hg).N) : (dats hg 0 c).after 2 t = blkAt hg c 2 t := rfl
theorem after3 (c : Dev nD) (t : Fin (cfgA hg).N) : (dats hg 0 c).after 3 t = resB hg c (t.val / 11) := rfl

/-- The input buffers hold their blocks at every point. -/
theorem before0 (c : Dev nD) (t : Fin (cfgA hg).N) (d) : (dats hg 0 c).before 0 t d = blkAt hg c 0 t :=
  ((dats hg 0 c).before_in_eq_fetched 0 rfl (fun _ => rfl) (fun _ _ _ => rfl) (fun t => by rw [after0]; unfold Dat.blockOf blkAt; rw [A_eq]; rfl) t d).trans
    (by unfold Dat.fetched Dat.blockOf blkAt; rw [A_eq]; try rfl)
theorem before1 (c : Dev nD) (t : Fin (cfgA hg).N) (d) : (dats hg 0 c).before 1 t d = blkAt hg c 1 t :=
  ((dats hg 0 c).before_in_eq_fetched 1 rfl (fun _ => rfl) (fun _ _ _ => rfl) (fun t => by rw [after1]; unfold Dat.blockOf blkAt; rw [A_eq]; rfl) t d).trans
    (by unfold Dat.fetched Dat.blockOf blkAt; rw [A_eq]; try rfl)
theorem before2 (c : Dev nD) (t : Fin (cfgA hg).N) (d) : (dats hg 0 c).before 2 t d = blkAt hg c 2 t :=
  ((dats hg 0 c).before_in_eq_fetched 2 rfl (fun _ => rfl) (fun _ _ _ => rfl) (fun t => by rw [after2]; unfold Dat.blockOf blkAt; rw [A_eq]; rfl) t d).trans
    (by unfold Dat.fetched Dat.blockOf blkAt; rw [A_eq]; try rfl)

theorem co0 (t : Fin grid0.N) : (grid0.coords t 0).val = t.val / 11 := by
  have e : (grid0.coords t 0).val = t.val / 11 % 72 := Pipeline.Grid.coords_val t 0 (by decide) rfl
  have := lt_of_lt_of_eq t.isLt N_0
  omega
theorem co1 (t : Fin grid0.N) : (grid0.coords t 1).val = t.val % 11 := by
  have e : (grid0.coords t 1).val = t.val / 1 % 11 := Pipeline.Grid.coords_val t 1 (by decide) rfl
  omega

theorem flush3 (t : Fin (cfgA hg).N) : ((cfgA hg).win 3).flush t = decide (t.val % 11 = 10) := by
  rw [Bool.eq_iff_iff, decide_eq_true_iff]
  exact Pipeline.Window.flush_reads ((cfgA hg).win 3) rfl 0 (show 1 < grid0.bound 0 by decide) (show grid0.fixedAfter reads0_3 0 = true by decide) (Pipeline.Window.sep_of_coord cc0_transform_4 0 0 (fun _ => rfl) (by decide)) (P := 11) (m := 10) (show grid0.stride 0 = 11 by decide) rfl t

theorem idle3 (t : Fin (cfgA hg).N) : (cfgA hg).idle 3 (grid0.coords t) = !decide (t.val % 11 = 10) := by
  show (!(k0_cond6 (grid0.coords t) ((tabs m).atD 1 ![0]) == 1#1) && !(k0_cond7 (grid0.coords t) ((tabs m).atD 1 ![0]) == 1#1)) = _
  have hv : (tabs m).atD 1 ![0] = nused m := by
    unfold Pipeline.Prefetch.Contents.atD
    rw [dif_pos (by decide)]
    exact congrArg (m ((d0 : Thread nD τ).loc main_arg3)) (one_eq _)
  rw [hv]
  have e6 := cond6_iff (grid0.coords t) (nused m)
  have e7 := cond7_iff (grid0.coords t) (nused m)
  rw [co0, co1] at e6 e7
  by_cases h : t.val % 11 = 10
  · by_cases hu : Used (nused m) (t.val / 11)
    · simp [e6.mpr ⟨hu, h⟩, h]
    · simp [e7.mpr ⟨hu, h⟩, h]
  · have n6 : ¬k0_cond6 (grid0.coords t) (nused m) = 1#1 := fun k => h (e6.mp k).2
    have n7 : ¬k0_cond7 (grid0.coords t) (nused m) = 1#1 := fun k => h (e7.mp k).2
    simp [n6, n7, h]

/-! ## The obligation at a point -/

theorem Held_castSucc (c : Dev nD) (t : Fin (cfgA hg).N) :
    (dats hg 0 c).Φ t.castSucc = St c (hid m c) (tok m) (TK m) (nused m) (grid0.coords t 0).val (grid0.coords t 1).val (accB hg c (t.val / 11) (t.val % 11)) := by
  rw [co0, co1]; rfl

/-- The point's step of the accumulator, and the state it leaves. -/
theorem Held_succ (c : Dev nD) (t : Fin (cfgA hg).N) :
    St c (hid m c) (tok m) (TK m) (nused m) (grid0.coords t 0).val ((grid0.coords t 1).val + 1)
      (nextAcc (hid m c) (TK m) (blkAt hg c 0 t) (blkAt hg c 1 t) (blkAt hg c 2 t) (accB hg c (t.val / 11) (t.val % 11)) (grid0.coords t 0).val (grid0.coords t 1).val)
    ⊢ ((dats hg 0 c).Φ t.succ : sProp 𝕄) := by
  rw [co0, co1]
  have e : t.val / 11 * 11 + t.val % 11 = t.val := by omega
  have ha : nextAcc (hid m c) (TK m) (blkAt hg c 0 t) (blkAt hg c 1 t) (blkAt hg c 2 t) (accB hg c (t.val / 11) (t.val % 11)) (t.val / 11) (t.val % 11)
      = accB hg c (t.val / 11) (t.val % 11 + 1) := by
    show _ = nextAcc (hid m c) (TK m) (X6 hg c (t.val / 11 * 11 + t.val % 11)) (X7 hg c (t.val / 11 * 11 + t.val % 11)) (X8 hg c (t.val / 11 * 11 + t.val % 11)) _ _ _
    unfold X6 X7 X8
    rw [e, pt_val]
  rw [ha]
  show _ ⊢ Held hg c (t.val + 1)
  unfold Held
  by_cases h : t.val % 11 = 10
  · have e1 : (t.val + 1) / 11 = t.val / 11 + 1 := by omega
    have e2 : (t.val + 1) % 11 = 0 := by omega
    rw [e1, e2, h]
    exact St_wrap c _ _ _ _ _ _ _
  · have e1 : (t.val + 1) / 11 = t.val / 11 := by omega
    have e2 : (t.val + 1) % 11 = t.val % 11 + 1 := by omega
    rw [e1, e2]

abbrev s0 (t : Fin (cfgA hg).N) : Memref sig .tc .vmem S1x2048x512 .bf16 := ((cfgA hg).win 0).stage ((cfgA hg).slots t 0)
abbrev s1 (t : Fin (cfgA hg).N) : Memref sig .tc .vmem S1x2048x512 .bf16 := ((cfgA hg).win 1).stage ((cfgA hg).slots t 1)
abbrev s2 (t : Fin (cfgA hg).N) : Memref sig .tc .vmem S1x512x2048 .bf16 := ((cfgA hg).win 2).stage ((cfgA hg).slots t 2)
abbrev s3 (t : Fin (cfgA hg).N) : Memref sig .tc .vmem S512x16x128 .f32 := ((cfgA hg).win 3).stage ((cfgA hg).slots t 3)

/-- The call's body at a point. -/
abbrev bodyOf (t : Fin (cfgA hg).N) := defs₀ (F := F) .tc (cfgA hg).body ((cfgA hg).bodyArgs t ((cfgA hg).slots t))

/-- What a point is entered with. -/
def entry (c : Dev nD) (t : Fin (cfgA hg).N) : sProp 𝕄 :=
  iprop((dats hg 0 c).Φ t.castSucc ∗ (dats hg 0 c).owesAt () t.castSucc
    ∗ (∃ d, owns (c : Thread nD τ) (s0 hg t) fullShare ((dats hg 0 c).before 0 t d)) ∗ (∃ d, owns (c : Thread nD τ) (s1 hg t) fullShare ((dats hg 0 c).before 1 t d))
    ∗ (∃ d, owns (c : Thread nD τ) (s2 hg t) fullShare ((dats hg 0 c).before 2 t d)) ∗ (∃ d, owns (c : Thread nD τ) (s3 hg t) fullShare ((dats hg 0 c).before 3 t d)))

/-- The result's buffer after a point: untouched before the block's last one. -/
def outAfter (c : Dev nD) (t : Fin (cfgA hg).N) : sProp 𝕄 :=
  if t.val % 11 = 10 then owns (c : Thread nD τ) (s3 hg t) fullShare ((dats hg 0 c).after 3 t)
  else iprop(∃ d, owns (c : Thread nD τ) (s3 hg t) fullShare ((dats hg 0 c).before 3 t d))

def exit (c : Dev nD) (t : Fin (cfgA hg).N) : sProp 𝕄 :=
  iprop((dats hg 0 c).Φ t.succ ∗ (dats hg 0 c).owesAt () t.succ
    ∗ owns (c : Thread nD τ) (s0 hg t) fullShare ((dats hg 0 c).after 0 t) ∗ owns (c : Thread nD τ) (s1 hg t) fullShare ((dats hg 0 c).after 1 t)
    ∗ owns (c : Thread nD τ) (s2 hg t) fullShare ((dats hg 0 c).after 2 t) ∗ outAfter hg c t)

theorem out_left (c : Dev nD) (t : Fin (cfgA hg).N) (d0 : Vec F S512x16x128 .f32) (d)
    (e : ((grid0.coords t 1).val < 10 → d0 = (dats hg 0 c).before 3 t d)
      ∧ ((grid0.coords t 1).val = 10 → d0 = Res (hid m c) (TK m) (nused m) (blkAt hg c 0 t) (blkAt hg c 1 t) (blkAt hg c 2 t) (grid0.coords t 0).val (accB hg c (t.val / 11) (t.val % 11)))) :
    (owns (c : Thread nD τ) (s3 hg t) fullShare d0 : sProp 𝕄) ⊢ outAfter hg c t := by
  rw [co0, co1] at e
  unfold outAfter
  by_cases h : t.val % 11 = 10
  · rw [if_pos h, after3, e.2 h]
    have e' : t.val / 11 * 11 + 10 = t.val := by omega
    unfold resB X6 X7 X8
    rw [e', pt_val, h]
  · rw [if_neg h, e.1 (by omega)]
    iintro H; iexists d; iexact H

set_option maxHeartbeats 1600000 in
theorem sound (c : Dev nD) (t : Fin (cfgA hg).N) :
    entry hg c t ⊢ wp frame (wpE (defs₀ (F := F)) Variants.none (c : Thread nD τ) none) Set.univ (bodyOf hg t) (fun _ => exit hg c t) := by
  unfold entry exit
  simp only [before0, before1, before2]
  rw [Held_castSucc, after0, after1, after2]
  iintro ⟨HS, ⟨%W, -, Ho⟩, ⟨%d0, H0⟩, ⟨%d1, H1⟩, ⟨%d2, H2⟩, ⟨%d3, H3⟩⟩
  unfold bodyOf defs₀
  rw [Defs.onTc_tc]
  iapply (point c (grid0.coords t) (s0 hg t) (hstage0_0 _) (s1 hg t) (hstage0_1 _) (s2 hg t) (hstage0_2 _) (s3 hg t) (hstage0_3 _) (hid m c) (tok m) (TK m) (nused m)
    (TK_names hg) (blkAt hg c 0 t) (blkAt hg c 1 t) (blkAt hg c 2 t) (accB hg c (t.val / 11) (t.val % 11)) ((dats hg 0 c).before 3 t d3) _)
  isplitl [HS]; · iexact HS
  isplitl [Ho]; · iexists W; iexact Ho
  isplitl [H0 H1 H2]
  · isplitl [H0]; · iexact H0
    isplitl [H1]; · iexact H1
    iexact H2
  isplitl [H3]; · iexact H3
  iintro ⟨HS, ⟨%W', Ho⟩, ⟨H0, H1, H2⟩, ⟨%d, %e, H3⟩⟩
  isplitl [HS]
  · iapply (Held_succ hg c t); iexact HS
  isplitl [Ho]
  · iexists W'; isplitr
    · ipureintro; exact fun _ _ => Or.inl trivial
    iexact Ho
  isplitl [H0]; · iexact H0
  isplitl [H1]; · iexact H1
  isplitl [H2]; · iexact H2
  iapply (out_left hg c t d d3 e); iexact H3

theorem left_out (c : Dev nD) (t : Fin (cfgA hg).N) :
    (outAfter hg c t : sProp 𝕄) ⊢
      (match (cfgA hg).idle 3 ((cfgA hg).grid.coords t) with
        | true =>
          match ((cfgA hg).win 3).flush t with
          | false => iprop(∃ d, owns (c : Thread nD τ) (((cfgA hg).win 3).stage ((cfgA hg).slots t 3)) fullShare ((dats hg 0 c).before 3 t d))
          | true => owns (c : Thread nD τ) (((cfgA hg).win 3).stage ((cfgA hg).slots t 3)) fullShare ((dats hg 0 c).after 3 t)
        | false => owns (c : Thread nD τ) (((cfgA hg).win 3).stage ((cfgA hg).slots t 3)) fullShare ((dats hg 0 c).after 3 t)) := by
  rw [show (cfgA hg).idle 3 ((cfgA hg).grid.coords t) = _ from idle3 hg t, flush3]
  unfold outAfter
  by_cases h : t.val % 11 = 10
  · simp only [h, if_true, decide_true, Bool.not_true]; exact .rfl
  · simp only [h, if_false, decide_false, Bool.not_false]; exact .rfl

theorem obligation (c : Dev nD) : BodyObligation (dats hg 0 c) (defs₀ (F := F)) Variants.none () Set.univ := fun t => by
  rw [bigSep_W0, bigSep_W0]
  refine triple_restated (sound hg c t) rfl .rfl fun _ => ?_
  unfold exit
  exact sep_mono .rfl (sep_mono .rfl (sep_mono .rfl (sep_mono .rfl (sep_mono .rfl (left_out hg c t)))))

/-! ## Entering and leaving the region -/

/-- The kernel's own semaphores. -/
abbrev own : Fin 2 → SemLoc sig := fun s => .dma (cellOf s)
theorem own_facts : Pipeline.OwnSemFacts spec0 own := by decide

theorem own_zero (c : Dev nD) : (Pipeline.ownSems0 (Ix := Unit) (Name := ℕ) (U := Pipeline.UD sig nD τ) (Lvl := ℕ) (Val := Elt F) (τ := τ) own c : sProp 𝕄)
    = iprop(sem c 0 ∗ sem c 1) :=
  Idealize.SL.BI.bigSep_univ_eq_bigSepL [0, 1] (by decide) (by decide) _

theorem tables_held (c : Dev nD) (q : PosShare TreeShare) (v : pre0.Contents (Elt F)) :
    (Pipeline.prefHeld pre0 c (fun _ => q) v : sProp 𝕄)
      = iprop((((c : Thread nD τ).loc main_arg2) ↦{q} (show Buf (Elt F) ((c : Thread nD τ).loc main_arg2) from v 0))
        ∗ (((c : Thread nD τ).loc main_arg3) ↦{q} (show Buf (Elt F) ((c : Thread nD τ).loc main_arg3) from v 1))
        ∗ (((c : Thread nD τ).loc main_arg1) ↦{q} (show Buf (Elt F) ((c : Thread nD τ).loc main_arg1) from v 2))) :=
  Idealize.SL.BI.bigSep_univ_eq_bigSepL [0, 1, 2] (by decide) (by decide) _

include hg in
theorem nused_all : (show S1.Idx → Elt F .i32 from tabs m 1) = fun _ => nused m :=
  funext fun x => congrArg (tabs m 1) (one_eq x)

theorem emp_owned (c : Dev nD) : (BI.emp : sProp 𝕄) ⊢ Pipeline.owned (∅ : Finset (Ref sig .tc)) c := by
  unfold Pipeline.owned; rw [bigSep_empty]

theorem enter (c : Dev nD) :
    iprop(Pipeline.ΦDR own spec0 {main_arg0} ∅ (fun c b => V m c b) c ∗ Pipeline.ΦT pre0 (adm hg).1 c) ⊢ (dats hg 0 c).Φ 0 := by
  show _ ⊢ Held hg c 0
  unfold Held St
  rw [Pipeline.ΦDR_eq, scopedRest0_eq, own_zero, Idealize.SL.BI.bigSep_singleton, V_other m c main_arg0 (by decide) (by decide) (by decide)]
  unfold Pipeline.ΦT
  rw [tables_held]
  have e1 : ((adm hg).1 1 : S1.Idx → Elt F .i32) = fun _ => nused m := nused_all hg
  rw [show (show Buf (Elt F) ((c : Thread nD τ).loc main_arg3) from (adm hg).1 1) = fun _ => nused m from e1]
  rw [DM_neg _ _ _ _ (show ¬(Used (nused m) (0 / 11 + 1) ∧ 1 ≤ 0 % 11 ∧ 0 % 11 ≤ 5) from fun h => absurd h.2.1 (by decide))]
  unfold Idle HS AC
  iintro ⟨⟨⟨X0, X1, ⟨%f2, X2⟩, ⟨%f3, X3⟩⟩, -, ⟨S0, S1⟩, H, -⟩, ⟨-, T1, T2⟩⟩
  isplitl [T2]; · iexact T2
  isplitl [X1]; · iexact X1
  isplitl [X2]
  · iexists f2; isplitr
    · ipureintro; exact ⟨fun _ h => absurd ⟨rfl, rfl⟩ h, fun _ h => absurd h (by decide)⟩
    iexact X2
  isplitl [X3]
  · iexists f3; isplitr
    · ipureintro; exact fun _ h => absurd h (by decide)
    iexact X3
  isplitr [T1]
  · isplitl [X0]; · iexact X0
    isplitl [H]; · iexact H
    isplitl [S0]; · iexact S0
    iexact S1
  iexact T1

theorem leave (c : Dev nD) : (dats hg 0 c).Φ (Fin.last (cfgA hg).N)
    ⊢ iprop(Pipeline.scopedRest (Ix := Unit) (Name := ℕ) (U := Pipeline.UD sig nD τ) (Lvl := ℕ) (Val := Elt F) spec0 c
        ∗ Pipeline.ownSems0 (Ix := Unit) (Name := ℕ) (U := Pipeline.UD sig nD τ) (Lvl := ℕ) (Val := Elt F) (τ := τ) own c
        ∗ (bigSep {main_arg0} fun b => ((c : Thread nD τ).loc b) ↦{fullShare} V m c b) ∗ Pipeline.owned ∅ c) := by
  show Held hg c (Fin.last (cfgA hg).N).val ⊢ _
  rw [Fin.val_last, N_A]
  unfold Held St
  rw [scopedRest0_eq, own_zero, Idealize.SL.BI.bigSep_singleton, V_other m c main_arg0 (by decide) (by decide) (by decide)]
  rw [DM_neg _ _ _ _ (show ¬(Used (nused m) (792 / 11 + 1) ∧ 1 ≤ 792 % 11 ∧ 792 % 11 ≤ 5) from fun h => absurd h.2.1 (by decide))]
  unfold Idle HS AC
  iintro ⟨-, X1, ⟨%f2, -, X2⟩, ⟨%f3, -, X3⟩, ⟨X0, H, S0, S1⟩, -⟩
  isplitl [X0 X1 X2 X3]
  · isplitl [X0]; · iexact X0
    isplitl [X1]; · iexact X1
    isplitl [X2]; · iexists f2; iexact X2
    iexists f3; iexact X3
  isplitl [S0 S1]
  · isplitl [S0]; · iexact S0
    iexact S1
  isplitl [H]; · iexact H
  iapply (emp_owned c); iempintro

/-! ## The run -/

set_option backward.isDefEq.respectTransparency.types false in
/-- Every execution ends with each array at what the points wrote, the other buffers as the region found them, and every semaphore counter at zero. -/
theorem run_all (ρ : Dev nD → PrngReg) : θ_run defs (onTc (τ := τ) (main (F := F))) ⟨m, fun _ => 0, ρ⟩
    (fun r => Pipeline.FramePostR (Pipeline.pin (pcfgs (F := F)) (fun _ => adm hg)) (dats hg) 0 (∅ ∪ ∅) (fun c b => V m c b) r ∧ r.2.sem = fun _ => 0) :=
  Pipeline.θ_run_frameP_dmaR_around_drop_shared (Q' := _) (pcfgs (F := F)) (fun _ => adm hg) (dats hg) (0 : Fin 1) (launch0 (F := F)).to₀ own defs₀ Variants.none
    own_facts {main_arg0} ∅ ∅ (show {main_arg0} ⊆ Pipeline.restRefsP sig pre0 spec0 by decide) (show ∅ ⊆ Pipeline.restRefsP sig pre0 spec0 \ {main_arg0} from Finset.empty_subset _) m ρ main
    (hbody := fun c => (obligation hg c).loose) (hq := fun _ _ _ => rfl) (howed := fun _ _ => rfl)
    (V₀ := fun c => StableHlo.after hostOps0 (fun b => m (c, b))) (opss := [])
    (hsub := fun _ h => absurd h List.not_mem_nil) (hfresh := fun _ h => absurd h List.not_mem_nil) (hkeep := fun _ h => absurd h List.not_mem_nil) (hT := fun _ h => absurd h List.not_mem_nil)
    (hmain := Pipeline.hmainP_around (pcfgs (F := F)) 0 defs₀ Variants.none m main [hostOps0] [] hostOps0_sub ops_fresh main_chain)
    (hA := fun c w => A_eq hg c w) (hpf := fun c k => V_pre m c k) (hin := fun c => enter hg c) (hout := fun c => leave hg c)

theorem kept (c : Dev nD) (r : PUnit × MemSt nD τ sig (Elt F))
    (h : ∀ b ∈ Pipeline.restRefs sig spec0 \ (∅ ∪ ∅), r.2.mem ((c : Thread nD τ).loc b) = V m c b) (b : Ref sig .tc) (hb : b ∈ Pipeline.restRefs sig spec0)
    (h0 : main_v0 ≠ b) (h1 : main_v1 ≠ b) (h2 : main_v2 ≠ b) : r.2.mem ((c : Thread nD τ).loc b) = m ((c : Thread nD τ).loc b) :=
  (h b (Finset.mem_sdiff.mpr ⟨hb, by simp⟩)).trans (V_other m c b h0 h1 h2)

include hg in
/-- The arguments end unchanged and the counters at zero. -/
theorem frame_run (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨kept c r (h.1 c).2 main_arg0 (Pipeline.mem_restRefs_of main_arg0 (by decide) (by decide)) (by decide) (by decide) (by decide),
      kept c r (h.1 c).2 main_arg1 (Pipeline.mem_restRefs_of main_arg1 (by decide) (by decide)) (by decide) (by decide) (by decide),
      kept c r (h.1 c).2 main_arg2 (Pipeline.mem_restRefs_of main_arg2 (by decide) (by decide)) (by decide) (by decide) (by decide),
      kept c r (h.1 c).2 main_arg3 (Pipeline.mem_restRefs_of main_arg3 (by decide) (by decide)) (by decide) (by decide) (by decide),
      kept c r (h.1 c).2 main_arg4 (Pipeline.mem_restRefs_of main_arg4 (by decide) (by decide)) (by decide) (by decide) (by decide),
      kept c r (h.1 c).2 main_arg5 (Pipeline.mem_restRefs_of main_arg5 (by decide) (by decide)) (by decide) (by decide) (by decide),
      kept c r (h.1 c).2 main_arg6 (Pipeline.mem_restRefs_of main_arg6 (by decide) (by decide)) (by decide) (by decide) (by decide)⟩, h.2⟩)
    (run_all hg ρ)

/-- The result the call ends with, block by block. -/
theorem result_run (ρ : Dev nD → PrngReg) : θ_run defs (onTc (τ := τ) (main (F := F))) ⟨m, fun _ => 0, ρ⟩ (fun r => ∀ c : Dev nD,
      r.2.mem ((c.tc : Thread nD τ).loc main_v3) = (dats hg 0 c).arrAt 3 (cfgA hg).N) :=
  (θ_run defs _ _).mono (fun r h c => (h.1 c).1 3) (run_all hg ρ)
end Run

/-! ## The precondition, read -/

section Words
variable {F' : FTy → Type} [FloatOps F']
local instance : Cert.Pre_tables_in_range.Facts := Cert.Pre_tables_in_range.Gen.facts
open Cert.Pre_tables_in_range in
theorem words_of_pre (a0 : FVec F' Cert.Pre_tables_in_range.S16384x16x128 .f32) (a1 : IVec Cert.Pre_tables_in_range.S36864 32) (a2 : IVec Cert.Pre_tables_in_range.S72 32)
    (a3 : IVec Cert.Pre_tables_in_range.S1 32) (a4 a5 : FVec F' Cert.Pre_tables_in_range.S8x2048x5632 .f32) (a6 : FVec F' Cert.Pre_tables_in_range.S8x5632x2048 .f32)
    (h : Cert.Pre_tables_in_range.fn (F := F') a0 a1 a2 a3 a4 a5 a6 = fun _ => 1#1) :
    (∀ x, (a1 x).toNat < 16384) ∧ ∀ x, (a2 x).toNat < 8 := by
  have and_bool (p q : Bool) : IntOp.andi (BitVec.ofBool p) (BitVec.ofBool q) = BitVec.ofBool (p && q) := by cases p <;> cases q <;> decide
  have bool_one (p : Bool) : (BitVec.ofBool p = 1#1) ↔ p = true := by cases p <;> decide
  haveI : Subsingleton Cert.Pre_tables_in_range.S_.Idx := ⟨fun a b => funext fun k => k.elim0⟩
  have e := congrFun h (fun k => k.elim0)
  unfold Cert.Pre_tables_in_range.fn at e
  dsimp only at e
  dsimp only [andi] at e
  obtain ⟨e1, e2⟩ := IntOp.andi_eq_one.1 e
  refine ⟨fun x => ?_, fun x => ?_⟩
  · have k : IntOp.andi (IntOp.cmpi .sge (a1 x) 0#32) (IntOp.cmpi .slt (a1 x) 16384#32) = 1#1 := Host.reduce_andi_all _ _ _ _ _ e1 x
    simp only [IntOp.cmpi, and_bool, bool_one, Bool.and_eq_true, BitVec.sle_eq_decide, BitVec.slt_eq_decide,
      decide_eq_true_eq, BitVec.toInt_eq_toNat_cond, BitVec.toNat_ofNat, Nat.reducePow, Nat.reduceMod] at k
    omega
  · have k : IntOp.andi (IntOp.cmpi .sge (a2 x) 0#32) (IntOp.cmpi .slt (a2 x) 8#32) = 1#1 := Host.reduce_andi_all _ _ _ _ _ e2 x
    simp only [IntOp.cmpi, and_bool, bool_one, Bool.and_eq_true, BitVec.sle_eq_decide, BitVec.slt_eq_decide,
      decide_eq_true_eq, BitVec.toInt_eq_toNat_cond, BitVec.toNat_ofNat, Nat.reducePow, Nat.reduceMod] at k
    omega
end Words

/-! ## The kernel with its precondition -/

local instance : Cert.Pre_tables_in_range.Facts := Cert.Pre_tables_in_range.Gen.facts

theorem good_of_pre (m : (ℓ : Loc nD τ sig) → Buf (Elt Ideal) ℓ) (h : Cert.Pre_Kernel4Ideal m) : Good m := by
  obtain ⟨h1, h2⟩ := words_of_pre _ _ _ _ _ _ _ (h d0)
  exact ⟨h1, h2⟩

theorem frame_kernel : Cert.quiescent_Kernel4Ideal (hKernel4Ideal := Cert.Kernel4Ideal.Gen.facts) (hPre_tables_in_range := Cert.Pre_tables_in_range.Gen.facts) :=
  fun m ρ h => frame_run (good_of_pre m h) ρ
end Cert.Kernel4Ideal.Hand

namespace Cert.Kernel4.Hand

open Cert.Kernel4Ideal Cert.Kernel4Ideal.Gen Idealize.ShloMosaic Idealize.ShloMosaic.TcCoe

local instance : Cert.Pre_tables_in_range.Facts := Cert.Pre_tables_in_range.Gen.facts
local instance : Cert.Kernel4.Facts := Cert.Kernel4.Gen.facts

/-- The kernel's bodies at bit words are its idealization's text at them. -/
theorem bodies_same : Cert.Kernel4.defs₀ (F := Bits) = Cert.Kernel4Ideal.defs₀ (F := Bits) := by
  unfold Cert.Kernel4.defs₀ Cert.Kernel4Ideal.defs₀
  refine congrArg Defs.onTc (funext fun ℓ => funext fun a => ?_)
  obtain rfl : ℓ = (0 : Fin 1) := Subsingleton.elim _ _
  obtain ⟨t, s⟩ := a
  rfl

theorem defs_same : Cert.Kernel4.defs (F := Bits) = Cert.Kernel4Ideal.defs (F := Bits) := by
  unfold Cert.Kernel4.defs Cert.Kernel4Ideal.defs
  rw [bodies_same]
  rfl

theorem good_of_pre (m : (ℓ : Loc nD τ sig) → Buf (Elt Bits) ℓ) (h : Cert.Pre_Kernel4 m) : Cert.Kernel4Ideal.Hand.Good m := by
  obtain ⟨h1, h2⟩ := Cert.Kernel4Ideal.Hand.words_of_pre _ _ _ _ _ _ _ (h (0 : Dev nD))
  exact ⟨h1, h2⟩

theorem frame_kernel : Cert.quiescent_Kernel4 (hKernel4 := Cert.Kernel4.Gen.facts) (hPre_tables_in_range := Cert.Pre_tables_in_range.Gen.facts) := fun m ρ h =>
  (congrArg (fun D => θ_run D (onTc (τ := τ) (Cert.Kernel4.main (F := Bits))) ⟨m, fun _ => 0, ρ⟩ _) defs_same).mpr (Cert.Kernel4Ideal.Hand.frame_run (F := Bits) (good_of_pre m h) ρ)

end Cert.Kernel4.Hand

namespace Cert.Kernel4Ideal.Hand

end Cert.Kernel4Ideal.Hand

end
-- ==== Proof.ExpertReference.lean ====
/-
  The reference of the expert call, read at an index: the gather of token rows and of the experts' weights read at tables
  whose words are in range, the gated unit's two products, and the choice between a block in use and zero.
-/
module

public import proofs.«01_k».proof.Proof.Gen.Reference4Ideal.Run
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem

namespace Cert.Reference4Ideal.Value

open Cert.Reference4Ideal Cert.Reference4Ideal.Gen

/-- The gated unit's activation: `a · logistic(a) · b`. -/
def gated (a b : EReal) : EReal := a * Ideal.logistic a * b

/-- A table's words, a negative one moved up by the number of rows. -/
def wrapTok (s : IVec S36864 32) : IVec S36864 32 :=
  select (cmpi .slt s (broadcastInDim S36864 ![] bcast_S_S36864 (constantI S_ 32 0#32))) (addi s (broadcastInDim S36864 ![] bcast_S_S36864 (constantI S_ 32 16384#32))) s

def wrapExp (e : IVec S72 32) : IVec S72 32 :=
  select (cmpi .slt e (broadcastInDim S72 ![] bcast_S_S72 (constantI S_ 32 0#32))) (addi e (broadcastInDim S72 ![] bcast_S_S72 (constantI S_ 32 8#32))) e

/-- The gathered token rows, by block. -/
def rowsOf (h : FVec Ideal S16384x16x128 .f32) (s : IVec S36864 32) : FVec Ideal S72x512x2048 .f32 :=
  shapeCast S72x512x2048 (Host.gather gather_S16384x2048_S36864x1_S36864x2048_1_0_n_n_0_1_12048
    (shapeCast S16384x2048 h shapeCasts_S16384x16x128_S16384x2048) (broadcastInDim S36864x1 ![0] bcast_S36864_S36864x1_0 (wrapTok s))) shapeCasts_S36864x2048_S72x512x2048

/-- Three zero-based start words for each block: the expert's, and two of value 0. -/
def starts (e : IVec S72 32) (p q : IVec S_ 32) : IVec S72x3 32 :=
  concatenate S72x3 1 [⟨S72x1, broadcastInDim S72x1 ![0] bcast_S72_S72x1_0 (wrapExp e)⟩,
    ⟨S72x1, broadcastInDim S72x1 ![] bcast_S_S72x1 p⟩, ⟨S72x1, broadcastInDim S72x1 ![] bcast_S_S72x1 q⟩] concatenates_S72x1_S72x1_S72x1_S72x3_d1

def zeroWord (n : BitVec 32) : IVec S_ 32 :=
  select (cmpi .slt (constantI S_ 32 0#32) (constantI S_ 32 0#32)) (addi (constantI S_ 32 0#32) (constantI S_ 32 n)) (constantI S_ 32 0#32)

def inOf (w : FVec Ideal S8x2048x5632 .f32) (st : IVec S72x3 32) : FVec Ideal S72x2048x5632 .f32 :=
  shapeCast S72x2048x5632 (Host.gather gather_S8x2048x5632_S72x3_S72x1x2048x5632_123_n_n_n_012_1_120485632 w st) shapeCasts_S72x1x2048x5632_S72x2048x5632

def outOf (w : FVec Ideal S8x5632x2048 .f32) (st : IVec S72x3 32) : FVec Ideal S72x5632x2048 .f32 :=
  shapeCast S72x5632x2048 (Host.gather gather_S8x5632x2048_S72x3_S72x1x5632x2048_123_n_n_n_012_1_156322048 w st) shapeCasts_S72x1x5632x2048_S72x5632x2048

/-- What follows the gathers. -/
def core (x : FVec Ideal S72x512x2048 .f32) (wg wu : FVec Ideal S72x2048x5632 .f32) (wd : FVec Ideal S72x5632x2048 .f32) (n : IVec S1 32) :
    FVec Ideal S72x512x2048 .f32 :=
  select (broadcastInDim S72x512x2048 ![0, 1, 2] bcast_S72x1x1_S72x512x2048_0_1_2 (broadcastInDim S72x1x1 ![0] bcast_S72_S72x1x1_0 (cmpi .slt (iotaInDim S72 32 0) (broadcastInDim S72 ![0] bcast_S1_S72_0 n)))) (Host.dotGeneral dot_S72x512x5632_S72x5632x2048_S72x512x2048_2_1_1_2_0_0 none (mulf (mulf (Host.dotGeneral dot_S72x512x2048_S72x2048x5632_S72x512x5632_2_1_1_2_0_0 none x wg) (Host.divf (broadcastInDim S72x512x5632 ![] bcast_S_S72x512x5632 (constant S_ .f32 0x3F800000#32)) (addf (broadcastInDim S72x512x5632 ![] bcast_S_S72x512x5632 (constant S_ .f32 0x3F800000#32)) (Host.exp (Host.negf (Host.dotGeneral dot_S72x512x2048_S72x2048x5632_S72x512x5632_2_1_1_2_0_0 none x wg)))))) (Host.dotGeneral dot_S72x512x2048_S72x2048x5632_S72x512x5632_2_1_1_2_0_0 none x wu)) wd) (broadcastInDim S72x512x2048 ![] bcast_S_S72x512x2048 (sitofp .f32 (constantI S_ 32 0#32)))

/-- The reference's result, of its arguments. -/
def whole (h : FVec Ideal S16384x16x128 .f32) (s : IVec S36864 32) (e : IVec S72 32) (n : IVec S1 32)
    (wg wu : FVec Ideal S8x2048x5632 .f32) (wd : FVec Ideal S8x5632x2048 .f32) : FVec Ideal S36864x16x128 .f32 :=
  shapeCast S36864x16x128 (core (rowsOf h s) (inOf wg (starts e (zeroWord 2048#32) (zeroWord 5632#32))) (inOf wu (starts e (zeroWord 2048#32) (zeroWord 5632#32)))
    (outOf wd (starts e (zeroWord 5632#32) (zeroWord 2048#32))) n) shapeCasts_S72x512x2048_S36864x16x128

theorem res_eq (m : (ℓ : Loc nD τ sig) → Buf (Elt Ideal) ℓ) (c : Dev nD) :
    res_main_v70 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

theorem wrap_word (x y : BitVec 32) (h : 0 ≤ x.toInt) : Scalar.select (IntOp.cmpi .slt x 0#32) y x = x := by
  have e : x.slt 0#32 = false := by
    rw [BitVec.slt_eq_decide]
    simpa using h
  show Scalar.select (BitVec.ofBool (x.slt 0#32)) y x = x
  rw [e]
  rfl

theorem wrapTok_eq (s : IVec S36864 32) (i : Fin 36864) (h : 0 ≤ (s (ix1 i)).toInt) : wrapTok s (ix1 i) = s (ix1 i) :=
  wrap_word _ _ h

theorem wrapExp_eq (s : IVec S72 32) (i : Fin 72) (h : 0 ≤ (s (ix1 i)).toInt) : wrapExp s (ix1 i) = s (ix1 i) :=
  wrap_word _ _ h

theorem core_at (x : FVec Ideal S72x512x2048 .f32) (wg wu : FVec Ideal S72x2048x5632 .f32) (wd : FVec Ideal S72x5632x2048 .f32) (n : IVec S1 32)
    (b : Fin 72) (r : Fin 512) (l : Fin 2048) :
    core x wg wu wd n (ix3 b r l) = Scalar.select (IntOp.cmpi .slt (BitVec.ofNat 32 b.val) (n (ix1 (0 : Fin 1)))) (∑ f : Fin 5632,
      gated (∑ k : Fin 2048, x (ix3 b r k) * wg (ix3 b k f)) (∑ k : Fin 2048, x (ix3 b r k) * wu (ix3 b k f)) * wd (ix3 b f l))
      (FloatOps.sitofp (F := Ideal) .f32 (0#32 : BitVec 32) : EReal) := by
  unfold gated
  pointwise [core]
  rfl

theorem starts_at (e : IVec S72 32) (p q : IVec S_ 32) (b : Fin 72) : starts e p q (ix2 b (0 : Fin 3)) = wrapExp e (ix1 b) := by
  pointwise [starts]

theorem tokGather_at (x : FVec Ideal S16384x2048 .f32) (idx : IVec S36864x1 32) (R : Fin 36864) (k : Fin 2048) :
    Host.gather gather_S16384x2048_S36864x1_S36864x2048_1_0_n_n_0_1_12048 x idx (ix2 R k)
      = x (ix2 ⟨min (idx (ix2 R (0 : Fin 1))).toInt.toNat 16383, by omega⟩ k) := by
  unfold Host.gather
  congr 1
  funext a
  refine Fin.ext ?_
  match a with
  | ⟨0, _⟩ =>
    show min (idx (GatherDims.siIdx _ _ _)).toInt.toNat (16384 - 1) + 0 + 0 = _
    have hsi : ∀ p : _, GatherDims.siIdx gather_S16384x2048_S36864x1_S36864x2048_1_0_n_n_0_1_12048 (ix2 R k) ⟨0, p⟩ = ix2 R (0 : Fin 1) := by
      intro p
      funext b; refine Fin.ext ?_
      match b with
      | ⟨0, _⟩ => rfl
      | ⟨1, _⟩ => rfl
    exact congrArg (fun i => min (idx i).toInt.toNat 16383) (hsi _)
  | ⟨1, _⟩ =>
    show 0 + 0 + k.val = k.val
    omega

theorem inGather_at (x : FVec Ideal S8x2048x5632 .f32) (idx : IVec S72x3 32) (b : Fin 72) (k : Fin 2048) (f : Fin 5632) :
    Host.gather gather_S8x2048x5632_S72x3_S72x1x2048x5632_123_n_n_n_012_1_120485632 x idx (ix4 b (0 : Fin 1) k f)
      = x (ix3 ⟨min (idx (ix2 b (0 : Fin 3))).toInt.toNat 7, by omega⟩ k f) := by
  unfold Host.gather
  congr 1
  funext a
  refine Fin.ext ?_
  match a with
  | ⟨0, _⟩ =>
    show min (idx (GatherDims.siIdx _ _ _)).toInt.toNat (8 - 1) + 0 + 0 = _
    have hsi : ∀ p : _, GatherDims.siIdx gather_S8x2048x5632_S72x3_S72x1x2048x5632_123_n_n_n_012_1_120485632 (ix4 b (0 : Fin 1) k f) ⟨0, p⟩ = ix2 b (0 : Fin 3) := by
      intro p
      funext b; refine Fin.ext ?_
      match b with
      | ⟨0, _⟩ => rfl
      | ⟨1, _⟩ => rfl
    exact congrArg (fun i => min (idx i).toInt.toNat 7) (hsi _)
  | ⟨1, _⟩ =>
    have hs : GatherDims.start gather_S8x2048x5632_S72x3_S72x1x2048x5632_123_n_n_n_012_1_120485632 (ix4 b (0 : Fin 1) k f) idx 1 ≤ 2048 - 2048 := GatherDims.start_le _ _ _ _
    show GatherDims.start gather_S8x2048x5632_S72x3_S72x1x2048x5632_123_n_n_n_012_1_120485632 (ix4 b (0 : Fin 1) k f) idx 1 + 0 + k.val = k.val
    omega
  | ⟨2, _⟩ =>
    have hs : GatherDims.start gather_S8x2048x5632_S72x3_S72x1x2048x5632_123_n_n_n_012_1_120485632 (ix4 b (0 : Fin 1) k f) idx 2 ≤ 5632 - 5632 := GatherDims.start_le _ _ _ _
    show GatherDims.start gather_S8x2048x5632_S72x3_S72x1x2048x5632_123_n_n_n_012_1_120485632 (ix4 b (0 : Fin 1) k f) idx 2 + 0 + f.val = f.val
    omega

theorem outGather_at (x : FVec Ideal S8x5632x2048 .f32) (idx : IVec S72x3 32) (b : Fin 72) (f : Fin 5632) (k : Fin 2048) :
    Host.gather gather_S8x5632x2048_S72x3_S72x1x5632x2048_123_n_n_n_012_1_156322048 x idx (ix4 b (0 : Fin 1) f k)
      = x (ix3 ⟨min (idx (ix2 b (0 : Fin 3))).toInt.toNat 7, by omega⟩ f k) := by
  unfold Host.gather
  congr 1
  funext a
  refine Fin.ext ?_
  match a with
  | ⟨0, _⟩ =>
    show min (idx (GatherDims.siIdx _ _ _)).toInt.toNat (8 - 1) + 0 + 0 = _
    have hsi : ∀ p : _, GatherDims.siIdx gather_S8x5632x2048_S72x3_S72x1x5632x2048_123_n_n_n_012_1_156322048 (ix4 b (0 : Fin 1) f k) ⟨0, p⟩ = ix2 b (0 : Fin 3) := by
      intro p
      funext b; refine Fin.ext ?_
      match b with
      | ⟨0, _⟩ => rfl
      | ⟨1, _⟩ => rfl
    exact congrArg (fun i => min (idx i).toInt.toNat 7) (hsi _)
  | ⟨1, _⟩ =>
    have hs : GatherDims.start gather_S8x5632x2048_S72x3_S72x1x5632x2048_123_n_n_n_012_1_156322048 (ix4 b (0 : Fin 1) f k) idx 1 ≤ 5632 - 5632 := GatherDims.start_le _ _ _ _
    show GatherDims.start gather_S8x5632x2048_S72x3_S72x1x5632x2048_123_n_n_n_012_1_156322048 (ix4 b (0 : Fin 1) f k) idx 1 + 0 + f.val = f.val
    omega
  | ⟨2, _⟩ =>
    have hs : GatherDims.start gather_S8x5632x2048_S72x3_S72x1x5632x2048_123_n_n_n_012_1_156322048 (ix4 b (0 : Fin 1) f k) idx 2 ≤ 2048 - 2048 := GatherDims.start_le _ _ _ _
    show GatherDims.start gather_S8x5632x2048_S72x3_S72x1x5632x2048_123_n_n_n_012_1_156322048 (ix4 b (0 : Fin 1) f k) idx 2 + 0 + k.val = k.val
    omega

theorem flat_at (h : FVec Ideal S16384x16x128 .f32) (T : Fin 16384) (k : Fin 2048) :
    shapeCast S16384x2048 h shapeCasts_S16384x16x128_S16384x2048 (ix2 T k) = h (ix3 T (⟨k.val / 128, by omega⟩ : Fin 16) (⟨k.val % 128, by omega⟩ : Fin 128)) :=
  Idealize.ShloMosaic.shapeCast_apply _ _ _ _ (by
    rw [Shape.rowMajor_val_two, Shape.rowMajor_val_three]
    show (T.val * 16 + k.val / 128) * 128 + k.val % 128 = T.val * 2048 + k.val
    omega)

theorem column_at (s : IVec S36864 32) (R : Fin 36864) :
    broadcastInDim S36864x1 ![0] bcast_S36864_S36864x1_0 s (ix2 R (0 : Fin 1)) = s (ix1 R) := by
  pointwise

/-- Row `r` of block `b` of the gathered tokens. -/
theorem rowsOf_at (h : FVec Ideal S16384x16x128 .f32) (s : IVec S36864 32) (b : Fin 72) (r : Fin 512) (k : Fin 2048)
    (hs : 0 ≤ (s (ix1 (⟨512 * b.val + r.val, by omega⟩ : Fin 36864))).toInt) :
    rowsOf h s (ix3 b r k) = h (ix3 (⟨min (s (ix1 (⟨512 * b.val + r.val, by omega⟩ : Fin 36864))).toInt.toNat 16383, by omega⟩ : Fin 16384)
      (⟨k.val / 128, by omega⟩ : Fin 16) (⟨k.val % 128, by omega⟩ : Fin 128)) := by
  unfold rowsOf
  rw [Idealize.ShloMosaic.shapeCast_apply _ _ (ix3 b r k) (ix2 (⟨512 * b.val + r.val, by omega⟩ : Fin 36864) k) (by
      rw [Shape.rowMajor_val_two, Shape.rowMajor_val_three]
      show (512 * b.val + r.val) * 2048 + k.val = (b.val * 512 + r.val) * 2048 + k.val
      omega), tokGather_at, flat_at]
  exact congrArg (fun w : BitVec 32 => h (ix3 (⟨min w.toInt.toNat 16383, by omega⟩ : Fin 16384) (⟨k.val / 128, by omega⟩ : Fin 16) (⟨k.val % 128, by omega⟩ : Fin 128)))
    ((column_at _ _).trans (wrapTok_eq s _ hs))

/-- The weights of block `b`'s expert. -/
theorem inOf_at (w : FVec Ideal S8x2048x5632 .f32) (e : IVec S72 32) (p q : IVec S_ 32) (b : Fin 72) (k : Fin 2048) (f : Fin 5632)
    (he : 0 ≤ (e (ix1 b)).toInt) :
    inOf w (starts e p q) (ix3 b k f) = w (ix3 (⟨min (e (ix1 b)).toInt.toNat 7, by omega⟩ : Fin 8) k f) := by
  unfold inOf
  rw [Idealize.ShloMosaic.shapeCast_apply _ _ (ix3 b k f) (ix4 b (0 : Fin 1) k f) (by
      rw [Shape.rowMajor_val_four, Shape.rowMajor_val_three]
      show ((b.val * 1 + 0) * 2048 + k.val) * 5632 + f.val = (b.val * 2048 + k.val) * 5632 + f.val
      omega), inGather_at]
  simp only [starts_at, wrapExp_eq e b he]

theorem outOf_at (w : FVec Ideal S8x5632x2048 .f32) (e : IVec S72 32) (p q : IVec S_ 32) (b : Fin 72) (f : Fin 5632) (k : Fin 2048)
    (he : 0 ≤ (e (ix1 b)).toInt) :
    outOf w (starts e p q) (ix3 b f k) = w (ix3 (⟨min (e (ix1 b)).toInt.toNat 7, by omega⟩ : Fin 8) f k) := by
  unfold outOf
  rw [Idealize.ShloMosaic.shapeCast_apply _ _ (ix3 b f k) (ix4 b (0 : Fin 1) f k) (by
      rw [Shape.rowMajor_val_four, Shape.rowMajor_val_three]
      show ((b.val * 1 + 0) * 5632 + f.val) * 2048 + k.val = (b.val * 5632 + f.val) * 2048 + k.val
      omega), outGather_at]
  simp only [starts_at, wrapExp_eq e b he]

/-- The result at row `r` of block `b`, column `128 a + z`. -/
theorem whole_at (h : FVec Ideal S16384x16x128 .f32) (s : IVec S36864 32) (e : IVec S72 32) (n : IVec S1 32)
    (wg wu : FVec Ideal S8x2048x5632 .f32) (wd : FVec Ideal S8x5632x2048 .f32) (b : Fin 72) (r : Fin 512) (a : Fin 16) (z : Fin 128) :
    whole h s e n wg wu wd (ix3 (⟨512 * b.val + r.val, by omega⟩ : Fin 36864) a z)
      = core (rowsOf h s) (inOf wg (starts e (zeroWord 2048#32) (zeroWord 5632#32))) (inOf wu (starts e (zeroWord 2048#32) (zeroWord 5632#32)))
    (outOf wd (starts e (zeroWord 5632#32) (zeroWord 2048#32))) n (ix3 b r (⟨128 * a.val + z.val, by omega⟩ : Fin 2048)) := by
  unfold whole
  rw [Idealize.ShloMosaic.shapeCast_apply _ _ _ (ix3 b r (⟨128 * a.val + z.val, by omega⟩ : Fin 2048)) (by
      rw [Shape.rowMajor_val_three, Shape.rowMajor_val_three]
      show (b.val * 512 + r.val) * 2048 + (128 * a.val + z.val) = ((512 * b.val + r.val) * 16 + a.val) * 128 + z.val
      omega)]

end Cert.Reference4Ideal.Value

end
-- ==== Proof.ExpertValue.lean ====
/-
  The value of the expert call. Block b's expert reads the b-th group of 512 slots; for a used block, the 11 tiles of the
  hidden width add up to the whole sum over the width, from the rows that the slots name; an unused block is left zero. The
  result array the kernel leaves is the reference's, element by element.
-/
module

public import proofs.«01_k».proof.Proof.Gen.Kernel4Ideal
public import proofs.«01_k».proof.Proof.Gen.Kernel4Ideal.Launch
public import proofs.«01_k».proof.Proof.Gen.Kernel4Ideal.Loops
public import proofs.«01_k».proof.Proof.Gen.Kernel4Ideal.Skeleton
public import proofs.«01_k».proof.Proof.ExpertRun
public import proofs.«01_k».proof.Proof.ExpertReference
public import Idealize.ShloMosaic.Lib.ValueLayout
public import Idealize.ShloMosaic.Lib.Pointwise
public import Idealize.ShloMosaic.Lib.WritesUnit
public import Idealize.ShloMosaic.Lib.Batch
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import Idealize.ShloMosaic.Lib.Quiescent
public import Idealize.ShloMosaic.Lib.Pipeline.FrameSuffix
public import Idealize.ShloMosaic.Lib.ReduceAll
public import proofs.«01_k».proof.Proof.Gen.Kernel4
public import proofs.«01_k».proof.Defs
public import proofs.«01_k».proof.Proof.Gen.Pre_tables_in_range
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
open Idealize.ShloMosaic.Pipeline (Dat BodyObligation BodyObligationLoose)

/-! ## The computation of a point, read at an index -/

section Pay

/-- The gated unit's activation: `a · logistic(a) · b`. -/
def gated (a b : EReal) : EReal := a * Ideal.logistic a * b

variable (h : Vec Ideal S1x512x2048 .bf16) (g u : Vec Ideal S1x2048x512 .bf16) (d : Vec Ideal S1x512x2048 .bf16)

/-- What one tile of the inner width contributes at row `r`, column `l`. -/
def part (r : Fin 512) (l : Fin 2048) : EReal :=
  ∑ x : Fin 512, gated (∑ k : Fin 2048, h (ix3 (0 : Fin 1) r k) * g (ix3 (0 : Fin 1) k x))
    (∑ k : Fin 2048, h (ix3 (0 : Fin 1) r k) * u (ix3 (0 : Fin 1) k x)) * d (ix3 (0 : Fin 1) x l)

theorem pay55_at (x : Vec Ideal S512x2048 .f32) (r : Fin 512) (k : Fin 2048) :
    k0_pay55 x (ix3 (0 : Fin 1) r k) = x (ix2 r k) := by
  pointwise [k0_pay55]

theorem pay33_at (acc : Vec Ideal S512x2048 .f32) (r : Fin 512) (l : Fin 2048) :
    k0_pay33 acc h g u d (ix2 r l) = acc (ix2 r l) + part h g u d r l := by
  unfold part gated
  pointwise [k0_pay33]

theorem pay56_at (r : Fin 512) (l : Fin 2048) :
    k0_pay56 h g u d (ix2 r l) = part h g u d r l := by
  unfold part gated
  pointwise [k0_pay56]

theorem pay57_at (acc : Vec Ideal S512x2048 .f32) (r : Fin 512) (l : Fin 2048) :
    k0_pay57 acc h g u d (ix2 r l) = acc (ix2 r l) + part h g u d r l := by
  unfold part gated
  pointwise [k0_pay57]

theorem pay1_at (r : Fin 512) (a : Fin 16) (z : Fin 128) : k0_pay1 (F := Ideal) (ix3 r a z) = 0 := by
  pointwise [k0_pay1]

end Pay

/-! ## The arrays and the blocks a point reads -/

section Blocks

variable (m : (ℓ : Loc nD τ sig) → Buf (Elt Ideal) ℓ)

theorem V0_at (c : Dev nD) (e : Fin 8) (k : Fin 2048) (f : Fin 5632) :
    V m c main_v0 (ix3 e k f) = m ((c : Thread nD τ).loc main_arg4) (ix3 e k f) := by
  have h : V m c main_v0 = truncf (F := Ideal) .bf16 (m ((c : Thread nD τ).loc main_arg4) : FVec Ideal S8x2048x5632 .f32) Facts₀.bitsLt_bf16_f32 := by
    show StableHlo.after hostOps0 _ (Proc.devRef .tc main_v0) = _
    after_results <;> rfl
  rw [h]
  rfl
theorem V1_at (c : Dev nD) (e : Fin 8) (k : Fin 2048) (f : Fin 5632) :
    V m c main_v1 (ix3 e k f) = m ((c : Thread nD τ).loc main_arg5) (ix3 e k f) := by
  have h : V m c main_v1 = truncf (F := Ideal) .bf16 (m ((c : Thread nD τ).loc main_arg5) : FVec Ideal S8x2048x5632 .f32) Facts₀.bitsLt_bf16_f32 := by
    show StableHlo.after hostOps0 _ (Proc.devRef .tc main_v1) = _
    after_results <;> rfl
  rw [h]
  rfl
theorem V2_at (c : Dev nD) (e : Fin 8) (f : Fin 5632) (k : Fin 2048) :
    V m c main_v2 (ix3 e f k) = m ((c : Thread nD τ).loc main_arg6) (ix3 e f k) := by
  have h : V m c main_v2 = truncf (F := Ideal) .bf16 (m ((c : Thread nD τ).loc main_arg6) : FVec Ideal S8x5632x2048 .f32) Facts₀.bitsLt_bf16_f32 := by
    show StableHlo.after hostOps0 _ (Proc.devRef .tc main_v2) = _
    after_results <;> rfl
  rw [h]
  rfl

/-- The expert of block `b`. -/
def expertOf (b : ℕ) : Fin 8 := ⟨(exps m (ix1 (⟨b % 72, Nat.mod_lt _ (by decide)⟩ : Fin 72))).toNat % 8, Nat.mod_lt _ (by decide)⟩

/-- Column `x` of tile `s` of the inner width. -/
def col (s : ℕ) (x : Fin 512) : Fin 5632 := ⟨(s * 512 + x.val) % 5632, Nat.mod_lt _ (by decide)⟩

variable {m}
variable (hg : Good m)

theorem word_at (i : grid0.Coords) (h) (hn) :
    (tabs m).at 0 (Rect.unit (s := S72) ![(BitVec.ofNat 32 (i 0).val).toNat] S1.size h) hn = exps m (ix1 (⟨(i 0).val, i0_lt i⟩ : Fin 72)) := by
  have h72 := i0_lt i
  refine congrArg (fun x : S72.Idx => (m ((d0 : Thread nD τ).loc main_arg2) x : BitVec 32)) ?_
  funext (a : Fin 1)
  apply Fin.ext
  obtain rfl : a = 0 := Subsingleton.elim (α := Fin 1) a 0
  show (BitVec.ofNat 32 (i 0).val).toNat + 1 * 0 = (i 0).val
  rw [BitVec.toNat_ofNat, Nat.mod_eq_of_lt (by omega)]
  omega

theorem nused_at (h) (hn) : (tabs m).at 1 (Rect.unit (s := S1) ![0] S1.size h) hn = nused m :=
  congrArg (m ((d0 : Thread nD τ).loc main_arg3)) (one_eq _)

theorem tile_word (i : grid0.Coords) (hu : Used (nused m) (i 0).val) :
    (Scalar.select (Scalar.cmpi .slt (BitVec.ofNat 32 (i 0).val) (nused m)) (BitVec.ofNat 32 (i 1).val) 10#32 : BitVec 32).toNat = (i 1).val := by
  have h1 := i1_lt i
  rw [show (Scalar.select (Scalar.cmpi .slt (BitVec.ofNat 32 (i 0).val) (nused m)) (BitVec.ofNat 32 (i 1).val) 10#32 : BitVec 32) = BitVec.ofNat 32 (i 1).val
    from if_pos ((slt_word (nused m) _ (by have := i0_lt i; omega)).mpr hu), BitVec.toNat_ofNat]
  exact Nat.mod_eq_of_lt (by omega)

include hg in
theorem expert_word (t : Fin grid0.N) : (exps m (ix1 (⟨(grid0.coords t 0).val, i0_lt _⟩ : Fin 72))).toNat = (expertOf m (t.val / 11)).val := by
  have ht : t.val < 792 := lt_of_lt_of_eq t.isLt N_0
  have e : (⟨(grid0.coords t 0).val, i0_lt _⟩ : Fin 72) = ⟨t.val / 11 % 72, Nat.mod_lt _ (by decide)⟩ := by
    apply Fin.ext
    show (grid0.coords t 0).val = t.val / 11 % 72
    rw [co0]; omega
  rw [e]
  exact (Nat.mod_eq_of_lt (hg.exps _)).symm

/-- The windows' block indices at a point. -/
def idx0 (t : Fin (cfgA hg).N) : Fin 3 → ℕ := ((cfgA hg).win 0).index t
def idx1 (t : Fin (cfgA hg).N) : Fin 3 → ℕ := ((cfgA hg).win 1).index t
def idx2 (t : Fin (cfgA hg).N) : Fin 3 → ℕ := ((cfgA hg).win 2).index t
def idx3 (t : Fin (cfgA hg).N) : Fin 3 → ℕ := ((cfgA hg).win 3).index t

theorem index0 (t : Fin (cfgA hg).N) (hu : Used (nused m) (t.val / 11)) :
    idx0 hg t 0 = (expertOf m (t.val / 11)).val ∧ idx0 hg t 1 = 0 ∧ idx0 hg t 2 = t.val % 11 := by
  refine ⟨?_, rfl, ?_⟩
  · exact (congrArg BitVec.toNat (word_at (grid0.coords t) _ _)).trans (expert_word hg t)
  · exact (congrArg (fun w : BitVec 32 => (Scalar.select (Scalar.cmpi .slt (BitVec.ofNat 32 (grid0.coords t 0).val) w) (BitVec.ofNat 32 (grid0.coords t 1).val) 10#32 : BitVec 32).toNat)
      (nused_at (Facts₀.inb_S1_S1_0) (Facts₀.numel1_S1))).trans ((tile_word _ (by rw [co0]; exact hu)).trans (co1 t))

theorem index1 (t : Fin (cfgA hg).N) (hu : Used (nused m) (t.val / 11)) :
    idx1 hg t 0 = (expertOf m (t.val / 11)).val ∧ idx1 hg t 1 = 0 ∧ idx1 hg t 2 = t.val % 11 := by
  refine ⟨?_, rfl, ?_⟩
  · exact (congrArg BitVec.toNat (word_at (grid0.coords t) _ _)).trans (expert_word hg t)
  · exact (congrArg (fun w : BitVec 32 => (Scalar.select (Scalar.cmpi .slt (BitVec.ofNat 32 (grid0.coords t 0).val) w) (BitVec.ofNat 32 (grid0.coords t 1).val) 10#32 : BitVec 32).toNat)
      (nused_at (Facts₀.inb_S1_S1_0) (Facts₀.numel1_S1))).trans ((tile_word _ (by rw [co0]; exact hu)).trans (co1 t))

theorem index2 (t : Fin (cfgA hg).N) (hu : Used (nused m) (t.val / 11)) :
    idx2 hg t 0 = (expertOf m (t.val / 11)).val ∧ idx2 hg t 1 = t.val % 11 ∧ idx2 hg t 2 = 0 := by
  refine ⟨?_, ?_, rfl⟩
  · exact (congrArg BitVec.toNat (word_at (grid0.coords t) _ _)).trans (expert_word hg t)
  · exact (congrArg (fun w : BitVec 32 => (Scalar.select (Scalar.cmpi .slt (BitVec.ofNat 32 (grid0.coords t 0).val) w) (BitVec.ofNat 32 (grid0.coords t 1).val) 10#32 : BitVec 32).toNat)
      (nused_at (Facts₀.inb_S1_S1_0) (Facts₀.numel1_S1))).trans ((tile_word _ (by rw [co0]; exact hu)).trans (co1 t))

theorem index3 (t : Fin (cfgA hg).N) :
    idx3 hg t 0 = t.val / 11 ∧ idx3 hg t 1 = 0 ∧ idx3 hg t 2 = 0 := by
  have ht : t.val < 792 := lt_of_lt_of_eq t.isLt (N_A hg)
  refine ⟨?_, rfl, rfl⟩
  show (BitVec.ofNat 32 (grid0.coords t 0).val).toNat = _
  rw [co0, BitVec.toNat_ofNat]
  exact Nat.mod_eq_of_lt (by omega)

theorem blk0_at (c : Dev nD) (t : Fin (cfgA hg).N) (hu : Used (nused m) (t.val / 11)) (k : Fin 2048) (x : Fin 512) :
    blkAt hg c 0 t (ix3 (0 : Fin 1) k x) = m ((c : Thread nD τ).loc main_arg4) (ix3 (expertOf m (t.val / 11)) k (col (t.val % 11) x)) := by
  have hi := index0 hg t hu
  have hx := x.isLt
  have hm := Nat.mod_lt t.val (show 11 > 0 by decide)
  unfold blkAt
  rw [View.read_apply]
  refine Eq.trans ?_ (V0_at m c _ _ _)
  show V m c main_v0 _ = _
  congr 1
  funext a
  apply Fin.ext
  match a with
  | ⟨0, _⟩ => show idx0 hg t 0 * 1 + 1 * 0 = (expertOf m (t.val / 11)).val; omega
  | ⟨1, _⟩ => show idx0 hg t 1 * 2048 + 1 * k.val = k.val; omega
  | ⟨2, _⟩ => show idx0 hg t 2 * 512 + 1 * x.val = (t.val % 11 * 512 + x.val) % 5632; omega

theorem blk1_at (c : Dev nD) (t : Fin (cfgA hg).N) (hu : Used (nused m) (t.val / 11)) (k : Fin 2048) (x : Fin 512) :
    blkAt hg c 1 t (ix3 (0 : Fin 1) k x) = m ((c : Thread nD τ).loc main_arg5) (ix3 (expertOf m (t.val / 11)) k (col (t.val % 11) x)) := by
  have hi := index1 hg t hu
  have hx := x.isLt
  have hm := Nat.mod_lt t.val (show 11 > 0 by decide)
  unfold blkAt
  rw [View.read_apply]
  refine Eq.trans ?_ (V1_at m c _ _ _)
  show V m c main_v1 _ = _
  congr 1
  funext a
  apply Fin.ext
  match a with
  | ⟨0, _⟩ => show idx1 hg t 0 * 1 + 1 * 0 = (expertOf m (t.val / 11)).val; omega
  | ⟨1, _⟩ => show idx1 hg t 1 * 2048 + 1 * k.val = k.val; omega
  | ⟨2, _⟩ => show idx1 hg t 2 * 512 + 1 * x.val = (t.val % 11 * 512 + x.val) % 5632; omega

theorem blk2_at (c : Dev nD) (t : Fin (cfgA hg).N) (hu : Used (nused m) (t.val / 11)) (x : Fin 512) (l : Fin 2048) :
    blkAt hg c 2 t (ix3 (0 : Fin 1) x l) = m ((c : Thread nD τ).loc main_arg6) (ix3 (expertOf m (t.val / 11)) (col (t.val % 11) x) l) := by
  have hi := index2 hg t hu
  have hx := x.isLt
  have hm := Nat.mod_lt t.val (show 11 > 0 by decide)
  unfold blkAt
  rw [View.read_apply]
  refine Eq.trans ?_ (V2_at m c _ _ _)
  show V m c main_v2 _ = _
  congr 1
  funext a
  apply Fin.ext
  match a with
  | ⟨0, _⟩ => show idx2 hg t 0 * 1 + 1 * 0 = (expertOf m (t.val / 11)).val; omega
  | ⟨1, _⟩ => show idx2 hg t 1 * 512 + 1 * x.val = (t.val % 11 * 512 + x.val) % 5632; omega
  | ⟨2, _⟩ => show idx2 hg t 2 * 2048 + 1 * l.val = l.val; omega

/-! ## The sum over the points of a block -/

variable (m) in
/-- Row `r` of block `b`'s tokens. -/
def tokRow (c : Dev nD) (b : ℕ) (r : Fin 512) (k : Fin 2048) : EReal :=
  hid m c (ix3 (TK m b r) (⟨k.val / 128, by omega⟩ : Fin 16) (⟨k.val % 128, by omega⟩ : Fin 128))

variable (m) in
/-- The activation of row `r` of block `b` at inner column `f`. -/
def act (c : Dev nD) (b : ℕ) (r : Fin 512) (f : Fin 5632) : EReal :=
  gated (∑ k : Fin 2048, tokRow m c b r k * (m ((c : Thread nD τ).loc main_arg4) : S8x2048x5632.Idx → EReal) (ix3 (expertOf m b) k f))
    (∑ k : Fin 2048, tokRow m c b r k * (m ((c : Thread nD τ).loc main_arg5) : S8x2048x5632.Idx → EReal) (ix3 (expertOf m b) k f))

variable (m) in
/-- What tile `s` adds at row `r` of block `b`, column `l`. -/
def tile (c : Dev nD) (b : ℕ) (r : Fin 512) (l : Fin 2048) (s : ℕ) : EReal :=
  ∑ x : Fin 512, act m c b r (col s x) * (m ((c : Thread nD τ).loc main_arg6) : S8x5632x2048.Idx → EReal) (ix3 (expertOf m b) (col s x) l)

variable (m) in
/-- The unit's output at row `r` of block `b`, column `l`. -/
def ffn (c : Dev nD) (b : ℕ) (r : Fin 512) (l : Fin 2048) : EReal :=
  ∑ f : Fin 5632, act m c b r f * (m ((c : Thread nD τ).loc main_arg6) : S8x5632x2048.Idx → EReal) (ix3 (expertOf m b) f l)

variable (m) in
theorem tiles_sum (c : Dev nD) (b : ℕ) (r : Fin 512) (l : Fin 2048) : ∑ s ∈ Finset.range 11, tile m c b r l s = ffn m c b r l := by
  unfold ffn
  rw [Fin.sum_univ_tiles 11 512 (by decide), ← Fin.sum_univ_eq_sum_range (fun s => tile m c b r l s) 11]
  refine Finset.sum_congr rfl fun s _ => ?_
  unfold tile
  refine Finset.sum_congr rfl fun k _ => ?_
  have e : col s.val k = ⟨s.val * 512 + k.val, by omega⟩ := Fin.ext (Nat.mod_eq_of_lt (by omega))
  rw [e]

theorem part_eq (c : Dev nD) (b j : ℕ) (hb : b < 72) (hj : j < 11) (hu : Used (nused m) b) (r : Fin 512) (l : Fin 2048) :
    part (Hb (hid m c) (TK m) b) (X6 hg c (b * 11 + j)) (X7 hg c (b * 11 + j)) (X8 hg c (b * 11 + j)) r l = tile m c b r l j := by
  have hv : (pt hg (b * 11 + j)).val = b * 11 + j := by
    show min (b * 11 + j) 791 = b * 11 + j
    omega
  have hd : (pt hg (b * 11 + j)).val / 11 = b := by omega
  have hm : (pt hg (b * 11 + j)).val % 11 = j := by omega
  have hu' : Used (nused m) ((pt hg (b * 11 + j)).val / 11) := by rw [hd]; exact hu
  have e0 := fun k x => blk0_at hg c (pt hg (b * 11 + j)) hu' k x
  have e1 := fun k x => blk1_at hg c (pt hg (b * 11 + j)) hu' k x
  have e2 := fun x l => blk2_at hg c (pt hg (b * 11 + j)) hu' x l
  rw [hd, hm] at e0 e1 e2
  have eh : ∀ k, (Hb (hid m c) (TK m) b : S1x512x2048.Idx → EReal) (ix3 (0 : Fin 1) r k) = tokRow m c b r k := fun k => pay55_at _ r k
  unfold part tile act
  refine Finset.sum_congr rfl fun x _ => ?_
  have s0 : ∑ k : Fin 2048, (Hb (hid m c) (TK m) b : S1x512x2048.Idx → EReal) (ix3 (0 : Fin 1) r k) * (X6 hg c (b * 11 + j) : S1x2048x512.Idx → EReal) (ix3 (0 : Fin 1) k x)
      = ∑ k : Fin 2048, tokRow m c b r k * (m ((c : Thread nD τ).loc main_arg4) : S8x2048x5632.Idx → EReal) (ix3 (expertOf m b) k (col j x)) :=
    Finset.sum_congr rfl fun k _ => by rw [eh]; exact congrArg _ (e0 k x)
  have s1 : ∑ k : Fin 2048, (Hb (hid m c) (TK m) b : S1x512x2048.Idx → EReal) (ix3 (0 : Fin 1) r k) * (X7 hg c (b * 11 + j) : S1x2048x512.Idx → EReal) (ix3 (0 : Fin 1) k x)
      = ∑ k : Fin 2048, tokRow m c b r k * (m ((c : Thread nD τ).loc main_arg5) : S8x2048x5632.Idx → EReal) (ix3 (expertOf m b) k (col j x)) :=
    Finset.sum_congr rfl fun k _ => by rw [eh]; exact congrArg _ (e1 k x)
  refine congrArg₂ (fun a b : EReal => a * b) (congrArg₂ gated s0 s1) (e2 x l)

theorem accB_at (c : Dev nD) (b : ℕ) (hb : b < 72) (hu : Used (nused m) b) (r : Fin 512) (l : Fin 2048) :
    ∀ j : ℕ, j < 10 → accB hg c b (j + 1) (ix2 r l) = ∑ s ∈ Finset.range (j + 1), tile m c b r l s := by
  intro j
  induction j with
  | zero =>
    intro _
    show nextAcc _ _ _ _ _ _ b 0 (ix2 r l) = _
    unfold nextAcc
    rw [if_pos rfl, pay56_at, Finset.sum_range_one]
    exact part_eq hg c b 0 hb (by omega) hu r l
  | succ j ih =>
    intro hj
    show nextAcc _ _ _ _ _ _ b (j + 1) (ix2 r l) = _
    unfold nextAcc
    rw [if_neg (by omega), if_pos hj, pay57_at, ih (by omega), Finset.sum_range_succ _ (j + 1)]
    exact congrArg _ (part_eq hg c b (j + 1) hb (by omega) hu r l)

/-- What a block's last point stores, read at an index. -/
theorem resB_used (c : Dev nD) (b : ℕ) (hb : b < 72) (hu : Used (nused m) b) (r : Fin 512) (a : Fin 16) (z : Fin 128) :
    resB hg c b (ix3 r a z) = ffn m c b r (⟨128 * a.val + z.val, by omega⟩ : Fin 2048) := by
  unfold resB Res
  rw [if_pos hu]
  show k0_pay33 _ _ _ _ _ (ix2 r (⟨128 * a.val + z.val, by omega⟩ : Fin 2048)) = _
  rw [pay33_at, accB_at hg c b hb hu r _ 9 (by omega), part_eq hg c b 10 hb (by omega) hu, ← Finset.sum_range_succ]
  exact tiles_sum m c b r _

theorem resB_unused (c : Dev nD) (b : ℕ) (hu : ¬Used (nused m) b) (r : Fin 512) (a : Fin 16) (z : Fin 128) :
    resB hg c b (ix3 r a z) = (0 : EReal) := by
  unfold resB Res
  rw [if_neg hu]
  exact pay1_at r a z

end Blocks

/-! ## The result array -/

section Result

variable {m : (ℓ : Loc nD τ sig) → Buf (Elt Ideal) ℓ}
variable (hg : Good m)

/-- The whole result: every row from the block it lies in. -/
def result (c : Dev nD) : S36864x16x128.Idx → EReal := fun i =>
  resB hg c ((i 0).val / 512) (ix3 (⟨(i 0).val % 512, Nat.mod_lt _ (by decide)⟩ : Fin 512) (i 1 : Fin 16) (i 2 : Fin 128))

theorem result_at (c : Dev nD) (b : Fin 72) (r : Fin 512) (a : Fin 16) (z : Fin 128) :
    result hg c (ix3 (⟨512 * b.val + r.val, by omega⟩ : Fin 36864) a z) = resB hg c b.val (ix3 r a z) := by
  have hr := r.isLt
  have e1 : (512 * b.val + r.val) / 512 = b.val := by omega
  have e2 : (⟨(512 * b.val + r.val) % 512, Nat.mod_lt _ (by decide)⟩ : Fin 512) = r := Fin.ext (by show (512 * b.val + r.val) % 512 = r.val; omega)
  show resB hg c ((512 * b.val + r.val) / 512) (ix3 (⟨(512 * b.val + r.val) % 512, Nat.mod_lt _ (by decide)⟩ : Fin 512) a z) = _
  rw [e1, e2]

theorem flushed3 (c : Dev nD) (t : Fin (cfgA hg).N) (hf : ((cfgA hg).win 3).flush t = true) :
    (dats hg 0 c).flushed 3 t = (((cfgA hg).win 3).blk t).view.read (Elt Ideal) (result hg c) := by
  have ht : t.val < 792 := lt_of_lt_of_eq t.isLt (N_A hg)
  have hi := index3 hg t
  show ((cfgA hg).win 3).cut (grid0.coords t) ((dats hg 0 c).after 3 t) = _
  show (resB hg c (t.val / 11) : S512x16x128.Idx → EReal) = _
  funext (j : S512x16x128.Idx)
  obtain ⟨r, a, z, rfl⟩ : ∃ (r : Fin 512) (a : Fin 16) (z : Fin 128), j = ix3 r a z :=
    ⟨j 0, j 1, j 2, by funext a; match a with | ⟨0, _⟩ => rfl | ⟨1, _⟩ => rfl | ⟨2, _⟩ => rfl⟩
  refine Eq.trans ?_ (View.read_apply (v := (((cfgA hg).win 3).blk t).view) (Val := Elt Ideal) (result hg c) (ix3 r a z)).symm
  have he : (((cfgA hg).win 3).blk t).view.emb (ix3 r a z) = ix3 (⟨512 * (t.val / 11) + r.val, by omega⟩ : Fin 36864) a z := by
    funext q
    apply Fin.ext
    match q with
    | ⟨0, _⟩ => show idx3 hg t 0 * 512 + 1 * r.val = 512 * (t.val / 11) + r.val; omega
    | ⟨1, _⟩ => show idx3 hg t 1 * 16 + 1 * a.val = a.val; omega
    | ⟨2, _⟩ => show idx3 hg t 2 * 128 + 1 * z.val = z.val; omega
  exact ((congrArg (result hg c) he).trans (result_at hg c (⟨t.val / 11, by omega⟩ : Fin 72) r a z)).symm

theorem final3 (c : Dev nD) : (dats hg 0 c).arrAt 3 (cfgA hg).N = result hg c :=
  (dats hg 0 c).arrAt_eq_of_cover 3 (result hg c) (flushed3 hg c) fun (i : S36864x16x128.Idx) => by
    have hN := N_A hg
    have h0 : (i 0 : Nat) < 36864 := (i 0).isLt
    have h1 : (i 1 : Nat) < 16 := (i 1).isLt
    have h2 : (i 2 : Nat) < 128 := (i 2).isLt
    obtain ⟨t, ht⟩ : ∃ t : Fin (cfgA hg).N, t.val = 11 * ((i 0 : Nat) / 512) + 10 := ⟨⟨11 * ((i 0 : Nat) / 512) + 10, by omega⟩, rfl⟩
    have hi := index3 hg t
    refine ⟨t, (flush3 hg t).trans (decide_eq_true (by omega)), ?_⟩
    show i ∈ ((View.whole main_v3).slice (((cfgA hg).win 3).rect t)).set
    refine (View.set_slice_whole main_v3 (((cfgA hg).win 3).rect t)).symm ▸ (Rect.mem_set_unit.mpr ?_)
    intro a
    match a with
    | ⟨0, _⟩ => show idx3 hg t 0 * 512 ≤ (i 0 : Nat) ∧ (i 0 : Nat) < idx3 hg t 0 * 512 + 512; omega
    | ⟨1, _⟩ => show idx3 hg t 1 * 16 ≤ (i 1 : Nat) ∧ (i 1 : Nat) < idx3 hg t 1 * 16 + 16; omega
    | ⟨2, _⟩ => show idx3 hg t 2 * 128 ≤ (i 2 : Nat) ∧ (i 2 : Nat) < idx3 hg t 2 * 128 + 128; omega

/-! ## The reference's -/

open Cert.Reference4Ideal.Value (whole whole_at core_at rowsOf_at inOf_at outOf_at)

theorem small_word (w : BitVec 32) (n : ℕ) (hn : n ≤ 16384) (h : w.toNat < n) : 0 ≤ w.toInt ∧ min w.toInt.toNat (n - 1) = w.toNat := by
  rw [BitVec.toInt_eq_toNat_cond]
  have : 2 * w.toNat < 2 ^ 32 := by omega
  rw [if_pos this]
  omega

include hg in
theorem tok_ref (b : Fin 72) (r : Fin 512) :
    0 ≤ (tok m (ix1 (⟨512 * b.val + r.val, by omega⟩ : Fin 36864))).toInt
    ∧ (⟨min (tok m (ix1 (⟨512 * b.val + r.val, by omega⟩ : Fin 36864))).toInt.toNat 16383, by omega⟩ : Fin 16384) = TK m b.val r := by
  have hb := b.isLt
  have hr := r.isLt
  have e : (ix1 (⟨512 * b.val + r.val, by omega⟩ : Fin 36864) : S36864.Idx) = slotIx b.val r := by
    funext (a : Fin 1)
    obtain rfl : a = 0 := Subsingleton.elim (α := Fin 1) a 0
    apply Fin.ext
    show 512 * b.val + r.val = (512 * b.val + r.val) % 36864
    omega
  have h := hg.tok (slotIx b.val r)
  obtain ⟨h1, h2⟩ := small_word _ 16384 le_rfl h
  have e' := congrArg (tok m) e
  refine ⟨by rw [e']; exact h1, Fin.ext ?_⟩
  show min (tok m (ix1 (⟨512 * b.val + r.val, _⟩ : Fin 36864))).toInt.toNat 16383 = (tok m (slotIx (min b.val 71) r)).toNat % 16384
  rw [Nat.min_eq_left (by omega : b.val ≤ 71), e']
  omega

include hg in
theorem exp_ref (b : Fin 72) : 0 ≤ (exps m (ix1 b)).toInt
    ∧ (⟨min (exps m (ix1 b)).toInt.toNat 7, by omega⟩ : Fin 8) = expertOf m b.val := by
  have hb := b.isLt
  have e : (⟨b.val % 72, Nat.mod_lt _ (by decide)⟩ : Fin 72) = b := Fin.ext (Nat.mod_eq_of_lt hb)
  have h := hg.exps (ix1 b)
  obtain ⟨h1, h2⟩ := small_word _ 8 (by decide) h
  refine ⟨h1, Fin.ext ?_⟩
  show min (exps m (ix1 b)).toInt.toNat 7 = (exps m (ix1 (⟨b.val % 72, Nat.mod_lt _ (by decide)⟩ : Fin 72))).toNat % 8
  rw [e]
  omega

/-- The reference's result, of the kernel's arguments, is the kernel's. -/
theorem ref_eq : (whole (m ((d0 : Thread nD τ).loc main_arg0)) (tok m) (exps m) (m ((d0 : Thread nD τ).loc main_arg3))
    (m ((d0 : Thread nD τ).loc main_arg4)) (m ((d0 : Thread nD τ).loc main_arg5)) (m ((d0 : Thread nD τ).loc main_arg6)) : S36864x16x128.Idx → EReal) = result hg d0 := by
  funext i
  have h0 : (i 0 : Nat) < 36864 := (i 0).isLt
  obtain ⟨b, r, a, z, hi⟩ : ∃ (b : Fin 72) (r : Fin 512) (a : Fin 16) (z : Fin 128), i = ix3 (⟨512 * b.val + r.val, by have := b.isLt; have := r.isLt; omega⟩ : Fin 36864) a z :=
    ⟨⟨(i 0 : Nat) / 512, by omega⟩, ⟨(i 0 : Nat) % 512, by omega⟩, i 1, i 2, by
      funext a
      match a with
      | ⟨0, _⟩ => apply Fin.ext; show (i 0 : Nat) = 512 * ((i 0 : Nat) / 512) + (i 0 : Nat) % 512; omega
      | ⟨1, _⟩ => rfl
      | ⟨2, _⟩ => rfl⟩
  refine Eq.trans (congrArg (whole _ _ _ _ _ _ _) hi) (Eq.trans ?_ (congrArg (result hg d0) hi.symm))
  rw [result_at]
  refine (whole_at _ _ _ _ _ _ _ b r a z).trans ((core_at _ _ _ _ _ b r _).trans ?_)
  have hn : (m ((d0 : Thread nD τ).loc main_arg3) : S1.Idx → BitVec 32) (ix1 (0 : Fin 1)) = nused m := congrArg (m ((d0 : Thread nD τ).loc main_arg3)) (one_eq _)
  have hw := slt_word (nused m) b.val (by have := b.isLt; omega)
  by_cases hu : Used (nused m) b.val
  · refine (if_pos ?_).trans ?_
    · exact (congrArg (fun w => IntOp.cmpi .slt (BitVec.ofNat 32 b.val) w) hn).trans (hw.mpr hu)
    · rw [resB_used hg d0 b.val b.isLt hu]
      unfold ffn act tokRow
      refine Finset.sum_congr rfl fun f _ => ?_
      have et := tok_ref hg b r
      have ee := exp_ref hg b
      refine congrArg₂ (fun p q : EReal => p * q) (congrArg₂ gated (Finset.sum_congr rfl fun k _ => ?_) (Finset.sum_congr rfl fun k _ => ?_)) ?_
      · rw [rowsOf_at _ _ _ _ _ et.1, inOf_at _ _ _ _ _ _ _ ee.1, et.2, ee.2]
      · rw [rowsOf_at _ _ _ _ _ et.1, inOf_at _ _ _ _ _ _ _ ee.1, et.2, ee.2]
      · rw [outOf_at _ _ _ _ _ _ _ ee.1, ee.2]
  · refine (if_neg ?_).trans ?_
    · exact fun h => hu (hw.mp ((congrArg (fun w => IntOp.cmpi .slt (BitVec.ofNat 32 b.val) w) hn).symm.trans h))
    · rw [resB_unused hg d0 b.val hu]
      show (((0#32 : BitVec 32).toInt : ℝ) : EReal) = 0
      simp

end Result

/-! ## The claim -/

theorem expert_algebraic : Cert.algebraic_Kernel4Ideal_Reference4Ideal (hKernel4Ideal := Cert.Kernel4Ideal.Gen.facts)
    (hReference4Ideal := Cert.Reference4Ideal.Gen.facts) (hPre_tables_in_range := Cert.Pre_tables_in_range.Gen.facts) := by
  intro m ρ m' ρ' hp hm
  have hg := good_of_pre m hp
  refine ⟨result hg, ?_, ?_⟩
  · exact (θ_run defs _ _).mono (fun _ h c => ⟨(h.2 c).trans (final3 hg c), h.1.1 c⟩) (θ_run_and (frame_run hg ρ) (result_run hg ρ))
  · refine (θ_run _ _ _).mono (fun _ h c => ⟨(h c).1.trans ?_, (h c).2⟩) (Cert.Reference4Ideal.Value.run m' ρ')
    obtain ⟨h0, h1, h2, h3, h4, h5, h6⟩ := hm c
    rw [Cert.Reference4Ideal.Value.res_eq, h0, h1, h2, h3, h4, h5, h6]
    obtain rfl : c = d0 := Subsingleton.elim _ _
    exact ref_eq hg

end Cert.Kernel4Ideal.Hand

end
-- ==== Proof.lean ====
/-
  The claims, each by its own proof: the frames of the kernels, of their idealizations and of the references, that the
  idealizations are the kernels' own text, and the value claims (Proof/*Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.KernelIdeal.Value
public import proofs.«01_k».proof.Proof.Gen.ReferenceIdeal.Run
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Reference4Ideal.Run
public import proofs.«01_k».proof.Proof.DenseValue
public import proofs.«01_k».proof.Proof.InProjValue
public import proofs.«01_k».proof.Proof.MergeValue
public import proofs.«01_k».proof.Proof.ExpertValue
public import proofs.«01_k».proof.Proof.Gen.Pre_tables_in_range
public import proofs.«01_k».proof.Proof.ExpertRun
public import Idealize.ShloMosaic.Lib.Quiescent
public import Idealize.ShloMosaic.Adequacy
public import Idealize.ShloMosaic.Init

@[expose] public section

noncomputable section

namespace Cert.Proof

open Idealize.ShloMosaic Idealize.SL.Sem

/-- The reference of the dense call runs and leaves its arguments; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference of the in_proj call runs and leaves its arguments; it declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

/-- The reference of the merge call runs and leaves its arguments; it declares no semaphore. -/
theorem frame_reference3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The reference of the expert call runs and leaves its arguments; it declares no semaphore. -/
theorem frame_reference4 : Cert.quiescent_Reference4Ideal (hReference4Ideal := Cert.Reference4Ideal.Gen.facts) (hPre_tables_in_range := Cert.Pre_tables_in_range.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Pre_tables_in_range.Gen.facts,
    fun m ρ _ => Cert.Kernel.Gen.frame m ρ,
    fun m ρ _ => Cert.KernelIdeal.Gen.frame m ρ,
    frame_reference,
    Cert.Kernel2Ideal.Value.frame_kernel,
    Cert.Kernel2Ideal.Value.frame_ideal,
    frame_reference2,
    fun m ρ _ => Cert.Kernel3.Gen.frame m ρ,
    fun m ρ _ => Cert.Kernel3Ideal.Gen.frame m ρ,
    frame_reference3,
    Cert.Kernel4.Hand.frame_kernel,
    Cert.Kernel4Ideal.Hand.frame_kernel,
    frame_reference4,
    trivial,
    Cert.KernelIdeal.Value.dense_algebraic,
    trivial,
    Cert.Kernel2Ideal.Value.in_proj_algebraic,
    trivial,
    Cert.Kernel3Ideal.Value.merge_algebraic,
    trivial,
    Cert.Kernel4Ideal.Hand.expert_algebraic⟩

end Cert.Proof

end
